-- ==== Defs.lean ====
def Pre_GdnStep (m : (ℓ : Loc Cert.GdnStep.nD Cert.GdnStep.τ Cert.GdnStep.sig) → Buf (Elt Bits) ℓ) : Prop :=
  True

def Pre_GdnStepIdeal (m : (ℓ : Loc Cert.GdnStepIdeal.nD Cert.GdnStepIdeal.τ Cert.GdnStepIdeal.sig) → Buf (Elt Ideal) ℓ) : Prop :=
  True

def Pre_GdnStepRefIdeal (m : (ℓ : Loc Cert.GdnStepRefIdeal.nD Cert.GdnStepRefIdeal.τ Cert.GdnStepRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossRefIdeal (m : (ℓ : Loc Cert.CrossRefIdeal.nD Cert.CrossRefIdeal.τ Cert.CrossRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_SconvStep (m : (ℓ : Loc Cert.SconvStep.nD Cert.SconvStep.τ Cert.SconvStep.sig) → Buf (Elt Bits) ℓ) : Prop :=
  True

def Pre_SconvStepIdeal (m : (ℓ : Loc Cert.SconvStepIdeal.nD Cert.SconvStepIdeal.τ Cert.SconvStepIdeal.sig) → Buf (Elt Ideal) ℓ) : Prop :=
  True

def Pre_SconvStepRefIdeal (m : (ℓ : Loc Cert.SconvStepRefIdeal.nD Cert.SconvStepRefIdeal.τ Cert.SconvStepRefIdeal.sig) → Buf (Elt Ideal) ℓ) : Prop :=
  True

def Pre_GdnPreStep (m : (ℓ : Loc Cert.GdnPreStep.nD Cert.GdnPreStep.τ Cert.GdnPreStep.sig) → Buf (Elt Bits) ℓ) : Prop :=
  True

def Pre_GdnPreStepIdeal (m : (ℓ : Loc Cert.GdnPreStepIdeal.nD Cert.GdnPreStepIdeal.τ Cert.GdnPreStepIdeal.sig) → Buf (Elt Ideal) ℓ) : Prop :=
  True

def Pre_GdnPreStepRefIdeal (m : (ℓ : Loc Cert.GdnPreStepRefIdeal.nD Cert.GdnPreStepRefIdeal.τ Cert.GdnPreStepRefIdeal.sig) → Buf (Elt Ideal) ℓ) : Prop :=
  True

def quiescent_GdnStep [hGdnStep : Cert.GdnStep.Facts] : Prop :=
  ∀ (m : (ℓ : Loc Cert.GdnStep.nD Cert.GdnStep.τ Cert.GdnStep.sig) → Buf (Elt Bits) ℓ) (g : Dev Cert.GdnStep.nD → PrngReg), Pre_GdnStep m →
    θ_run (Cert.GdnStep.defs (F := Bits)) (onTc (τ := Cert.GdnStep.τ) (Cert.GdnStep.main (F := Bits))) ⟨m, fun _ => 0, g⟩ (fun r => (∀ c : Dev Cert.GdnStep.nD,
      r.2.mem ((c.tc : Thread Cert.GdnStep.nD Cert.GdnStep.τ).loc Cert.GdnStep.main_arg0) = m ((c.tc : Thread Cert.GdnStep.nD Cert.GdnStep.τ).loc Cert.GdnStep.main_arg0)
      ∧ r.2.mem ((c.tc : Thread Cert.GdnStep.nD Cert.GdnStep.τ).loc Cert.GdnStep.main_arg1) = m ((c.tc : Thread Cert.GdnStep.nD Cert.GdnStep.τ).loc Cert.GdnStep.main_arg1)
      ∧ r.2.mem ((c.tc : Thread Cert.GdnStep.nD Cert.GdnStep.τ).loc Cert.GdnStep.main_arg2) = m ((c.tc : Thread Cert.GdnStep.nD Cert.GdnStep.τ).loc Cert.GdnStep.main_arg2)
      ∧ r.2.mem ((c.tc : Thread Cert.GdnStep.nD Cert.GdnStep.τ).loc Cert.GdnStep.main_arg3) = m ((c.tc : Thread Cert.GdnStep.nD Cert.GdnStep.τ).loc Cert.GdnStep.main_arg3)
      ∧ r.2.mem ((c.tc : Thread Cert.GdnStep.nD Cert.GdnStep.τ).loc Cert.GdnStep.main_arg4) = m ((c.tc : Thread Cert.GdnStep.nD Cert.GdnStep.τ).loc Cert.GdnStep.main_arg4)
      ∧ r.2.mem ((c.tc : Thread Cert.GdnStep.nD Cert.GdnStep.τ).loc Cert.GdnStep.main_arg5) = m ((c.tc : Thread Cert.GdnStep.nD Cert.GdnStep.τ).loc Cert.GdnStep.main_arg5)
      ∧ r.2.mem ((c.tc : Thread Cert.GdnStep.nD Cert.GdnStep.τ).loc Cert.GdnStep.main_arg6) = m ((c.tc : Thread Cert.GdnStep.nD Cert.GdnStep.τ).loc Cert.GdnStep.main_arg6))
      ∧ r.2.sem = fun _ => 0)

def quiescent_GdnStepIdeal [hGdnStepIdeal : Cert.GdnStepIdeal.Facts] : Prop :=
  ∀ (m : (ℓ : Loc Cert.GdnStepIdeal.nD Cert.GdnStepIdeal.τ Cert.GdnStepIdeal.sig) → Buf (Elt Ideal) ℓ) (g : Dev Cert.GdnStepIdeal.nD → PrngReg), Pre_GdnStepIdeal m →
    θ_run (Cert.GdnStepIdeal.defs (F := Ideal)) (onTc (τ := Cert.GdnStepIdeal.τ) (Cert.GdnStepIdeal.main (F := Ideal))) ⟨m, fun _ => 0, g⟩ (fun r => (∀ c : Dev Cert.GdnStepIdeal.nD,
      r.2.mem ((c.tc : Thread Cert.GdnStepIdeal.nD Cert.GdnStepIdeal.τ).loc Cert.GdnStepIdeal.main_arg0) = m ((c.tc : Thread Cert.GdnStepIdeal.nD Cert.GdnStepIdeal.τ).loc Cert.GdnStepIdeal.main_arg0)
      ∧ r.2.mem ((c.tc : Thread Cert.GdnStepIdeal.nD Cert.GdnStepIdeal.τ).loc Cert.GdnStepIdeal.main_arg1) = m ((c.tc : Thread Cert.GdnStepIdeal.nD Cert.GdnStepIdeal.τ).loc Cert.GdnStepIdeal.main_arg1)
      ∧ r.2.mem ((c.tc : Thread Cert.GdnStepIdeal.nD Cert.GdnStepIdeal.τ).loc Cert.GdnStepIdeal.main_arg2) = m ((c.tc : Thread Cert.GdnStepIdeal.nD Cert.GdnStepIdeal.τ).loc Cert.GdnStepIdeal.main_arg2)
      ∧ r.2.mem ((c.tc : Thread Cert.GdnStepIdeal.nD Cert.GdnStepIdeal.τ).loc Cert.GdnStepIdeal.main_arg3) = m ((c.tc : Thread Cert.GdnStepIdeal.nD Cert.GdnStepIdeal.τ).loc Cert.GdnStepIdeal.main_arg3)
      ∧ r.2.mem ((c.tc : Thread Cert.GdnStepIdeal.nD Cert.GdnStepIdeal.τ).loc Cert.GdnStepIdeal.main_arg4) = m ((c.tc : Thread Cert.GdnStepIdeal.nD Cert.GdnStepIdeal.τ).loc Cert.GdnStepIdeal.main_arg4)
      ∧ r.2.mem ((c.tc : Thread Cert.GdnStepIdeal.nD Cert.GdnStepIdeal.τ).loc Cert.GdnStepIdeal.main_arg5) = m ((c.tc : Thread Cert.GdnStepIdeal.nD Cert.GdnStepIdeal.τ).loc Cert.GdnStepIdeal.main_arg5)
      ∧ r.2.mem ((c.tc : Thread Cert.GdnStepIdeal.nD Cert.GdnStepIdeal.τ).loc Cert.GdnStepIdeal.main_arg6) = m ((c.tc : Thread Cert.GdnStepIdeal.nD Cert.GdnStepIdeal.τ).loc Cert.GdnStepIdeal.main_arg6))
      ∧ r.2.sem = fun _ => 0)

def quiescent_GdnStepRefIdeal [hGdnStepRefIdeal : Cert.GdnStepRefIdeal.Facts] : Prop :=
  ∀ (m : (ℓ : Loc Cert.GdnStepRefIdeal.nD Cert.GdnStepRefIdeal.τ Cert.GdnStepRefIdeal.sig) → Buf (Elt Ideal) ℓ) (g : Dev Cert.GdnStepRefIdeal.nD → PrngReg), Pre_GdnStepRefIdeal m →
    θ_run (Cert.GdnStepRefIdeal.defs (F := Ideal)) (onTc (τ := Cert.GdnStepRefIdeal.τ) (Cert.GdnStepRefIdeal.main (F := Ideal))) ⟨m, fun _ => 0, g⟩ (fun r => (∀ c : Dev Cert.GdnStepRefIdeal.nD,
      r.2.mem ((c.tc : Thread Cert.GdnStepRefIdeal.nD Cert.GdnStepRefIdeal.τ).loc Cert.GdnStepRefIdeal.main_arg0) = m ((c.tc : Thread Cert.GdnStepRefIdeal.nD Cert.GdnStepRefIdeal.τ).loc Cert.GdnStepRefIdeal.main_arg0)
      ∧ r.2.mem ((c.tc : Thread Cert.GdnStepRefIdeal.nD Cert.GdnStepRefIdeal.τ).loc Cert.GdnStepRefIdeal.main_arg1) = m ((c.tc : Thread Cert.GdnStepRefIdeal.nD Cert.GdnStepRefIdeal.τ).loc Cert.GdnStepRefIdeal.main_arg1)
      ∧ r.2.mem ((c.tc : Thread Cert.GdnStepRefIdeal.nD Cert.GdnStepRefIdeal.τ).loc Cert.GdnStepRefIdeal.main_arg2) = m ((c.tc : Thread Cert.GdnStepRefIdeal.nD Cert.GdnStepRefIdeal.τ).loc Cert.GdnStepRefIdeal.main_arg2)
      ∧ r.2.mem ((c.tc : Thread Cert.GdnStepRefIdeal.nD Cert.GdnStepRefIdeal.τ).loc Cert.GdnStepRefIdeal.main_arg3) = m ((c.tc : Thread Cert.GdnStepRefIdeal.nD Cert.GdnStepRefIdeal.τ).loc Cert.GdnStepRefIdeal.main_arg3)
      ∧ r.2.mem ((c.tc : Thread Cert.GdnStepRefIdeal.nD Cert.GdnStepRefIdeal.τ).loc Cert.GdnStepRefIdeal.main_arg4) = m ((c.tc : Thread Cert.GdnStepRefIdeal.nD Cert.GdnStepRefIdeal.τ).loc Cert.GdnStepRefIdeal.main_arg4)
      ∧ r.2.mem ((c.tc : Thread Cert.GdnStepRefIdeal.nD Cert.GdnStepRefIdeal.τ).loc Cert.GdnStepRefIdeal.main_arg5) = m ((c.tc : Thread Cert.GdnStepRefIdeal.nD Cert.GdnStepRefIdeal.τ).loc Cert.GdnStepRefIdeal.main_arg5)
      ∧ r.2.mem ((c.tc : Thread Cert.GdnStepRefIdeal.nD Cert.GdnStepRefIdeal.τ).loc Cert.GdnStepRefIdeal.main_arg6) = m ((c.tc : Thread Cert.GdnStepRefIdeal.nD Cert.GdnStepRefIdeal.τ).loc Cert.GdnStepRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_SconvStep [hSconvStep : Cert.SconvStep.Facts] : Prop :=
  ∀ (m : (ℓ : Loc Cert.SconvStep.nD Cert.SconvStep.τ Cert.SconvStep.sig) → Buf (Elt Bits) ℓ) (g : Dev Cert.SconvStep.nD → PrngReg), Pre_SconvStep m →
    θ_run (Cert.SconvStep.defs (F := Bits)) (onTc (τ := Cert.SconvStep.τ) (Cert.SconvStep.main (F := Bits))) ⟨m, fun _ => 0, g⟩ (fun r => (∀ c : Dev Cert.SconvStep.nD,
      r.2.mem ((c.tc : Thread Cert.SconvStep.nD Cert.SconvStep.τ).loc Cert.SconvStep.main_arg0) = m ((c.tc : Thread Cert.SconvStep.nD Cert.SconvStep.τ).loc Cert.SconvStep.main_arg0)
      ∧ r.2.mem ((c.tc : Thread Cert.SconvStep.nD Cert.SconvStep.τ).loc Cert.SconvStep.main_arg1) = m ((c.tc : Thread Cert.SconvStep.nD Cert.SconvStep.τ).loc Cert.SconvStep.main_arg1)
      ∧ r.2.mem ((c.tc : Thread Cert.SconvStep.nD Cert.SconvStep.τ).loc Cert.SconvStep.main_arg2) = m ((c.tc : Thread Cert.SconvStep.nD Cert.SconvStep.τ).loc Cert.SconvStep.main_arg2))
      ∧ r.2.sem = fun _ => 0)

def quiescent_SconvStepIdeal [hSconvStepIdeal : Cert.SconvStepIdeal.Facts] : Prop :=
  ∀ (m : (ℓ : Loc Cert.SconvStepIdeal.nD Cert.SconvStepIdeal.τ Cert.SconvStepIdeal.sig) → Buf (Elt Ideal) ℓ) (g : Dev Cert.SconvStepIdeal.nD → PrngReg), Pre_SconvStepIdeal m →
    θ_run (Cert.SconvStepIdeal.defs (F := Ideal)) (onTc (τ := Cert.SconvStepIdeal.τ) (Cert.SconvStepIdeal.main (F := Ideal))) ⟨m, fun _ => 0, g⟩ (fun r => (∀ c : Dev Cert.SconvStepIdeal.nD,
      r.2.mem ((c.tc : Thread Cert.SconvStepIdeal.nD Cert.SconvStepIdeal.τ).loc Cert.SconvStepIdeal.main_arg0) = m ((c.tc : Thread Cert.SconvStepIdeal.nD Cert.SconvStepIdeal.τ).loc Cert.SconvStepIdeal.main_arg0)
      ∧ r.2.mem ((c.tc : Thread Cert.SconvStepIdeal.nD Cert.SconvStepIdeal.τ).loc Cert.SconvStepIdeal.main_arg1) = m ((c.tc : Thread Cert.SconvStepIdeal.nD Cert.SconvStepIdeal.τ).loc Cert.SconvStepIdeal.main_arg1)
      ∧ r.2.mem ((c.tc : Thread Cert.SconvStepIdeal.nD Cert.SconvStepIdeal.τ).loc Cert.SconvStepIdeal.main_arg2) = m ((c.tc : Thread Cert.SconvStepIdeal.nD Cert.SconvStepIdeal.τ).loc Cert.SconvStepIdeal.main_arg2))
      ∧ r.2.sem = fun _ => 0)

def quiescent_SconvStepRefIdeal [hSconvStepRefIdeal : Cert.SconvStepRefIdeal.Facts] : Prop :=
  ∀ (m : (ℓ : Loc Cert.SconvStepRefIdeal.nD Cert.SconvStepRefIdeal.τ Cert.SconvStepRefIdeal.sig) → Buf (Elt Ideal) ℓ) (g : Dev Cert.SconvStepRefIdeal.nD → PrngReg), Pre_SconvStepRefIdeal m →
    θ_run (Cert.SconvStepRefIdeal.defs (F := Ideal)) (onTc (τ := Cert.SconvStepRefIdeal.τ) (Cert.SconvStepRefIdeal.main (F := Ideal))) ⟨m, fun _ => 0, g⟩ (fun r => (∀ c : Dev Cert.SconvStepRefIdeal.nD,
      r.2.mem ((c.tc : Thread Cert.SconvStepRefIdeal.nD Cert.SconvStepRefIdeal.τ).loc Cert.SconvStepRefIdeal.main_arg0) = m ((c.tc : Thread Cert.SconvStepRefIdeal.nD Cert.SconvStepRefIdeal.τ).loc Cert.SconvStepRefIdeal.main_arg0)
      ∧ r.2.mem ((c.tc : Thread Cert.SconvStepRefIdeal.nD Cert.SconvStepRefIdeal.τ).loc Cert.SconvStepRefIdeal.main_arg1) = m ((c.tc : Thread Cert.SconvStepRefIdeal.nD Cert.SconvStepRefIdeal.τ).loc Cert.SconvStepRefIdeal.main_arg1)
      ∧ r.2.mem ((c.tc : Thread Cert.SconvStepRefIdeal.nD Cert.SconvStepRefIdeal.τ).loc Cert.SconvStepRefIdeal.main_arg2) = m ((c.tc : Thread Cert.SconvStepRefIdeal.nD Cert.SconvStepRefIdeal.τ).loc Cert.SconvStepRefIdeal.main_arg2))
      ∧ r.2.sem = fun _ => 0)

def quiescent_GdnPreStep [hGdnPreStep : Cert.GdnPreStep.Facts] : Prop :=
  ∀ (m : (ℓ : Loc Cert.GdnPreStep.nD Cert.GdnPreStep.τ Cert.GdnPreStep.sig) → Buf (Elt Bits) ℓ) (g : Dev Cert.GdnPreStep.nD → PrngReg), Pre_GdnPreStep m →
    θ_run (Cert.GdnPreStep.defs (F := Bits)) (onTc (τ := Cert.GdnPreStep.τ) (Cert.GdnPreStep.main (F := Bits))) ⟨m, fun _ => 0, g⟩ (fun r => (∀ c : Dev Cert.GdnPreStep.nD,
      r.2.mem ((c.tc : Thread Cert.GdnPreStep.nD Cert.GdnPreStep.τ).loc Cert.GdnPreStep.main_arg0) = m ((c.tc : Thread Cert.GdnPreStep.nD Cert.GdnPreStep.τ).loc Cert.GdnPreStep.main_arg0)
      ∧ r.2.mem ((c.tc : Thread Cert.GdnPreStep.nD Cert.GdnPreStep.τ).loc Cert.GdnPreStep.main_arg1) = m ((c.tc : Thread Cert.GdnPreStep.nD Cert.GdnPreStep.τ).loc Cert.GdnPreStep.main_arg1)
      ∧ r.2.mem ((c.tc : Thread Cert.GdnPreStep.nD Cert.GdnPreStep.τ).loc Cert.GdnPreStep.main_arg2) = m ((c.tc : Thread Cert.GdnPreStep.nD Cert.GdnPreStep.τ).loc Cert.GdnPreStep.main_arg2))
      ∧ r.2.sem = fun _ => 0)

def quiescent_GdnPreStepIdeal [hGdnPreStepIdeal : Cert.GdnPreStepIdeal.Facts] : Prop :=
  ∀ (m : (ℓ : Loc Cert.GdnPreStepIdeal.nD Cert.GdnPreStepIdeal.τ Cert.GdnPreStepIdeal.sig) → Buf (Elt Ideal) ℓ) (g : Dev Cert.GdnPreStepIdeal.nD → PrngReg), Pre_GdnPreStepIdeal m →
    θ_run (Cert.GdnPreStepIdeal.defs (F := Ideal)) (onTc (τ := Cert.GdnPreStepIdeal.τ) (Cert.GdnPreStepIdeal.main (F := Ideal))) ⟨m, fun _ => 0, g⟩ (fun r => (∀ c : Dev Cert.GdnPreStepIdeal.nD,
      r.2.mem ((c.tc : Thread Cert.GdnPreStepIdeal.nD Cert.GdnPreStepIdeal.τ).loc Cert.GdnPreStepIdeal.main_arg0) = m ((c.tc : Thread Cert.GdnPreStepIdeal.nD Cert.GdnPreStepIdeal.τ).loc Cert.GdnPreStepIdeal.main_arg0)
      ∧ r.2.mem ((c.tc : Thread Cert.GdnPreStepIdeal.nD Cert.GdnPreStepIdeal.τ).loc Cert.GdnPreStepIdeal.main_arg1) = m ((c.tc : Thread Cert.GdnPreStepIdeal.nD Cert.GdnPreStepIdeal.τ).loc Cert.GdnPreStepIdeal.main_arg1)
      ∧ r.2.mem ((c.tc : Thread Cert.GdnPreStepIdeal.nD Cert.GdnPreStepIdeal.τ).loc Cert.GdnPreStepIdeal.main_arg2) = m ((c.tc : Thread Cert.GdnPreStepIdeal.nD Cert.GdnPreStepIdeal.τ).loc Cert.GdnPreStepIdeal.main_arg2))
      ∧ r.2.sem = fun _ => 0)

def quiescent_GdnPreStepRefIdeal [hGdnPreStepRefIdeal : Cert.GdnPreStepRefIdeal.Facts] : Prop :=
  ∀ (m : (ℓ : Loc Cert.GdnPreStepRefIdeal.nD Cert.GdnPreStepRefIdeal.τ Cert.GdnPreStepRefIdeal.sig) → Buf (Elt Ideal) ℓ) (g : Dev Cert.GdnPreStepRefIdeal.nD → PrngReg), Pre_GdnPreStepRefIdeal m →
    θ_run (Cert.GdnPreStepRefIdeal.defs (F := Ideal)) (onTc (τ := Cert.GdnPreStepRefIdeal.τ) (Cert.GdnPreStepRefIdeal.main (F := Ideal))) ⟨m, fun _ => 0, g⟩ (fun r => (∀ c : Dev Cert.GdnPreStepRefIdeal.nD,
      r.2.mem ((c.tc : Thread Cert.GdnPreStepRefIdeal.nD Cert.GdnPreStepRefIdeal.τ).loc Cert.GdnPreStepRefIdeal.main_arg0) = m ((c.tc : Thread Cert.GdnPreStepRefIdeal.nD Cert.GdnPreStepRefIdeal.τ).loc Cert.GdnPreStepRefIdeal.main_arg0)
      ∧ r.2.mem ((c.tc : Thread Cert.GdnPreStepRefIdeal.nD Cert.GdnPreStepRefIdeal.τ).loc Cert.GdnPreStepRefIdeal.main_arg1) = m ((c.tc : Thread Cert.GdnPreStepRefIdeal.nD Cert.GdnPreStepRefIdeal.τ).loc Cert.GdnPreStepRefIdeal.main_arg1)
      ∧ r.2.mem ((c.tc : Thread Cert.GdnPreStepRefIdeal.nD Cert.GdnPreStepRefIdeal.τ).loc Cert.GdnPreStepRefIdeal.main_arg2) = m ((c.tc : Thread Cert.GdnPreStepRefIdeal.nD Cert.GdnPreStepRefIdeal.τ).loc Cert.GdnPreStepRefIdeal.main_arg2))
      ∧ r.2.sem = fun _ => 0)

def preserves_GdnStep_GdnStepIdeal : Prop :=
  True

def algebraic_GdnStepIdeal_GdnStepRefIdeal [hGdnStepIdeal : Cert.GdnStepIdeal.Facts] [hGdnStepRefIdeal : Cert.GdnStepRefIdeal.Facts] : Prop :=
  ∀ (m : (ℓ : Loc Cert.GdnStepIdeal.nD Cert.GdnStepIdeal.τ Cert.GdnStepIdeal.sig) → Buf (Elt Ideal) ℓ) (g : Dev Cert.GdnStepIdeal.nD → PrngReg)
    (m' : (ℓ : Loc Cert.GdnStepRefIdeal.nD Cert.GdnStepRefIdeal.τ Cert.GdnStepRefIdeal.sig) → Buf (Elt Ideal) ℓ) (g' : Dev Cert.GdnStepRefIdeal.nD → PrngReg), Pre_GdnStepIdeal m →
    (∀ c : Dev Cert.GdnStepIdeal.nD,
      m' ((c.tc : Thread Cert.GdnStepRefIdeal.nD Cert.GdnStepRefIdeal.τ).loc Cert.GdnStepRefIdeal.main_arg0) = m ((c.tc : Thread Cert.GdnStepIdeal.nD Cert.GdnStepIdeal.τ).loc Cert.GdnStepIdeal.main_arg0)
      ∧ m' ((c.tc : Thread Cert.GdnStepRefIdeal.nD Cert.GdnStepRefIdeal.τ).loc Cert.GdnStepRefIdeal.main_arg1) = m ((c.tc : Thread Cert.GdnStepIdeal.nD Cert.GdnStepIdeal.τ).loc Cert.GdnStepIdeal.main_arg1)
      ∧ m' ((c.tc : Thread Cert.GdnStepRefIdeal.nD Cert.GdnStepRefIdeal.τ).loc Cert.GdnStepRefIdeal.main_arg2) = m ((c.tc : Thread Cert.GdnStepIdeal.nD Cert.GdnStepIdeal.τ).loc Cert.GdnStepIdeal.main_arg2)
      ∧ m' ((c.tc : Thread Cert.GdnStepRefIdeal.nD Cert.GdnStepRefIdeal.τ).loc Cert.GdnStepRefIdeal.main_arg3) = m ((c.tc : Thread Cert.GdnStepIdeal.nD Cert.GdnStepIdeal.τ).loc Cert.GdnStepIdeal.main_arg3)
      ∧ m' ((c.tc : Thread Cert.GdnStepRefIdeal.nD Cert.GdnStepRefIdeal.τ).loc Cert.GdnStepRefIdeal.main_arg4) = m ((c.tc : Thread Cert.GdnStepIdeal.nD Cert.GdnStepIdeal.τ).loc Cert.GdnStepIdeal.main_arg4)
      ∧ m' ((c.tc : Thread Cert.GdnStepRefIdeal.nD Cert.GdnStepRefIdeal.τ).loc Cert.GdnStepRefIdeal.main_arg5) = m ((c.tc : Thread Cert.GdnStepIdeal.nD Cert.GdnStepIdeal.τ).loc Cert.GdnStepIdeal.main_arg5)
      ∧ m' ((c.tc : Thread Cert.GdnStepRefIdeal.nD Cert.GdnStepRefIdeal.τ).loc Cert.GdnStepRefIdeal.main_arg6) = m ((c.tc : Thread Cert.GdnStepIdeal.nD Cert.GdnStepIdeal.τ).loc Cert.GdnStepIdeal.main_arg6)) →
    ∃ (v0 : (c : Dev Cert.GdnStepIdeal.nD) → Buf (Elt Ideal) ((c.tc : Thread Cert.GdnStepIdeal.nD Cert.GdnStepIdeal.τ).loc Cert.GdnStepIdeal.main_v1_0)) (v1 : (c : Dev Cert.GdnStepIdeal.nD) → Buf (Elt Ideal) ((c.tc : Thread Cert.GdnStepIdeal.nD Cert.GdnStepIdeal.τ).loc Cert.GdnStepIdeal.main_v1_1)),
      θ_run (Cert.GdnStepIdeal.defs (F := Ideal)) (onTc (τ := Cert.GdnStepIdeal.τ) (Cert.GdnStepIdeal.main (F := Ideal))) ⟨m, fun _ => 0, g⟩ (fun r => ∀ c : Dev Cert.GdnStepIdeal.nD,
          r.2.mem ((c.tc : Thread Cert.GdnStepIdeal.nD Cert.GdnStepIdeal.τ).loc Cert.GdnStepIdeal.main_v1_0) = v0 c
          ∧ r.2.mem ((c.tc : Thread Cert.GdnStepIdeal.nD Cert.GdnStepIdeal.τ).loc Cert.GdnStepIdeal.main_v1_1) = v1 c
          ∧ r.2.mem ((c.tc : Thread Cert.GdnStepIdeal.nD Cert.GdnStepIdeal.τ).loc Cert.GdnStepIdeal.main_arg0) = m ((c.tc : Thread Cert.GdnStepIdeal.nD Cert.GdnStepIdeal.τ).loc Cert.GdnStepIdeal.main_arg0)
          ∧ r.2.mem ((c.tc : Thread Cert.GdnStepIdeal.nD Cert.GdnStepIdeal.τ).loc Cert.GdnStepIdeal.main_arg1) = m ((c.tc : Thread Cert.GdnStepIdeal.nD Cert.GdnStepIdeal.τ).loc Cert.GdnStepIdeal.main_arg1)
          ∧ r.2.mem ((c.tc : Thread Cert.GdnStepIdeal.nD Cert.GdnStepIdeal.τ).loc Cert.GdnStepIdeal.main_arg2) = m ((c.tc : Thread Cert.GdnStepIdeal.nD Cert.GdnStepIdeal.τ).loc Cert.GdnStepIdeal.main_arg2)
          ∧ r.2.mem ((c.tc : Thread Cert.GdnStepIdeal.nD Cert.GdnStepIdeal.τ).loc Cert.GdnStepIdeal.main_arg3) = m ((c.tc : Thread Cert.GdnStepIdeal.nD Cert.GdnStepIdeal.τ).loc Cert.GdnStepIdeal.main_arg3)
          ∧ r.2.mem ((c.tc : Thread Cert.GdnStepIdeal.nD Cert.GdnStepIdeal.τ).loc Cert.GdnStepIdeal.main_arg4) = m ((c.tc : Thread Cert.GdnStepIdeal.nD Cert.GdnStepIdeal.τ).loc Cert.GdnStepIdeal.main_arg4)
          ∧ r.2.mem ((c.tc : Thread Cert.GdnStepIdeal.nD Cert.GdnStepIdeal.τ).loc Cert.GdnStepIdeal.main_arg5) = m ((c.tc : Thread Cert.GdnStepIdeal.nD Cert.GdnStepIdeal.τ).loc Cert.GdnStepIdeal.main_arg5)
          ∧ r.2.mem ((c.tc : Thread Cert.GdnStepIdeal.nD Cert.GdnStepIdeal.τ).loc Cert.GdnStepIdeal.main_arg6) = m ((c.tc : Thread Cert.GdnStepIdeal.nD Cert.GdnStepIdeal.τ).loc Cert.GdnStepIdeal.main_arg6))
      ∧ θ_run (Cert.GdnStepRefIdeal.defs (F := Ideal)) (onTc (τ := Cert.GdnStepRefIdeal.τ) (Cert.GdnStepRefIdeal.main (F := Ideal))) ⟨m', fun _ => 0, g'⟩ (fun r => ∀ c : Dev Cert.GdnStepRefIdeal.nD,
          r.2.mem ((c.tc : Thread Cert.GdnStepRefIdeal.nD Cert.GdnStepRefIdeal.τ).loc Cert.GdnStepRefIdeal.main_v56) = v0 c
          ∧ r.2.mem ((c.tc : Thread Cert.GdnStepRefIdeal.nD Cert.GdnStepRefIdeal.τ).loc Cert.GdnStepRefIdeal.main_v38) = v1 c
          ∧ r.2.mem ((c.tc : Thread Cert.GdnStepRefIdeal.nD Cert.GdnStepRefIdeal.τ).loc Cert.GdnStepRefIdeal.main_arg0) = m' ((c.tc : Thread Cert.GdnStepRefIdeal.nD Cert.GdnStepRefIdeal.τ).loc Cert.GdnStepRefIdeal.main_arg0)
          ∧ r.2.mem ((c.tc : Thread Cert.GdnStepRefIdeal.nD Cert.GdnStepRefIdeal.τ).loc Cert.GdnStepRefIdeal.main_arg1) = m' ((c.tc : Thread Cert.GdnStepRefIdeal.nD Cert.GdnStepRefIdeal.τ).loc Cert.GdnStepRefIdeal.main_arg1)
          ∧ r.2.mem ((c.tc : Thread Cert.GdnStepRefIdeal.nD Cert.GdnStepRefIdeal.τ).loc Cert.GdnStepRefIdeal.main_arg2) = m' ((c.tc : Thread Cert.GdnStepRefIdeal.nD Cert.GdnStepRefIdeal.τ).loc Cert.GdnStepRefIdeal.main_arg2)
          ∧ r.2.mem ((c.tc : Thread Cert.GdnStepRefIdeal.nD Cert.GdnStepRefIdeal.τ).loc Cert.GdnStepRefIdeal.main_arg3) = m' ((c.tc : Thread Cert.GdnStepRefIdeal.nD Cert.GdnStepRefIdeal.τ).loc Cert.GdnStepRefIdeal.main_arg3)
          ∧ r.2.mem ((c.tc : Thread Cert.GdnStepRefIdeal.nD Cert.GdnStepRefIdeal.τ).loc Cert.GdnStepRefIdeal.main_arg4) = m' ((c.tc : Thread Cert.GdnStepRefIdeal.nD Cert.GdnStepRefIdeal.τ).loc Cert.GdnStepRefIdeal.main_arg4)
          ∧ r.2.mem ((c.tc : Thread Cert.GdnStepRefIdeal.nD Cert.GdnStepRefIdeal.τ).loc Cert.GdnStepRefIdeal.main_arg5) = m' ((c.tc : Thread Cert.GdnStepRefIdeal.nD Cert.GdnStepRefIdeal.τ).loc Cert.GdnStepRefIdeal.main_arg5)
          ∧ r.2.mem ((c.tc : Thread Cert.GdnStepRefIdeal.nD Cert.GdnStepRefIdeal.τ).loc Cert.GdnStepRefIdeal.main_arg6) = m' ((c.tc : Thread Cert.GdnStepRefIdeal.nD Cert.GdnStepRefIdeal.τ).loc Cert.GdnStepRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v12_0)) (v1 : (c : Dev Cert.InProjIdeal.nD) → Buf (Elt Ideal) ((c.tc : Thread Cert.InProjIdeal.nD Cert.InProjIdeal.τ).loc Cert.InProjIdeal.main_v12_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v12_0) = v0 c
          ∧ r.2.mem ((c.tc : Thread Cert.InProjIdeal.nD Cert.InProjIdeal.τ).loc Cert.InProjIdeal.main_v12_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v18) = v0 c
          ∧ r.2.mem ((c.tc : Thread Cert.InProjRefIdeal.nD Cert.InProjRefIdeal.τ).loc Cert.InProjRefIdeal.main_v22) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v3)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v3) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v14) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v6)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v6) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v39) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7))

def preserves_Cross_CrossIdeal : Prop :=
  True

def algebraic_CrossIdeal_CrossRefIdeal [hCrossIdeal : Cert.CrossIdeal.Facts] [hCrossRefIdeal : Cert.CrossRefIdeal.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)) →
    ∃ (v0 : (c : Dev Cert.CrossIdeal.nD) → Buf (Elt Ideal) ((c.tc : Thread Cert.CrossIdeal.nD Cert.CrossIdeal.τ).loc Cert.CrossIdeal.main_v5)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v5) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v40) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4_0)) (v1 : (c : Dev Cert.FfnIdeal.nD) → Buf (Elt Ideal) ((c.tc : Thread Cert.FfnIdeal.nD Cert.FfnIdeal.τ).loc Cert.FfnIdeal.main_v4_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4_0) = v0 c
          ∧ r.2.mem ((c.tc : Thread Cert.FfnIdeal.nD Cert.FfnIdeal.τ).loc Cert.FfnIdeal.main_v4_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v41) = v0 c
          ∧ r.2.mem ((c.tc : Thread Cert.FfnRefIdeal.nD Cert.FfnRefIdeal.τ).loc Cert.FfnRefIdeal.main_v42) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_SconvStep_SconvStepIdeal : Prop :=
  True

def algebraic_SconvStepIdeal_SconvStepRefIdeal [hSconvStepIdeal : Cert.SconvStepIdeal.Facts] [hSconvStepRefIdeal : Cert.SconvStepRefIdeal.Facts] : Prop :=
  ∀ (m : (ℓ : Loc Cert.SconvStepIdeal.nD Cert.SconvStepIdeal.τ Cert.SconvStepIdeal.sig) → Buf (Elt Ideal) ℓ) (g : Dev Cert.SconvStepIdeal.nD → PrngReg)
    (m' : (ℓ : Loc Cert.SconvStepRefIdeal.nD Cert.SconvStepRefIdeal.τ Cert.SconvStepRefIdeal.sig) → Buf (Elt Ideal) ℓ) (g' : Dev Cert.SconvStepRefIdeal.nD → PrngReg), Pre_SconvStepIdeal m →
    (∀ c : Dev Cert.SconvStepIdeal.nD,
      m' ((c.tc : Thread Cert.SconvStepRefIdeal.nD Cert.SconvStepRefIdeal.τ).loc Cert.SconvStepRefIdeal.main_arg0) = m ((c.tc : Thread Cert.SconvStepIdeal.nD Cert.SconvStepIdeal.τ).loc Cert.SconvStepIdeal.main_arg0)
      ∧ m' ((c.tc : Thread Cert.SconvStepRefIdeal.nD Cert.SconvStepRefIdeal.τ).loc Cert.SconvStepRefIdeal.main_arg1) = m ((c.tc : Thread Cert.SconvStepIdeal.nD Cert.SconvStepIdeal.τ).loc Cert.SconvStepIdeal.main_arg1)
      ∧ m' ((c.tc : Thread Cert.SconvStepRefIdeal.nD Cert.SconvStepRefIdeal.τ).loc Cert.SconvStepRefIdeal.main_arg2) = m ((c.tc : Thread Cert.SconvStepIdeal.nD Cert.SconvStepIdeal.τ).loc Cert.SconvStepIdeal.main_arg2)) →
    ∃ (v0 : (c : Dev Cert.SconvStepIdeal.nD) → Buf (Elt Ideal) ((c.tc : Thread Cert.SconvStepIdeal.nD Cert.SconvStepIdeal.τ).loc Cert.SconvStepIdeal.main_v0_0)) (v1 : (c : Dev Cert.SconvStepIdeal.nD) → Buf (Elt Ideal) ((c.tc : Thread Cert.SconvStepIdeal.nD Cert.SconvStepIdeal.τ).loc Cert.SconvStepIdeal.main_v0_1)),
      θ_run (Cert.SconvStepIdeal.defs (F := Ideal)) (onTc (τ := Cert.SconvStepIdeal.τ) (Cert.SconvStepIdeal.main (F := Ideal))) ⟨m, fun _ => 0, g⟩ (fun r => ∀ c : Dev Cert.SconvStepIdeal.nD,
          r.2.mem ((c.tc : Thread Cert.SconvStepIdeal.nD Cert.SconvStepIdeal.τ).loc Cert.SconvStepIdeal.main_v0_0) = v0 c
          ∧ r.2.mem ((c.tc : Thread Cert.SconvStepIdeal.nD Cert.SconvStepIdeal.τ).loc Cert.SconvStepIdeal.main_v0_1) = v1 c
          ∧ r.2.mem ((c.tc : Thread Cert.SconvStepIdeal.nD Cert.SconvStepIdeal.τ).loc Cert.SconvStepIdeal.main_arg0) = m ((c.tc : Thread Cert.SconvStepIdeal.nD Cert.SconvStepIdeal.τ).loc Cert.SconvStepIdeal.main_arg0)
          ∧ r.2.mem ((c.tc : Thread Cert.SconvStepIdeal.nD Cert.SconvStepIdeal.τ).loc Cert.SconvStepIdeal.main_arg1) = m ((c.tc : Thread Cert.SconvStepIdeal.nD Cert.SconvStepIdeal.τ).loc Cert.SconvStepIdeal.main_arg1)
          ∧ r.2.mem ((c.tc : Thread Cert.SconvStepIdeal.nD Cert.SconvStepIdeal.τ).loc Cert.SconvStepIdeal.main_arg2) = m ((c.tc : Thread Cert.SconvStepIdeal.nD Cert.SconvStepIdeal.τ).loc Cert.SconvStepIdeal.main_arg2))
      ∧ θ_run (Cert.SconvStepRefIdeal.defs (F := Ideal)) (onTc (τ := Cert.SconvStepRefIdeal.τ) (Cert.SconvStepRefIdeal.main (F := Ideal))) ⟨m', fun _ => 0, g'⟩ (fun r => ∀ c : Dev Cert.SconvStepRefIdeal.nD,
          r.2.mem ((c.tc : Thread Cert.SconvStepRefIdeal.nD Cert.SconvStepRefIdeal.τ).loc Cert.SconvStepRefIdeal.main_v25) = v0 c
          ∧ r.2.mem ((c.tc : Thread Cert.SconvStepRefIdeal.nD Cert.SconvStepRefIdeal.τ).loc Cert.SconvStepRefIdeal.main_v26) = v1 c
          ∧ r.2.mem ((c.tc : Thread Cert.SconvStepRefIdeal.nD Cert.SconvStepRefIdeal.τ).loc Cert.SconvStepRefIdeal.main_arg0) = m' ((c.tc : Thread Cert.SconvStepRefIdeal.nD Cert.SconvStepRefIdeal.τ).loc Cert.SconvStepRefIdeal.main_arg0)
          ∧ r.2.mem ((c.tc : Thread Cert.SconvStepRefIdeal.nD Cert.SconvStepRefIdeal.τ).loc Cert.SconvStepRefIdeal.main_arg1) = m' ((c.tc : Thread Cert.SconvStepRefIdeal.nD Cert.SconvStepRefIdeal.τ).loc Cert.SconvStepRefIdeal.main_arg1)
          ∧ r.2.mem ((c.tc : Thread Cert.SconvStepRefIdeal.nD Cert.SconvStepRefIdeal.τ).loc Cert.SconvStepRefIdeal.main_arg2) = m' ((c.tc : Thread Cert.SconvStepRefIdeal.nD Cert.SconvStepRefIdeal.τ).loc Cert.SconvStepRefIdeal.main_arg2))

def preserves_GdnPreStep_GdnPreStepIdeal : Prop :=
  True

def algebraic_GdnPreStepIdeal_GdnPreStepRefIdeal [hGdnPreStepIdeal : Cert.GdnPreStepIdeal.Facts] [hGdnPreStepRefIdeal : Cert.GdnPreStepRefIdeal.Facts] : Prop :=
  ∀ (m : (ℓ : Loc Cert.GdnPreStepIdeal.nD Cert.GdnPreStepIdeal.τ Cert.GdnPreStepIdeal.sig) → Buf (Elt Ideal) ℓ) (g : Dev Cert.GdnPreStepIdeal.nD → PrngReg)
    (m' : (ℓ : Loc Cert.GdnPreStepRefIdeal.nD Cert.GdnPreStepRefIdeal.τ Cert.GdnPreStepRefIdeal.sig) → Buf (Elt Ideal) ℓ) (g' : Dev Cert.GdnPreStepRefIdeal.nD → PrngReg), Pre_GdnPreStepIdeal m →
    (∀ c : Dev Cert.GdnPreStepIdeal.nD,
      m' ((c.tc : Thread Cert.GdnPreStepRefIdeal.nD Cert.GdnPreStepRefIdeal.τ).loc Cert.GdnPreStepRefIdeal.main_arg0) = m ((c.tc : Thread Cert.GdnPreStepIdeal.nD Cert.GdnPreStepIdeal.τ).loc Cert.GdnPreStepIdeal.main_arg0)
      ∧ m' ((c.tc : Thread Cert.GdnPreStepRefIdeal.nD Cert.GdnPreStepRefIdeal.τ).loc Cert.GdnPreStepRefIdeal.main_arg1) = m ((c.tc : Thread Cert.GdnPreStepIdeal.nD Cert.GdnPreStepIdeal.τ).loc Cert.GdnPreStepIdeal.main_arg1)
      ∧ m' ((c.tc : Thread Cert.GdnPreStepRefIdeal.nD Cert.GdnPreStepRefIdeal.τ).loc Cert.GdnPreStepRefIdeal.main_arg2) = m ((c.tc : Thread Cert.GdnPreStepIdeal.nD Cert.GdnPreStepIdeal.τ).loc Cert.GdnPreStepIdeal.main_arg2)) →
    ∃ (v0 : (c : Dev Cert.GdnPreStepIdeal.nD) → Buf (Elt Ideal) ((c.tc : Thread Cert.GdnPreStepIdeal.nD Cert.GdnPreStepIdeal.τ).loc Cert.GdnPreStepIdeal.main_v0_0)) (v1 : (c : Dev Cert.GdnPreStepIdeal.nD) → Buf (Elt Ideal) ((c.tc : Thread Cert.GdnPreStepIdeal.nD Cert.GdnPreStepIdeal.τ).loc Cert.GdnPreStepIdeal.main_v0_1)) (v2 : (c : Dev Cert.GdnPreStepIdeal.nD) → Buf (Elt Ideal) ((c.tc : Thread Cert.GdnPreStepIdeal.nD Cert.GdnPreStepIdeal.τ).loc Cert.GdnPreStepIdeal.main_v0_2)) (v3 : (c : Dev Cert.GdnPreStepIdeal.nD) → Buf (Elt Ideal) ((c.tc : Thread Cert.GdnPreStepIdeal.nD Cert.GdnPreStepIdeal.τ).loc Cert.GdnPreStepIdeal.main_v0_3)),
      θ_run (Cert.GdnPreStepIdeal.defs (F := Ideal)) (onTc (τ := Cert.GdnPreStepIdeal.τ) (Cert.GdnPreStepIdeal.main (F := Ideal))) ⟨m, fun _ => 0, g⟩ (fun r => ∀ c : Dev Cert.GdnPreStepIdeal.nD,
          r.2.mem ((c.tc : Thread Cert.GdnPreStepIdeal.nD Cert.GdnPreStepIdeal.τ).loc Cert.GdnPreStepIdeal.main_v0_0) = v0 c
          ∧ r.2.mem ((c.tc : Thread Cert.GdnPreStepIdeal.nD Cert.GdnPreStepIdeal.τ).loc Cert.GdnPreStepIdeal.main_v0_1) = v1 c
          ∧ r.2.mem ((c.tc : Thread Cert.GdnPreStepIdeal.nD Cert.GdnPreStepIdeal.τ).loc Cert.GdnPreStepIdeal.main_v0_2) = v2 c
          ∧ r.2.mem ((c.tc : Thread Cert.GdnPreStepIdeal.nD Cert.GdnPreStepIdeal.τ).loc Cert.GdnPreStepIdeal.main_v0_3) = v3 c
          ∧ r.2.mem ((c.tc : Thread Cert.GdnPreStepIdeal.nD Cert.GdnPreStepIdeal.τ).loc Cert.GdnPreStepIdeal.main_arg0) = m ((c.tc : Thread Cert.GdnPreStepIdeal.nD Cert.GdnPreStepIdeal.τ).loc Cert.GdnPreStepIdeal.main_arg0)
          ∧ r.2.mem ((c.tc : Thread Cert.GdnPreStepIdeal.nD Cert.GdnPreStepIdeal.τ).loc Cert.GdnPreStepIdeal.main_arg1) = m ((c.tc : Thread Cert.GdnPreStepIdeal.nD Cert.GdnPreStepIdeal.τ).loc Cert.GdnPreStepIdeal.main_arg1)
          ∧ r.2.mem ((c.tc : Thread Cert.GdnPreStepIdeal.nD Cert.GdnPreStepIdeal.τ).loc Cert.GdnPreStepIdeal.main_arg2) = m ((c.tc : Thread Cert.GdnPreStepIdeal.nD Cert.GdnPreStepIdeal.τ).loc Cert.GdnPreStepIdeal.main_arg2))
      ∧ θ_run (Cert.GdnPreStepRefIdeal.defs (F := Ideal)) (onTc (τ := Cert.GdnPreStepRefIdeal.τ) (Cert.GdnPreStepRefIdeal.main (F := Ideal))) ⟨m', fun _ => 0, g'⟩ (fun r => ∀ c : Dev Cert.GdnPreStepRefIdeal.nD,
          r.2.mem ((c.tc : Thread Cert.GdnPreStepRefIdeal.nD Cert.GdnPreStepRefIdeal.τ).loc Cert.GdnPreStepRefIdeal.main_v52) = v0 c
          ∧ r.2.mem ((c.tc : Thread Cert.GdnPreStepRefIdeal.nD Cert.GdnPreStepRefIdeal.τ).loc Cert.GdnPreStepRefIdeal.main_v53) = v1 c
          ∧ r.2.mem ((c.tc : Thread Cert.GdnPreStepRefIdeal.nD Cert.GdnPreStepRefIdeal.τ).loc Cert.GdnPreStepRefIdeal.main_v54) = v2 c
          ∧ r.2.mem ((c.tc : Thread Cert.GdnPreStepRefIdeal.nD Cert.GdnPreStepRefIdeal.τ).loc Cert.GdnPreStepRefIdeal.main_v55) = v3 c
          ∧ r.2.mem ((c.tc : Thread Cert.GdnPreStepRefIdeal.nD Cert.GdnPreStepRefIdeal.τ).loc Cert.GdnPreStepRefIdeal.main_arg0) = m' ((c.tc : Thread Cert.GdnPreStepRefIdeal.nD Cert.GdnPreStepRefIdeal.τ).loc Cert.GdnPreStepRefIdeal.main_arg0)
          ∧ r.2.mem ((c.tc : Thread Cert.GdnPreStepRefIdeal.nD Cert.GdnPreStepRefIdeal.τ).loc Cert.GdnPreStepRefIdeal.main_arg1) = m' ((c.tc : Thread Cert.GdnPreStepRefIdeal.nD Cert.GdnPreStepRefIdeal.τ).loc Cert.GdnPreStepRefIdeal.main_arg1)
          ∧ r.2.mem ((c.tc : Thread Cert.GdnPreStepRefIdeal.nD Cert.GdnPreStepRefIdeal.τ).loc Cert.GdnPreStepRefIdeal.main_arg2) = m' ((c.tc : Thread Cert.GdnPreStepRefIdeal.nD Cert.GdnPreStepRefIdeal.τ).loc Cert.GdnPreStepRefIdeal.main_arg2))

def Claim : Prop :=
  ∃ (hGdnStep : Cert.GdnStep.Facts) (hGdnStepIdeal : Cert.GdnStepIdeal.Facts) (hGdnStepRefIdeal : Cert.GdnStepRefIdeal.Facts) (hInProj : Cert.InProj.Facts) (hInProjIdeal : Cert.InProjIdeal.Facts) (hInProjRefIdeal : Cert.InProjRefIdeal.Facts) (hMemKv : Cert.MemKv.Facts) (hMemKvIdeal : Cert.MemKvIdeal.Facts) (hMemKvRefIdeal : Cert.MemKvRefIdeal.Facts) (hMerge : Cert.Merge.Facts) (hMergeIdeal : Cert.MergeIdeal.Facts) (hMergeRefIdeal : Cert.MergeRefIdeal.Facts) (hCross : Cert.Cross.Facts) (hCrossIdeal : Cert.CrossIdeal.Facts) (hCrossRefIdeal : Cert.CrossRefIdeal.Facts) (hFfn : Cert.Ffn.Facts) (hFfnIdeal : Cert.FfnIdeal.Facts) (hFfnRefIdeal : Cert.FfnRefIdeal.Facts) (hFinalNorm : Cert.FinalNorm.Facts) (hFinalNormIdeal : Cert.FinalNormIdeal.Facts) (hFinalNormRefIdeal : Cert.FinalNormRefIdeal.Facts) (hSconvStep : Cert.SconvStep.Facts) (hSconvStepIdeal : Cert.SconvStepIdeal.Facts) (hSconvStepRefIdeal : Cert.SconvStepRefIdeal.Facts) (hGdnPreStep : Cert.GdnPreStep.Facts) (hGdnPreStepIdeal : Cert.GdnPreStepIdeal.Facts) (hGdnPreStepRefIdeal : Cert.GdnPreStepRefIdeal.Facts),
    quiescent_GdnStep (hGdnStep := hGdnStep)
    ∧ quiescent_GdnStepIdeal (hGdnStepIdeal := hGdnStepIdeal)
    ∧ quiescent_GdnStepRefIdeal (hGdnStepRefIdeal := hGdnStepRefIdeal)
    ∧ quiescent_InProj (hInProj := hInProj)
    ∧ quiescent_InProjIdeal (hInProjIdeal := hInProjIdeal)
    ∧ quiescent_InProjRefIdeal (hInProjRefIdeal := hInProjRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_Merge (hMerge := hMerge)
    ∧ quiescent_MergeIdeal (hMergeIdeal := hMergeIdeal)
    ∧ quiescent_MergeRefIdeal (hMergeRefIdeal := hMergeRefIdeal)
    ∧ quiescent_Cross (hCross := hCross)
    ∧ quiescent_CrossIdeal (hCrossIdeal := hCrossIdeal)
    ∧ quiescent_CrossRefIdeal (hCrossRefIdeal := hCrossRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_SconvStep (hSconvStep := hSconvStep)
    ∧ quiescent_SconvStepIdeal (hSconvStepIdeal := hSconvStepIdeal)
    ∧ quiescent_SconvStepRefIdeal (hSconvStepRefIdeal := hSconvStepRefIdeal)
    ∧ quiescent_GdnPreStep (hGdnPreStep := hGdnPreStep)
    ∧ quiescent_GdnPreStepIdeal (hGdnPreStepIdeal := hGdnPreStepIdeal)
    ∧ quiescent_GdnPreStepRefIdeal (hGdnPreStepRefIdeal := hGdnPreStepRefIdeal)
    ∧ preserves_GdnStep_GdnStepIdeal
    ∧ algebraic_GdnStepIdeal_GdnStepRefIdeal (hGdnStepIdeal := hGdnStepIdeal) (hGdnStepRefIdeal := hGdnStepRefIdeal)
    ∧ preserves_InProj_InProjIdeal
    ∧ algebraic_InProjIdeal_InProjRefIdeal (hInProjIdeal := hInProjIdeal) (hInProjRefIdeal := hInProjRefIdeal)
    ∧ preserves_MemKv_MemKvIdeal
    ∧ algebraic_MemKvIdeal_MemKvRefIdeal (hMemKvIdeal := hMemKvIdeal) (hMemKvRefIdeal := hMemKvRefIdeal)
    ∧ preserves_Merge_MergeIdeal
    ∧ algebraic_MergeIdeal_MergeRefIdeal (hMergeIdeal := hMergeIdeal) (hMergeRefIdeal := hMergeRefIdeal)
    ∧ preserves_Cross_CrossIdeal
    ∧ algebraic_CrossIdeal_CrossRefIdeal (hCrossIdeal := hCrossIdeal) (hCrossRefIdeal := hCrossRefIdeal)
    ∧ preserves_Ffn_FfnIdeal
    ∧ algebraic_FfnIdeal_FfnRefIdeal (hFfnIdeal := hFfnIdeal) (hFfnRefIdeal := hFfnRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_SconvStep_SconvStepIdeal
    ∧ algebraic_SconvStepIdeal_SconvStepRefIdeal (hSconvStepIdeal := hSconvStepIdeal) (hSconvStepRefIdeal := hSconvStepRefIdeal)
    ∧ preserves_GdnPreStep_GdnPreStepIdeal
    ∧ algebraic_GdnPreStepIdeal_GdnPreStepRefIdeal (hGdnPreStepIdeal := hGdnPreStepIdeal) (hGdnPreStepRefIdeal := hGdnPreStepRefIdeal)
-- ==== GdnStep.lean ====
abbrev S32x1x512 : Shape := ⟨3, ![32, 1, 512]⟩
abbrev S32x1x128 : Shape := ⟨3, ![32, 1, 128]⟩
abbrev S32x1x10240 : Shape := ⟨3, ![32, 1, 10240]⟩
abbrev S128 : Shape := ⟨1, ![128]⟩
abbrev S32x4x128x128 : Shape := ⟨4, ![32, 4, 128, 128]⟩
abbrev S1x128 : Shape := ⟨2, ![1, 128]⟩
abbrev S1x1x512 : Shape := ⟨3, ![1, 1, 512]⟩
abbrev S1x1x128 : Shape := ⟨3, ![1, 1, 128]⟩
abbrev S1x4x128x128 : Shape := ⟨4, ![1, 4, 128, 128]⟩
abbrev S8x128 : Shape := ⟨2, ![8, 128]⟩
abbrev S128x128 : Shape := ⟨2, ![128, 128]⟩
abbrev S1x1 : Shape := ⟨2, ![1, 1]⟩
abbrev S1x1x128x128 : Shape := ⟨4, ![1, 1, 128, 128]⟩
abbrev S1 : Shape := ⟨1, ![1]⟩

abbrev nBuf : Space → Nat
  | .hbm => 10
  | .vmem => 17
  | .smem => 0
  | _ => 0

abbrev bufTy : (tb : Table) → Fin (tcTables nBuf tb) → BufTy
  | .hbm, ⟨0, _⟩ => ⟨S32x1x512, .f32⟩
  | .hbm, ⟨1, _⟩ => ⟨S32x1x512, .f32⟩
  | .hbm, ⟨2, _⟩ => ⟨S32x1x512, .f32⟩
  | .hbm, ⟨3, _⟩ => ⟨S32x1x128, .f32⟩
  | .hbm, ⟨4, _⟩ => ⟨S32x1x10240, .f32⟩
  | .hbm, ⟨5, _⟩ => ⟨S128, .f32⟩
  | .hbm, ⟨6, _⟩ => ⟨S32x4x128x128, .f32⟩
  | .hbm, ⟨7, _⟩ => ⟨S1x128, .f32⟩
  | .hbm, ⟨8, _⟩ => ⟨S32x1x512, .f32⟩
  | .hbm, ⟨9, _⟩ => ⟨S32x4x128x128, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x1x128, .f32⟩
  | .local _ .vmem, ⟨7, _⟩ => ⟨S1x1x128, .f32⟩
  | .local _ .vmem, ⟨8, _⟩ => ⟨S1x1x512, .f32⟩
  | .local _ .vmem, ⟨9, _⟩ => ⟨S1x1x512, .f32⟩
  | .local _ .vmem, ⟨10, _⟩ => ⟨S1x128, .f32⟩
  | .local _ .vmem, ⟨11, _⟩ => ⟨S1x4x128x128, .f32⟩
  | .local _ .vmem, ⟨12, _⟩ => ⟨S1x4x128x128, .f32⟩
  | .local _ .vmem, ⟨13, _⟩ => ⟨S1x1x512, .f32⟩
  | .local _ .vmem, ⟨14, _⟩ => ⟨S1x1x512, .f32⟩
  | .local _ .vmem, ⟨15, _⟩ => ⟨S1x4x128x128, .f32⟩
  | .local _ .vmem, ⟨16, _⟩ => ⟨S1x4x128x128, .f32⟩
  | _, _ => ⟨S32x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c6_i32 : BitVec 32 := 6#32
  let c0_i32_0 : BitVec 32 := 0#32
  ![arg0.toNat, c0_i32.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GdnStepRefIdeal.lean ====
abbrev S32x1x512 : Shape := ⟨3, ![32, 1, 512]⟩
abbrev S32x1x128 : Shape := ⟨3, ![32, 1, 128]⟩
abbrev S32x1x10240 : Shape := ⟨3, ![32, 1, 10240]⟩
abbrev S128 : Shape := ⟨1, ![128]⟩
abbrev S32x4x128x128 : Shape := ⟨4, ![32, 4, 128, 128]⟩
abbrev S32x4x128 : Shape := ⟨3, ![32, 4, 128]⟩
abbrev S32x1x4 : Shape := ⟨3, ![32, 1, 4]⟩
abbrev S32x4 : Shape := ⟨2, ![32, 4]⟩
abbrev S32x4x1 : Shape := ⟨3, ![32, 4, 1]⟩
abbrev S32x4x1x1 : Shape := ⟨4, ![32, 4, 1, 1]⟩
abbrev S32x4x128x1 : Shape := ⟨4, ![32, 4, 128, 1]⟩
abbrev S32x4x1x128 : Shape := ⟨4, ![32, 4, 1, 128]⟩
abbrev S_ : Shape := ⟨0, ![]⟩
abbrev S1x1x128 : Shape := ⟨3, ![1, 1, 128]⟩

abbrev nBuf : Space → Nat
  | .hbm => 75
  | .vmem => 0
  | .smem => 0
  | _ => 0

abbrev bufTy : (tb : Table) → Fin (tcTables nBuf tb) → BufTy
  | .hbm, ⟨0, _⟩ => ⟨S32x1x512, .f32⟩
  | .hbm, ⟨1, _⟩ => ⟨S32x1x512, .f32⟩
  | .hbm, ⟨2, _⟩ => ⟨S32x1x512, .f32⟩
  | .hbm, ⟨3, _⟩ => ⟨S32x1x128, .f32⟩
  | .hbm, ⟨4, _⟩ => ⟨S32x1x10240, .f32⟩
  | .hbm, ⟨5, _⟩ => ⟨S128, .f32⟩
  | .hbm, ⟨6, _⟩ => ⟨S32x4x128x128, .f32⟩
  | .hbm, ⟨7, _⟩ => ⟨S32x4x128, .f32⟩
  | .hbm, ⟨8, _⟩ => ⟨S32x4x128, .f32⟩
  | .hbm, ⟨9, _⟩ => ⟨S32x4x128, .f32⟩
  | .hbm, ⟨10, _⟩ => ⟨S32x1x4, .f32⟩
  | .hbm, ⟨11, _⟩ => ⟨S32x4, .f32⟩
  | .hbm, ⟨12, _⟩ => ⟨S32x1x4, .f32⟩
  | .hbm, ⟨13, _⟩ => ⟨S32x4, .f32⟩
  | .hbm, ⟨14, _⟩ => ⟨S32x4x1, .f32⟩
  | .hbm, ⟨15, _⟩ => ⟨S32x4x128, .f32⟩
  | .hbm, ⟨16, _⟩ => ⟨S32x4x128, .f32⟩
  | .hbm, ⟨17, _⟩ => ⟨S32x4x1, .f32⟩
  | .hbm, ⟨18, _⟩ => ⟨S32x4x128, .f32⟩
  | .hbm, ⟨19, _⟩ => ⟨S32x4x128, .f32⟩
  | .hbm, ⟨20, _⟩ => ⟨S32x4, .f32⟩
  | .hbm, ⟨21, _⟩ => ⟨S32x4x1, .f32⟩
  | .hbm, ⟨22, _⟩ => ⟨S32x4x128, .f32⟩
  | .hbm, ⟨23, _⟩ => ⟨S32x4x128, .f32⟩
  | .hbm, ⟨24, _⟩ => ⟨S32x4, .f32⟩
  | .hbm, ⟨25, _⟩ => ⟨S32x4, .f32⟩
  | .hbm, ⟨26, _⟩ => ⟨S32x4x1, .f32⟩
  | .hbm, ⟨27, _⟩ => ⟨S32x4x128, .f32⟩
  | .hbm, ⟨28, _⟩ => ⟨S32x4x128, .f32⟩
  | .hbm, ⟨29, _⟩ => ⟨S32x4x128, .f32⟩
  | .hbm, ⟨30, _⟩ => ⟨S32x4x128, .f32⟩
  | .hbm, ⟨31, _⟩ => ⟨S32x4x128, .f32⟩
  | .hbm, ⟨32, _⟩ => ⟨S32x4x1, .f32⟩
  | .hbm, ⟨33, _⟩ => ⟨S32x4x128, .f32⟩
  | .hbm, ⟨34, _⟩ => ⟨S32x4x128, .f32⟩
  | .hbm, ⟨35, _⟩ => ⟨S32x4x128, .f32⟩
  | .hbm, ⟨36, _⟩ => ⟨S32x4, .f32⟩
  | .hbm, ⟨37, _⟩ => ⟨S32x4x1x1, .f32⟩
  | .hbm, ⟨38, _⟩ => ⟨S32x4x128x128, .f32⟩
  | .hbm, ⟨39, _⟩ => ⟨S32x4x128x128, .f32⟩
  | .hbm, ⟨40, _⟩ => ⟨S32x4x128x1, .f32⟩
  | .hbm, ⟨41, _⟩ => ⟨S32x4x1x128, .f32⟩
  | .hbm, ⟨42, _⟩ => ⟨S32x4x128x128, .f32⟩
  | .hbm, ⟨43, _⟩ => ⟨S32x4x128x128, .f32⟩
  | .hbm, ⟨44, _⟩ => ⟨S32x4x128x128, .f32⟩
  | .hbm, ⟨45, _⟩ => ⟨S32x4x128x128, .f32⟩
  | .hbm, ⟨46, _⟩ => ⟨S32x1x512, .f32⟩
  | .hbm, ⟨47, _⟩ => ⟨S32x4x128, .f32⟩
  | .hbm, ⟨48, _⟩ => ⟨S32x4x128, .f32⟩
  | .hbm, ⟨49, _⟩ => ⟨S_, .f32⟩
  | .hbm, ⟨50, _⟩ => ⟨S32x4, .f32⟩
  | .hbm, ⟨51, _⟩ => ⟨S32x4x1, .f32⟩
  | .hbm, ⟨52, _⟩ => ⟨S_, .f32⟩
  | .hbm, ⟨53, _⟩ => ⟨S32x4x1, .f32⟩
  | .hbm, ⟨54, _⟩ => ⟨S32x4x1, .f32⟩
  | .hbm, ⟨55, _⟩ => ⟨S_, .f32⟩
  | .hbm, ⟨56, _⟩ => ⟨S32x4x1, .f32⟩
  | .hbm, ⟨57, _⟩ => ⟨S32x4x1, .f32⟩
  | .hbm, ⟨58, _⟩ => ⟨S32x4x1, .f32⟩
  | .hbm, ⟨59, _⟩ => ⟨S32x4x128, .f32⟩
  | .hbm, ⟨60, _⟩ => ⟨S32x4x128, .f32⟩
  | .hbm, ⟨61, _⟩ => ⟨S1x1x128, .f32⟩
  | .hbm, ⟨62, _⟩ => ⟨S32x4x128, .f32⟩
  | .hbm, ⟨63, _⟩ => ⟨S32x4x128, .f32⟩
  | .hbm, ⟨64, _⟩ => ⟨S32x4x128, .f32⟩
  | .hbm, ⟨65, _⟩ => ⟨S32x4x128, .f32⟩
  | .hbm, ⟨66, _⟩ => ⟨S_, .f32⟩
  | .hbm, ⟨67, _⟩ => ⟨S32x4x128, .f32⟩
  | .hbm, ⟨68, _⟩ => ⟨S32x4x128, .f32⟩
  | .hbm, ⟨69, _⟩ => ⟨S_, .f32⟩
  | .hbm, ⟨70, _⟩ => ⟨S32x4x128, .f32⟩
  | .hbm, ⟨71, _⟩ => ⟨S32x4x128, .f32⟩
  | .hbm, ⟨72, _⟩ => ⟨S32x4x128, .f32⟩
  | .hbm, ⟨73, _⟩ => ⟨S32x4x128, .f32⟩
  | .hbm, ⟨74, _⟩ => ⟨S32x1x512, .f32⟩
  | _, _ => ⟨S32x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst : Ref sig .tc := ⟨.hbm, 49, rfl⟩
abbrev main_v42 : Ref sig .tc := ⟨.hbm, 50, rfl⟩
abbrev main_v43 : Ref sig .tc := ⟨.hbm, 51, rfl⟩
abbrev main_cst_0 : Ref sig .tc := ⟨.hbm, 52, rfl⟩
abbrev main_v44 : Ref sig .tc := ⟨.hbm, 53, rfl⟩
abbrev main_v45 : Ref sig .tc := ⟨.hbm, 54, rfl⟩
abbrev main_cst_1 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== InProj.lean ====
abbrev S8x2048x1024 : Shape := ⟨3, ![8, 2048, 1024]⟩
abbrev S1024 : Shape := ⟨1, ![1024]⟩
abbrev S1024x10256 : Shape := ⟨2, ![1024, 10256]⟩
abbrev S1024x3584 : Shape := ⟨2, ![1024, 3584]⟩
abbrev S1024x2560 : Shape := ⟨2, ![1024, 2560]⟩
abbrev S1024x4096 : Shape := ⟨2, ![1024, 4096]⟩
abbrev S1024x10240 : Shape := ⟨2, ![1024, 10240]⟩
abbrev S1024x8 : Shape := ⟨2, ![1024, 8]⟩
abbrev S_ : Shape := ⟨0, ![]⟩
abbrev S1024x112 : Shape := ⟨2, ![1024, 112]⟩
abbrev S1024x128 : Shape := ⟨2, ![1024, 128]⟩
abbrev S16384x1024 : Shape := ⟨2, ![16384, 1024]⟩
abbrev S1x1024 : Shape := ⟨2, ![1, 1024]⟩
abbrev S16384x10240 : Shape := ⟨2, ![16384, 10240]⟩
abbrev S16384x128 : Shape := ⟨2, ![16384, 128]⟩
abbrev S1024x1024 : Shape := ⟨2, ![1024, 1024]⟩
abbrev S1024x512 : Shape := ⟨2, ![1024, 512]⟩
abbrev S1024x1 : Shape := ⟨2, ![1024, 1]⟩

abbrev nBuf : Space → Nat
  | .hbm => 18
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x10256, .f32⟩
  | .hbm, ⟨3, _⟩ => ⟨S1024x3584, .f32⟩
  | .hbm, ⟨4, _⟩ => ⟨S1024x2560, .f32⟩
  | .hbm, ⟨5, _⟩ => ⟨S1024x4096, .f32⟩
  | .hbm, ⟨6, _⟩ => ⟨S1024x10240, .f32⟩
  | .hbm, ⟨7, _⟩ => ⟨S1024x10240, .bf16⟩
  | .hbm, ⟨8, _⟩ => ⟨S1024x8, .f32⟩
  | .hbm, ⟨9, _⟩ => ⟨S1024x8, .f32⟩
  | .hbm, ⟨10, _⟩ => ⟨S_, .f32⟩
  | .hbm, ⟨11, _⟩ => ⟨S1024x112, .f32⟩
  | .hbm, ⟨12, _⟩ => ⟨S1024x128, .f32⟩
  | .hbm, ⟨13, _⟩ => ⟨S1024x128, .bf16⟩
  | .hbm, ⟨14, _⟩ => ⟨S16384x1024, .f32⟩
  | .hbm, ⟨15, _⟩ => ⟨S1x1024, .f32⟩
  | .hbm, ⟨16, _⟩ => ⟨S16384x10240, .f32⟩
  | .hbm, ⟨17, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x128, .bf16⟩
  | .local _ .vmem, ⟨6, _⟩ => ⟨S1024x512, .f32⟩
  | .local _ .vmem, ⟨7, _⟩ => ⟨S1024x512, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 20], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InProjRefIdeal.lean ====
abbrev S8x2048x1024 : Shape := ⟨3, ![8, 2048, 1024]⟩
abbrev S1024 : Shape := ⟨1, ![1024]⟩
abbrev S1024x10256 : Shape := ⟨2, ![1024, 10256]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x10256 : Shape := ⟨3, ![8, 2048, 10256]⟩
abbrev S16384x10256 : Shape := ⟨2, ![16384, 10256]⟩
abbrev S16384x3584 : Shape := ⟨2, ![16384, 3584]⟩
abbrev S16384x2560 : Shape := ⟨2, ![16384, 2560]⟩
abbrev S16384x4096 : Shape := ⟨2, ![16384, 4096]⟩
abbrev S16384x10240 : Shape := ⟨2, ![16384, 10240]⟩
abbrev S16384x8 : Shape := ⟨2, ![16384, 8]⟩
abbrev S16384x112 : Shape := ⟨2, ![16384, 112]⟩
abbrev S16384x128 : Shape := ⟨2, ![16384, 128]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x10256, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x10256, .f32⟩
  | .hbm, ⟨20, _⟩ => ⟨S16384x10256, .f32⟩
  | .hbm, ⟨21, _⟩ => ⟨S16384x3584, .f32⟩
  | .hbm, ⟨22, _⟩ => ⟨S16384x2560, .f32⟩
  | .hbm, ⟨23, _⟩ => ⟨S16384x4096, .f32⟩
  | .hbm, ⟨24, _⟩ => ⟨S16384x10240, .f32⟩
  | .hbm, ⟨25, _⟩ => ⟨S16384x8, .f32⟩
  | .hbm, ⟨26, _⟩ => ⟨S16384x8, .f32⟩
  | .hbm, ⟨27, _⟩ => ⟨S_, .f32⟩
  | .hbm, ⟨28, _⟩ => ⟨S16384x112, .f32⟩
  | .hbm, ⟨29, _⟩ => ⟨S16384x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== MemKv.lean ====
abbrev S8x256x1024 : Shape := ⟨3, ![8, 256, 1024]⟩
abbrev S1024 : Shape := ⟨1, ![1024]⟩
abbrev S1024x1024 : Shape := ⟨2, ![1024, 1024]⟩
abbrev S2048x1024 : Shape := ⟨2, ![2048, 1024]⟩
abbrev S1x1024 : Shape := ⟨2, ![1, 1024]⟩
abbrev S1024x512 : Shape := ⟨2, ![1024, 512]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S2048x1024, .f32⟩
  | .hbm, ⟨4, _⟩ => ⟨S1024x1024, .bf16⟩
  | .hbm, ⟨5, _⟩ => ⟨S1x1024, .f32⟩
  | .hbm, ⟨6, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | .local _ .vmem, ⟨6, _⟩ => ⟨S1024x512, .f32⟩
  | .local _ .vmem, ⟨7, _⟩ => ⟨S1024x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemKvRefIdeal.lean ====
abbrev S8x256x1024 : Shape := ⟨3, ![8, 256, 1024]⟩
abbrev S1024 : Shape := ⟨1, ![1024]⟩
abbrev S1024x1024 : Shape := ⟨2, ![1024, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S2048x1024 : Shape := ⟨2, ![2048, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x1024, .f32⟩
  | .hbm, ⟨3, _⟩ => ⟨S8x256x1024, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x1024, .f32⟩
  | .hbm, ⟨15, _⟩ => ⟨S8x256x1024, .f32⟩
  | .hbm, ⟨16, _⟩ => ⟨S1x1x1024, .f32⟩
  | .hbm, ⟨17, _⟩ => ⟨S8x256x1024, .f32⟩
  | .hbm, ⟨18, _⟩ => ⟨S8x256x1024, .f32⟩
  | .hbm, ⟨19, _⟩ => ⟨S8x256x1024, .f32⟩
  | .hbm, ⟨20, _⟩ => ⟨S2048x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Merge.lean ====
abbrev S8x2048x512 : Shape := ⟨3, ![8, 2048, 512]⟩
abbrev S16384x10240 : Shape := ⟨2, ![16384, 10240]⟩
abbrev S16384x1024 : Shape := ⟨2, ![16384, 1024]⟩
abbrev S4x512x1024 : Shape := ⟨3, ![4, 512, 1024]⟩
abbrev S1024x1024 : Shape := ⟨2, ![1024, 1024]⟩
abbrev S16384x512 : Shape := ⟨2, ![16384, 512]⟩
abbrev S256x512 : Shape := ⟨2, ![256, 512]⟩
abbrev S256x1024 : Shape := ⟨2, ![256, 1024]⟩
abbrev S1x512x1024 : Shape := ⟨3, ![1, 512, 1024]⟩
abbrev S512x1024 : Shape := ⟨2, ![512, 1024]⟩

abbrev nBuf : Space → Nat
  | .hbm => 15
  | .vmem => 22
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .hbm, ⟨4, _⟩ => ⟨S16384x10240, .f32⟩
  | .hbm, ⟨5, _⟩ => ⟨S16384x1024, .f32⟩
  | .hbm, ⟨6, _⟩ => ⟨S4x512x1024, .f32⟩
  | .hbm, ⟨7, _⟩ => ⟨S1024x1024, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S4x512x1024, .bf16⟩
  | .hbm, ⟨13, _⟩ => ⟨S1024x1024, .bf16⟩
  | .hbm, ⟨14, _⟩ => ⟨S16384x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S4x512x1024, .bf16⟩
  | .local _ .vmem, ⟨19, _⟩ => ⟨S1024x1024, .bf16⟩
  | .local _ .vmem, ⟨20, _⟩ => ⟨S256x1024, .f32⟩
  | .local _ .vmem, ⟨21, _⟩ => ⟨S256x1024, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_5 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_6 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_7 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S8x2048x512 : Shape := ⟨3, ![8, 2048, 512]⟩
abbrev S16384x10240 : Shape := ⟨2, ![16384, 10240]⟩
abbrev S16384x1024 : Shape := ⟨2, ![16384, 1024]⟩
abbrev S4x512x1024 : Shape := ⟨3, ![4, 512, 1024]⟩
abbrev S1024x1024 : Shape := ⟨2, ![1024, 1024]⟩
abbrev S16384x4096 : Shape := ⟨2, ![16384, 4096]⟩
abbrev S_ : Shape := ⟨0, ![]⟩
abbrev S8x2048x4x1024 : Shape := ⟨4, ![8, 2048, 4, 1024]⟩
abbrev S8x2048x1x1024 : Shape := ⟨4, ![8, 2048, 1, 1024]⟩
abbrev S8x2048x1024 : Shape := ⟨3, ![8, 2048, 1024]⟩
abbrev S1x512x1024 : Shape := ⟨3, ![1, 512, 1024]⟩
abbrev S512x1024 : Shape := ⟨2, ![512, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S8x2048x512, .f32⟩
  | .hbm, ⟨3, _⟩ => ⟨S8x2048x512, .f32⟩
  | .hbm, ⟨4, _⟩ => ⟨S16384x10240, .f32⟩
  | .hbm, ⟨5, _⟩ => ⟨S16384x1024, .f32⟩
  | .hbm, ⟨6, _⟩ => ⟨S4x512x1024, .f32⟩
  | .hbm, ⟨7, _⟩ => ⟨S1024x1024, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S8x2048x4x1024, .f32⟩
  | .hbm, ⟨18, _⟩ => ⟨S8x2048x1x1024, .f32⟩
  | .hbm, ⟨19, _⟩ => ⟨S8x2048x1024, .f32⟩
  | .hbm, ⟨20, _⟩ => ⟨S1x512x1024, .f32⟩
  | .hbm, ⟨21, _⟩ => ⟨S512x1024, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x2048x1024, .f32⟩
  | .hbm, ⟨26, _⟩ => ⟨S8x2048x1024, .f32⟩
  | .hbm, ⟨27, _⟩ => ⟨S8x2048x1x1024, .f32⟩
  | .hbm, ⟨28, _⟩ => ⟨S8x2048x1024, .f32⟩
  | .hbm, ⟨29, _⟩ => ⟨S1x512x1024, .f32⟩
  | .hbm, ⟨30, _⟩ => ⟨S512x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1x1024, .f32⟩
  | .hbm, ⟨35, _⟩ => ⟨S8x2048x1024, .f32⟩
  | .hbm, ⟨36, _⟩ => ⟨S1x512x1024, .f32⟩
  | .hbm, ⟨37, _⟩ => ⟨S512x1024, .f32⟩
  | .hbm, ⟨38, _⟩ => ⟨S8x2048x1024, .f32⟩
  | .hbm, ⟨39, _⟩ => ⟨S8x2048x1024, .f32⟩
  | .hbm, ⟨40, _⟩ => ⟨S8x2048x1024, .f32⟩
  | .hbm, ⟨41, _⟩ => ⟨S8x2048x1x1024, .f32⟩
  | .hbm, ⟨42, _⟩ => ⟨S8x2048x1024, .f32⟩
  | .hbm, ⟨43, _⟩ => ⟨S1x512x1024, .f32⟩
  | .hbm, ⟨44, _⟩ => ⟨S512x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S16384x1024, .f32⟩
  | .hbm, ⟨50, _⟩ => ⟨S16384x1024, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Cross.lean ====
abbrev S16384x1024 : Shape := ⟨2, ![16384, 1024]⟩
abbrev S1024 : Shape := ⟨1, ![1024]⟩
abbrev S1024x512 : Shape := ⟨2, ![1024, 512]⟩
abbrev S2048x1024 : Shape := ⟨2, ![2048, 1024]⟩
abbrev S512x1024 : Shape := ⟨2, ![512, 1024]⟩
abbrev S8x256x1024 : Shape := ⟨3, ![8, 256, 1024]⟩
abbrev S8x2048x1024 : Shape := ⟨3, ![8, 2048, 1024]⟩
abbrev S1x1024 : Shape := ⟨2, ![1, 1024]⟩
abbrev S1x512x1024 : Shape := ⟨3, ![1, 512, 1024]⟩
abbrev S1x256x512 : Shape := ⟨3, ![1, 256, 512]⟩
abbrev S512 : Shape := ⟨1, ![512]⟩
abbrev S512x1 : Shape := ⟨2, ![512, 1]⟩
abbrev S512x512 : Shape := ⟨2, ![512, 512]⟩
abbrev S256x512 : Shape := ⟨2, ![256, 512]⟩
abbrev S512x128 : Shape := ⟨2, ![512, 128]⟩
abbrev S256x128 : Shape := ⟨2, ![256, 128]⟩
abbrev S512x256 : Shape := ⟨2, ![512, 256]⟩

abbrev nBuf : Space → Nat
  | .hbm => 11
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x512, .f32⟩
  | .hbm, ⟨3, _⟩ => ⟨S2048x1024, .f32⟩
  | .hbm, ⟨4, _⟩ => ⟨S512x1024, .f32⟩
  | .hbm, ⟨5, _⟩ => ⟨S8x256x1024, .f32⟩
  | .hbm, ⟨6, _⟩ => ⟨S8x2048x1024, .f32⟩
  | .hbm, ⟨7, _⟩ => ⟨S1024x512, .bf16⟩
  | .hbm, ⟨8, _⟩ => ⟨S512x1024, .bf16⟩
  | .hbm, ⟨9, _⟩ => ⟨S1x1024, .f32⟩
  | .hbm, ⟨10, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S512x1024, .bf16⟩
  | .local _ .vmem, ⟨9, _⟩ => ⟨S1x512x1024, .f32⟩
  | .local _ .vmem, ⟨10, _⟩ => ⟨S1x512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== CrossRefIdeal.lean ====
abbrev S16384x1024 : Shape := ⟨2, ![16384, 1024]⟩
abbrev S1024 : Shape := ⟨1, ![1024]⟩
abbrev S1024x512 : Shape := ⟨2, ![1024, 512]⟩
abbrev S2048x1024 : Shape := ⟨2, ![2048, 1024]⟩
abbrev S512x1024 : Shape := ⟨2, ![512, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x256x1024 : Shape := ⟨3, ![8, 256, 1024]⟩
abbrev S8x256x512 : Shape := ⟨3, ![8, 256, 512]⟩
abbrev S8x256x4x128 : Shape := ⟨4, ![8, 256, 4, 128]⟩
abbrev S8x2048x512 : Shape := ⟨3, ![8, 2048, 512]⟩
abbrev S8x2048x4x128 : Shape := ⟨4, ![8, 2048, 4, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x512, .f32⟩
  | .hbm, ⟨3, _⟩ => ⟨S2048x1024, .f32⟩
  | .hbm, ⟨4, _⟩ => ⟨S512x1024, .f32⟩
  | .hbm, ⟨5, _⟩ => ⟨S8x2048x1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x256x1024, .f32⟩
  | .hbm, ⟨23, _⟩ => ⟨S8x256x512, .f32⟩
  | .hbm, ⟨24, _⟩ => ⟨S8x256x4x128, .f32⟩
  | .hbm, ⟨25, _⟩ => ⟨S8x256x512, .f32⟩
  | .hbm, ⟨26, _⟩ => ⟨S8x256x4x128, .f32⟩
  | .hbm, ⟨27, _⟩ => ⟨S8x2048x512, .f32⟩
  | .hbm, ⟨28, _⟩ => ⟨S8x2048x4x128, .f32⟩
  | .hbm, ⟨29, _⟩ => ⟨S8x4x2048x256, .f32⟩
  | .hbm, ⟨30, _⟩ => ⟨S_, .f32⟩
  | .hbm, ⟨31, _⟩ => ⟨S8x4x2048x256, .f32⟩
  | .hbm, ⟨32, _⟩ => ⟨S8x4x2048x256, .f32⟩
  | .hbm, ⟨33, _⟩ => ⟨S_, .f32⟩
  | .hbm, ⟨34, _⟩ => ⟨S8x4x2048, .f32⟩
  | .hbm, ⟨35, _⟩ => ⟨S_, .f32⟩
  | .hbm, ⟨36, _⟩ => ⟨S8x4x2048, .f32⟩
  | .hbm, ⟨37, _⟩ => ⟨S8x4x2048, .f32⟩
  | .hbm, ⟨38, _⟩ => ⟨S8x4x2048x1, .f32⟩
  | .hbm, ⟨39, _⟩ => ⟨S8x4x2048x256, .f32⟩
  | .hbm, ⟨40, _⟩ => ⟨S8x4x2048x256, .f32⟩
  | .hbm, ⟨41, _⟩ => ⟨S8x4x2048x256, .f32⟩
  | .hbm, ⟨42, _⟩ => ⟨S_, .f32⟩
  | .hbm, ⟨43, _⟩ => ⟨S8x4x2048, .f32⟩
  | .hbm, ⟨44, _⟩ => ⟨S8x4x2048x1, .f32⟩
  | .hbm, ⟨45, _⟩ => ⟨S8x4x2048x256, .f32⟩
  | .hbm, ⟨46, _⟩ => ⟨S8x4x2048x256, .f32⟩
  | .hbm, ⟨47, _⟩ => ⟨S8x4x128x2048, .f32⟩
  | .hbm, ⟨48, _⟩ => ⟨S8x2048x4x128, .f32⟩
  | .hbm, ⟨49, _⟩ => ⟨S8x2048x1024, .f32⟩
  | .hbm, ⟨50, _⟩ => ⟨S8x2048x512, .f32⟩
  | .hbm, ⟨51, _⟩ => ⟨S8x2048x1024, .f32⟩
  | .hbm, ⟨52, _⟩ => ⟨S8x2048x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Ffn.lean ====
abbrev S8x2048x1024 : Shape := ⟨3, ![8, 2048, 1024]⟩
abbrev S1024 : Shape := ⟨1, ![1024]⟩
abbrev S1024x5632 : Shape := ⟨2, ![1024, 5632]⟩
abbrev S3x2816 : Shape := ⟨2, ![3, 2816]⟩
abbrev S2816x1024 : Shape := ⟨2, ![2816, 1024]⟩
abbrev S_ : Shape := ⟨0, ![]⟩
abbrev S8x2x2816 : Shape := ⟨3, ![8, 2, 2816]⟩
abbrev S1x1024 : Shape := ⟨2, ![1, 1024]⟩
abbrev S1x1024x1024 : Shape := ⟨3, ![1, 1024, 1024]⟩
abbrev S1024x256 : Shape := ⟨2, ![1024, 256]⟩
abbrev S3x256 : Shape := ⟨2, ![3, 256]⟩
abbrev S256x1024 : Shape := ⟨2, ![256, 1024]⟩
abbrev S1x2x256 : Shape := ⟨3, ![1, 2, 256]⟩
abbrev S1024x1024 : Shape := ⟨2, ![1024, 1024]⟩
abbrev S11x8x256 : Shape := ⟨3, ![11, 8, 256]⟩
abbrev S1032x256 : Shape := ⟨2, ![1032, 256]⟩
abbrev S1024x1 : Shape := ⟨2, ![1024, 1]⟩
abbrev S8x256 : Shape := ⟨2, ![8, 256]⟩
abbrev S2x256 : Shape := ⟨2, ![2, 256]⟩
abbrev S1x8x256 : Shape := ⟨3, ![1, 8, 256]⟩
abbrev S1x256 : Shape := ⟨2, ![1, 256]⟩
abbrev S256x256 : Shape := ⟨2, ![256, 256]⟩

abbrev nBuf : Space → Nat
  | .hbm => 12
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816x1024, .f32⟩
  | .hbm, ⟨5, _⟩ => ⟨S1024x5632, .bf16⟩
  | .hbm, ⟨6, _⟩ => ⟨S2816x1024, .bf16⟩
  | .hbm, ⟨7, _⟩ => ⟨S_, .f32⟩
  | .hbm, ⟨8, _⟩ => ⟨S8x2x2816, .f32⟩
  | .hbm, ⟨9, _⟩ => ⟨S1x1024, .f32⟩
  | .hbm, ⟨10, _⟩ => ⟨S8x2048x1024, .f32⟩
  | .hbm, ⟨11, _⟩ => ⟨S8x2x2816, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S3x256, .f32⟩
  | .local _ .vmem, ⟨8, _⟩ => ⟨S3x256, .f32⟩
  | .local _ .vmem, ⟨9, _⟩ => ⟨S256x1024, .bf16⟩
  | .local _ .vmem, ⟨10, _⟩ => ⟨S256x1024, .bf16⟩
  | .local _ .vmem, ⟨11, _⟩ => ⟨S1x2x256, .f32⟩
  | .local _ .vmem, ⟨12, _⟩ => ⟨S1x2x256, .f32⟩
  | .local _ .vmem, ⟨13, _⟩ => ⟨S1x1024x1024, .f32⟩
  | .local _ .vmem, ⟨14, _⟩ => ⟨S1x1024x1024, .f32⟩
  | .local _ .vmem, ⟨15, _⟩ => ⟨S1x2x256, .f32⟩
  | .local _ .vmem, ⟨16, _⟩ => ⟨S1x2x256, .f32⟩
  | .local _ .vmem, ⟨17, _⟩ => ⟨S1024x1024, .bf16⟩
  | .local _ .vmem, ⟨18, _⟩ => ⟨S1024x1024, .f32⟩
  | .local _ .vmem, ⟨19, _⟩ => ⟨S11x8x256, .f32⟩
  | .local _ .vmem, ⟨20, _⟩ => ⟨S1032x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![8, 2, 11], ![false, false, false]⟩

def k0_cond3 (i : grid0.Coords) : BitVec 1 :=
  let arg1 : BitVec 32 := BitVec.ofNat 32 (i 1).val
  let c0_i32_11 : BitVec 32 := 0#32
  let v14 : BitVec 1 := Scalar.cmpi .sgt arg1 c0_i32_11
  let v15 : BitVec 32 := Scalar.extui v14
  let c0_i32_12 : BitVec 32 := 0#32
  let v16 : BitVec 1 := Scalar.cmpi .ne v15 c0_i32_12
  v16

def k0_off1 (i : grid0.Coords) : Fin 3 → Nat :=
  let arg2 : BitVec 32 := BitVec.ofNat 32 (i 2).val
  let v140 : Index := Scalar.indexCast arg2
  let c0_82 : Index := 0#32
  let c0_83 : Index := 0#32
  ![v140.toNat, 0, 0]
def k0_off2 (i : grid0.Coords) : Fin 3 → Nat :=
  let arg2 : BitVec 32 := BitVec.ofNat 32 (i 2).val
  let v21 : Index := Scalar.indexCast arg2
  let c0_15 : Index := 0#32
  let c0_16 : Index := 0#32
  ![v21.toNat, 0, 0]
def k0_cond4 (i : grid0.Coords) : BitVec 1 :=
  let arg2 : BitVec 32 := BitVec.ofNat 32 (i 2).val
  let c10_i32 : BitVec 32 := 10#32
  let v137 : BitVec 1 := Scalar.cmpi .eq arg2 c10_i32
  let v138 : BitVec 32 := Scalar.extui v137
  let c0_i32_81 : BitVec 32 := 0#32
  let v139 : BitVec 1 := Scalar.cmpi .ne v138 c0_i32_81
  v139

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x2x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x2x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]
-- ==== FfnRefIdeal.lean ====
abbrev S8x2048x1024 : Shape := ⟨3, ![8, 2048, 1024]⟩
abbrev S1024 : Shape := ⟨1, ![1024]⟩
abbrev S1024x5632 : Shape := ⟨2, ![1024, 5632]⟩
abbrev S3x2816 : Shape := ⟨2, ![3, 2816]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩
abbrev S8x2x2816 : Shape := ⟨3, ![8, 2, 2816]⟩
abbrev S8x2050x2816 : Shape := ⟨3, ![8, 2050, 2816]⟩
abbrev S1x2816 : Shape := ⟨2, ![1, 2816]⟩
abbrev S2816 : Shape := ⟨1, ![2816]⟩
abbrev S1x1x2816 : Shape := ⟨3, ![1, 1, 2816]⟩

abbrev nBuf : Space → Nat
  | .hbm => 60
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5632, .f32⟩
  | .hbm, ⟨3, _⟩ => ⟨S3x2816, .f32⟩
  | .hbm, ⟨4, _⟩ => ⟨S2816x1024, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x2048x5632, .f32⟩
  | .hbm, ⟨22, _⟩ => ⟨S8x2048x2816, .f32⟩
  | .hbm, ⟨23, _⟩ => ⟨S8x2048x2816, .f32⟩
  | .hbm, ⟨24, _⟩ => ⟨S_, .f32⟩
  | .hbm, ⟨25, _⟩ => ⟨S8x2x2816, .f32⟩
  | .hbm, ⟨26, _⟩ => ⟨S8x2050x2816, .f32⟩
  | .hbm, ⟨27, _⟩ => ⟨S1x2816, .f32⟩
  | .hbm, ⟨28, _⟩ => ⟨S2816, .f32⟩
  | .hbm, ⟨29, _⟩ => ⟨S8x2048x2816, .f32⟩
  | .hbm, ⟨30, _⟩ => ⟨S1x1x2816, .f32⟩
  | .hbm, ⟨31, _⟩ => ⟨S8x2048x2816, .f32⟩
  | .hbm, ⟨32, _⟩ => ⟨S8x2048x2816, .f32⟩
  | .hbm, ⟨33, _⟩ => ⟨S1x2816, .f32⟩
  | .hbm, ⟨34, _⟩ => ⟨S2816, .f32⟩
  | .hbm, ⟨35, _⟩ => ⟨S8x2048x2816, .f32⟩
  | .hbm, ⟨36, _⟩ => ⟨S1x1x2816, .f32⟩
  | .hbm, ⟨37, _⟩ => ⟨S8x2048x2816, .f32⟩
  | .hbm, ⟨38, _⟩ => ⟨S8x2048x2816, .f32⟩
  | .hbm, ⟨39, _⟩ => ⟨S8x2048x2816, .f32⟩
  | .hbm, ⟨40, _⟩ => ⟨S1x2816, .f32⟩
  | .hbm, ⟨41, _⟩ => ⟨S2816, .f32⟩
  | .hbm, ⟨42, _⟩ => ⟨S8x2048x2816, .f32⟩
  | .hbm, ⟨43, _⟩ => ⟨S1x1x2816, .f32⟩
  | .hbm, ⟨44, _⟩ => ⟨S8x2048x2816, .f32⟩
  | .hbm, ⟨45, _⟩ => ⟨S8x2048x2816, .f32⟩
  | .hbm, ⟨46, _⟩ => ⟨S8x2048x2816, .f32⟩
  | .hbm, ⟨47, _⟩ => ⟨S8x2048x2816, .f32⟩
  | .hbm, ⟨48, _⟩ => ⟨S8x2048x2816, .f32⟩
  | .hbm, ⟨49, _⟩ => ⟨S_, .f32⟩
  | .hbm, ⟨50, _⟩ => ⟨S8x2048x2816, .f32⟩
  | .hbm, ⟨51, _⟩ => ⟨S8x2048x2816, .f32⟩
  | .hbm, ⟨52, _⟩ => ⟨S_, .f32⟩
  | .hbm, ⟨53, _⟩ => ⟨S8x2048x2816, .f32⟩
  | .hbm, ⟨54, _⟩ => ⟨S8x2048x2816, .f32⟩
  | .hbm, ⟨55, _⟩ => ⟨S8x2048x2816, .f32⟩
  | .hbm, ⟨56, _⟩ => ⟨S8x2048x2816, .f32⟩
  | .hbm, ⟨57, _⟩ => ⟨S8x2048x1024, .f32⟩
  | .hbm, ⟨58, _⟩ => ⟨S8x2048x1024, .f32⟩
  | .hbm, ⟨59, _⟩ => ⟨S8x2x2816, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== FinalNorm.lean ====
abbrev S16384x1024 : Shape := ⟨2, ![16384, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== SconvStep.lean ====
abbrev S32x1x10240 : Shape := ⟨3, ![32, 1, 10240]⟩
abbrev S32x2x512 : Shape := ⟨3, ![32, 2, 512]⟩
abbrev S3x512 : Shape := ⟨2, ![3, 512]⟩
abbrev S32x1x512 : Shape := ⟨3, ![32, 1, 512]⟩
abbrev S1x1x512 : Shape := ⟨3, ![1, 1, 512]⟩
abbrev S1x2x512 : Shape := ⟨3, ![1, 2, 512]⟩
abbrev S9x512 : Shape := ⟨2, ![9, 512]⟩
abbrev S1x512 : Shape := ⟨2, ![1, 512]⟩
abbrev S8x512 : Shape := ⟨2, ![8, 512]⟩
abbrev S2x512 : Shape := ⟨2, ![2, 512]⟩

abbrev nBuf : Space → Nat
  | .hbm => 5
  | .vmem => 14
  | .smem => 0
  | _ => 0

abbrev bufTy : (tb : Table) → Fin (tcTables nBuf tb) → BufTy
  | .hbm, ⟨0, _⟩ => ⟨S32x1x10240, .f32⟩
  | .hbm, ⟨1, _⟩ => ⟨S32x2x512, .f32⟩
  | .hbm, ⟨2, _⟩ => ⟨S3x512, .f32⟩
  | .hbm, ⟨3, _⟩ => ⟨S32x1x512, .f32⟩
  | .hbm, ⟨4, _⟩ => ⟨S32x2x512, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x512, .f32⟩
  | .local _ .vmem, ⟨5, _⟩ => ⟨S1x1x512, .f32⟩
  | .local _ .vmem, ⟨6, _⟩ => ⟨S1x2x512, .f32⟩
  | .local _ .vmem, ⟨7, _⟩ => ⟨S1x2x512, .f32⟩
  | .local _ .vmem, ⟨8, _⟩ => ⟨S3x512, .f32⟩
  | .local _ .vmem, ⟨9, _⟩ => ⟨S1x1x512, .f32⟩
  | .local _ .vmem, ⟨10, _⟩ => ⟨S1x1x512, .f32⟩
  | .local _ .vmem, ⟨11, _⟩ => ⟨S1x2x512, .f32⟩
  | .local _ .vmem, ⟨12, _⟩ => ⟨S1x2x512, .f32⟩
  | .local _ .vmem, ⟨13, _⟩ => ⟨S9x512, .f32⟩
  | _, _ => ⟨S32x1x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== SconvStepRefIdeal.lean ====
abbrev S32x1x10240 : Shape := ⟨3, ![32, 1, 10240]⟩
abbrev S32x2x512 : Shape := ⟨3, ![32, 2, 512]⟩
abbrev S3x512 : Shape := ⟨2, ![3, 512]⟩
abbrev S32x1x512 : Shape := ⟨3, ![32, 1, 512]⟩
abbrev S32x3x512 : Shape := ⟨3, ![32, 3, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 30
  | .vmem => 0
  | .smem => 0
  | _ => 0

abbrev bufTy : (tb : Table) → Fin (tcTables nBuf tb) → BufTy
  | .hbm, ⟨0, _⟩ => ⟨S32x1x10240, .f32⟩
  | .hbm, ⟨1, _⟩ => ⟨S32x2x512, .f32⟩
  | .hbm, ⟨2, _⟩ => ⟨S3x512, .f32⟩
  | .hbm, ⟨3, _⟩ => ⟨S32x1x512, .f32⟩
  | .hbm, ⟨4, _⟩ => ⟨S32x1x512, .f32⟩
  | .hbm, ⟨5, _⟩ => ⟨S32x1x512, .f32⟩
  | .hbm, ⟨6, _⟩ => ⟨S32x1x512, .f32⟩
  | .hbm, ⟨7, _⟩ => ⟨S32x3x512, .f32⟩
  | .hbm, ⟨8, _⟩ => ⟨S1x512, .f32⟩
  | .hbm, ⟨9, _⟩ => ⟨S512, .f32⟩
  | .hbm, ⟨10, _⟩ => ⟨S32x1x512, .f32⟩
  | .hbm, ⟨11, _⟩ => ⟨S1x1x512, .f32⟩
  | .hbm, ⟨12, _⟩ => ⟨S32x1x512, .f32⟩
  | .hbm, ⟨13, _⟩ => ⟨S32x1x512, .f32⟩
  | .hbm, ⟨14, _⟩ => ⟨S1x512, .f32⟩
  | .hbm, ⟨15, _⟩ => ⟨S512, .f32⟩
  | .hbm, ⟨16, _⟩ => ⟨S32x1x512, .f32⟩
  | .hbm, ⟨17, _⟩ => ⟨S1x1x512, .f32⟩
  | .hbm, ⟨18, _⟩ => ⟨S32x1x512, .f32⟩
  | .hbm, ⟨19, _⟩ => ⟨S32x1x512, .f32⟩
  | .hbm, ⟨20, _⟩ => ⟨S32x1x512, .f32⟩
  | .hbm, ⟨21, _⟩ => ⟨S1x512, .f32⟩
  | .hbm, ⟨22, _⟩ => ⟨S512, .f32⟩
  | .hbm, ⟨23, _⟩ => ⟨S32x1x512, .f32⟩
  | .hbm, ⟨24, _⟩ => ⟨S1x1x512, .f32⟩
  | .hbm, ⟨25, _⟩ => ⟨S32x1x512, .f32⟩
  | .hbm, ⟨26, _⟩ => ⟨S32x1x512, .f32⟩
  | .hbm, ⟨27, _⟩ => ⟨S32x1x512, .f32⟩
  | .hbm, ⟨28, _⟩ => ⟨S32x1x512, .f32⟩
  | .hbm, ⟨29, _⟩ => ⟨S32x2x512, .f32⟩
  | _, _ => ⟨S32x1x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩

abbrev nD : Nat := 1
abbrev τ : Topo := Topo.v7x

variable {F : FTy → Type} [FloatOps F]
-- ==== GdnPreStep.lean ====
abbrev S32x1x10240 : Shape := ⟨3, ![32, 1, 10240]⟩
abbrev S32x3x1536 : Shape := ⟨3, ![32, 3, 1536]⟩
abbrev S4x1536 : Shape := ⟨2, ![4, 1536]⟩
abbrev S32x1x512 : Shape := ⟨3, ![32, 1, 512]⟩
abbrev S1x1x1536 : Shape := ⟨3, ![1, 1, 1536]⟩
abbrev S1x3x1536 : Shape := ⟨3, ![1, 3, 1536]⟩
abbrev S1x1x512 : Shape := ⟨3, ![1, 1, 512]⟩
abbrev S9x1536 : Shape := ⟨2, ![9, 1536]⟩
abbrev S1x1536 : Shape := ⟨2, ![1, 1536]⟩
abbrev S8x1536 : Shape := ⟨2, ![8, 1536]⟩
abbrev S3x1536 : Shape := ⟨2, ![3, 1536]⟩
abbrev S1x512 : Shape := ⟨2, ![1, 512]⟩
abbrev S1x128 : Shape := ⟨2, ![1, 128]⟩
abbrev S1 : Shape := ⟨1, ![1]⟩
abbrev S1x1 : Shape := ⟨2, ![1, 1]⟩
abbrev S1x1x128 : Shape := ⟨3, ![1, 1, 128]⟩

abbrev nBuf : Space → Nat
  | .hbm => 7
  | .vmem => 14
  | .smem => 0
  | _ => 0

abbrev bufTy : (tb : Table) → Fin (tcTables nBuf tb) → BufTy
  | .hbm, ⟨0, _⟩ => ⟨S32x1x10240, .f32⟩
  | .hbm, ⟨1, _⟩ => ⟨S32x3x1536, .f32⟩
  | .hbm, ⟨2, _⟩ => ⟨S4x1536, .f32⟩
  | .hbm, ⟨3, _⟩ => ⟨S32x1x512, .f32⟩
  | .hbm, ⟨4, _⟩ => ⟨S32x1x512, .f32⟩
  | .hbm, ⟨5, _⟩ => ⟨S32x1x512, .f32⟩
  | .hbm, ⟨6, _⟩ => ⟨S32x3x1536, .f32⟩
  | .local _ .vmem, ⟨0, _⟩ => ⟨S1x1x1536, .f32⟩
  | .local _ .vmem, ⟨1, _⟩ => ⟨S1x1x1536, .f32⟩
  | .local _ .vmem, ⟨2, _⟩ => ⟨S1x3x1536, .f32⟩
  | .local _ .vmem, ⟨3, _⟩ => ⟨S1x3x1536, .f32⟩
  | .local _ .vmem, ⟨4, _⟩ => ⟨S4x1536, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x3x1536, .f32⟩
  | .local _ .vmem, ⟨12, _⟩ => ⟨S1x3x1536, .f32⟩
  | .local _ .vmem, ⟨13, _⟩ => ⟨S9x1536, .f32⟩
  | _, _ => ⟨S32x1x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x3x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== GdnPreStepRefIdeal.lean ====
abbrev S32x1x10240 : Shape := ⟨3, ![32, 1, 10240]⟩
abbrev S32x3x1536 : Shape := ⟨3, ![32, 3, 1536]⟩
abbrev S4x1536 : Shape := ⟨2, ![4, 1536]⟩
abbrev S32x1x1536 : Shape := ⟨3, ![32, 1, 1536]⟩
abbrev S32x4x1536 : Shape := ⟨3, ![32, 4, 1536]⟩
abbrev S1x1536 : Shape := ⟨2, ![1, 1536]⟩
abbrev S1536 : Shape := ⟨1, ![1536]⟩
abbrev S1x1x1536 : Shape := ⟨3, ![1, 1, 1536]⟩
abbrev S_ : Shape := ⟨0, ![]⟩
abbrev S32x1x512 : Shape := ⟨3, ![32, 1, 512]⟩
abbrev S32x1x4x128 : Shape := ⟨4, ![32, 1, 4, 128]⟩
abbrev S32x1x4 : Shape := ⟨3, ![32, 1, 4]⟩
abbrev S32x1x4x1 : Shape := ⟨4, ![32, 1, 4, 1]⟩

abbrev nBuf : Space → Nat
  | .hbm => 72
  | .vmem => 0
  | .smem => 0
  | _ => 0

abbrev bufTy : (tb : Table) → Fin (tcTables nBuf tb) → BufTy
  | .hbm, ⟨0, _⟩ => ⟨S32x1x10240, .f32⟩
  | .hbm, ⟨1, _⟩ => ⟨S32x3x1536, .f32⟩
  | .hbm, ⟨2, _⟩ => ⟨S4x1536, .f32⟩
  | .hbm, ⟨3, _⟩ => ⟨S32x1x1536, .f32⟩
  | .hbm, ⟨4, _⟩ => ⟨S32x4x1536, .f32⟩
  | .hbm, ⟨5, _⟩ => ⟨S1x1536, .f32⟩
  | .hbm, ⟨6, _⟩ => ⟨S1536, .f32⟩
  | .hbm, ⟨7, _⟩ => ⟨S32x1x1536, .f32⟩
  | .hbm, ⟨8, _⟩ => ⟨S1x1x1536, .f32⟩
  | .hbm, ⟨9, _⟩ => ⟨S32x1x1536, .f32⟩
  | .hbm, ⟨10, _⟩ => ⟨S32x1x1536, .f32⟩
  | .hbm, ⟨11, _⟩ => ⟨S1x1536, .f32⟩
  | .hbm, ⟨12, _⟩ => ⟨S1536, .f32⟩
  | .hbm, ⟨13, _⟩ => ⟨S32x1x1536, .f32⟩
  | .hbm, ⟨14, _⟩ => ⟨S1x1x1536, .f32⟩
  | .hbm, ⟨15, _⟩ => ⟨S32x1x1536, .f32⟩
  | .hbm, ⟨16, _⟩ => ⟨S32x1x1536, .f32⟩
  | .hbm, ⟨17, _⟩ => ⟨S32x1x1536, .f32⟩
  | .hbm, ⟨18, _⟩ => ⟨S1x1536, .f32⟩
  | .hbm, ⟨19, _⟩ => ⟨S1536, .f32⟩
  | .hbm, ⟨20, _⟩ => ⟨S32x1x1536, .f32⟩
  | .hbm, ⟨21, _⟩ => ⟨S1x1x1536, .f32⟩
  | .hbm, ⟨22, _⟩ => ⟨S32x1x1536, .f32⟩
  | .hbm, ⟨23, _⟩ => ⟨S32x1x1536, .f32⟩
  | .hbm, ⟨24, _⟩ => ⟨S32x1x1536, .f32⟩
  | .hbm, ⟨25, _⟩ => ⟨S1x1536, .f32⟩
  | .hbm, ⟨26, _⟩ => ⟨S1536, .f32⟩
  | .hbm, ⟨27, _⟩ => ⟨S32x1x1536, .f32⟩
  | .hbm, ⟨28, _⟩ => ⟨S1x1x1536, .f32⟩
  | .hbm, ⟨29, _⟩ => ⟨S32x1x1536, .f32⟩
  | .hbm, ⟨30, _⟩ => ⟨S32x1x1536, .f32⟩
  | .hbm, ⟨31, _⟩ => ⟨S32x1x1536, .f32⟩
  | .hbm, ⟨32, _⟩ => ⟨S32x1x1536, .f32⟩
  | .hbm, ⟨33, _⟩ => ⟨S32x1x1536, .f32⟩
  | .hbm, ⟨34, _⟩ => ⟨S_, .f32⟩
  | .hbm, ⟨35, _⟩ => ⟨S32x1x1536, .f32⟩
  | .hbm, ⟨36, _⟩ => ⟨S32x1x1536, .f32⟩
  | .hbm, ⟨37, _⟩ => ⟨S_, .f32⟩
  | .hbm, ⟨38, _⟩ => ⟨S32x1x1536, .f32⟩
  | .hbm, ⟨39, _⟩ => ⟨S32x1x1536, .f32⟩
  | .hbm, ⟨40, _⟩ => ⟨S32x1x1536, .f32⟩
  | .hbm, ⟨41, _⟩ => ⟨S32x1x512, .f32⟩
  | .hbm, ⟨42, _⟩ => ⟨S32x1x4x128, .f32⟩
  | .hbm, ⟨43, _⟩ => ⟨S32x1x4x128, .f32⟩
  | .hbm, ⟨44, _⟩ => ⟨S_, .f32⟩
  | .hbm, ⟨45, _⟩ => ⟨S32x1x4, .f32⟩
  | .hbm, ⟨46, _⟩ => ⟨S32x1x4x1, .f32⟩
  | .hbm, ⟨47, _⟩ => ⟨S_, .f32⟩
  | .hbm, ⟨48, _⟩ => ⟨S32x1x4x1, .f32⟩
  | .hbm, ⟨49, _⟩ => ⟨S32x1x4x1, .f32⟩
  | .hbm, ⟨50, _⟩ => ⟨S32x1x4x1, .f32⟩
  | .hbm, ⟨51, _⟩ => ⟨S32x1x4x128, .f32⟩
  | .hbm, ⟨52, _⟩ => ⟨S32x1x4x128, .f32⟩
  | .hbm, ⟨53, _⟩ => ⟨S_, .f32⟩
  | .hbm, ⟨54, _⟩ => ⟨S32x1x4x128, .f32⟩
  | .hbm, ⟨55, _⟩ => ⟨S32x1x4x128, .f32⟩
  | .hbm, ⟨56, _⟩ => ⟨S32x1x512, .f32⟩
  | .hbm, ⟨57, _⟩ => ⟨S32x1x4x128, .f32⟩
  | .hbm, ⟨58, _⟩ => ⟨S32x1x4x128, .f32⟩
  | .hbm, ⟨59, _⟩ => ⟨S_, .f32⟩
  | .hbm, ⟨60, _⟩ => ⟨S32x1x4, .f32⟩
  | .hbm, ⟨61, _⟩ => ⟨S32x1x4x1, .f32⟩
  | .hbm, ⟨62, _⟩ => ⟨S_, .f32⟩
  | .hbm, ⟨63, _⟩ => ⟨S32x1x4x1, .f32⟩
  | .hbm, ⟨64, _⟩ => ⟨S32x1x4x1, .f32⟩
  | .hbm, ⟨65, _⟩ => ⟨S32x1x4x1, .f32⟩
  | .hbm, ⟨66, _⟩ => ⟨S32x1x4x128, .f32⟩
  | .hbm, ⟨67, _⟩ => ⟨S32x1x4x128, .f32⟩
  | .hbm, ⟨68, _⟩ => ⟨S32x1x512, .f32⟩
  | .hbm, ⟨69, _⟩ => ⟨S32x1x512, .f32⟩
  | .hbm, ⟨70, _⟩ => ⟨S32x1x512, .f32⟩
  | .hbm, ⟨71, _⟩ => ⟨S32x3x1536, .f32⟩
  | _, _ => ⟨S32x1x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst : Ref sig .tc := ⟨.hbm, 44, rfl⟩
abbrev main_v33 : Ref sig .tc := ⟨.hbm, 45, rfl⟩
abbrev main_v34 : Ref sig .tc := ⟨.hbm, 46, rfl⟩
abbrev main_cst_0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_1 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_2 : Ref sig .tc := ⟨.hbm, 59, rfl⟩
abbrev main_v45 : Ref sig .tc := ⟨.hbm, 60, rfl⟩
abbrev main_v46 : Ref sig .tc := ⟨.hbm, 61, rfl⟩
abbrev main_cst_3 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== Proof.GdnHead.lean ====
/- One head of the single-token gated delta step, as the kernel computes it for its four heads alike: the new value row
   `v β - (k β e^d) S`, the output row `(q e^d) S + (q · k) u` normalised and gated, and the new state `S e^d + k ⊗ u`. The
   kernel runs the two row-times-state products as one eight-row product and writes the outer product `k ⊗ u` as a product
   with a diagonal matrix; here both are read element by element as the plain sums and products they are. -/
module

public import proofs.«01_k».proof.Proof.Gen.GdnStepIdeal.Value
public import Idealize.ShloMosaic.Lib.Pointwise

@[expose] public section

set_option maxRecDepth 16384

noncomputable section

namespace Cert.GdnStepIdeal.Head

open Cert.GdnStepIdeal Cert.GdnStepIdeal.Gen Idealize.ShloMosaic Idealize.ShloMosaic.TcCoe Idealize.SL.Sem

section AnyFloat

variable {F : FTy → Type} [FloatOps F]

/-- A loaded row of a head, as a one-row matrix. -/
def row (x : Vec F S1x1x128 .f32) : FVec F S1x128 .f32 := shapeCast S1x128 x shapeCasts_S1x1x128_S1x128

/-- Eight rows, of which row 0 is `k β e^d`, row 1 is `q e^d` and the others are zero, times the state. -/
def rows (q k : FVec F S1x128 .f32) (e b : FVec F S1x1 .f32) (S : FVec F S128x128 .f32) : FVec F S8x128 .f32 :=
  matmul dot_S8x128_S128x128_S8x128_1_0_0_1_n_n none
    (truncf .bf16 (select (cmpi .eq (iota .tc S8x128 32 [0] iota_S8x128_d0_w32) (broadcast S8x128 0#32))
      (broadcastTo S8x128 (shapeCast S1x128 (mulf (mulf k (broadcastTo S1x128 b broadcasts_S1x1_S1x128))
        (broadcastTo S1x128 e broadcasts_S1x1_S1x128)) shapeCasts_S1x128_S1x128) broadcasts_S1x128_S8x128)
      (select (cmpi .eq (iota .tc S8x128 32 [0] iota_S8x128_d0_w32) (broadcast S8x128 1#32))
        (broadcastTo S8x128 (shapeCast S1x128 (mulf q (broadcastTo S1x128 e broadcasts_S1x1_S1x128))
          shapeCasts_S1x128_S1x128) broadcasts_S1x128_S8x128)
        (broadcast S8x128 (Scalar.ofBits .f32 0x00000000#32)))) bitsLt_bf16_f32)
    (truncf .bf16 S bitsLt_bf16_f32) (constant S8x128 .f32 0x00000000#32)

/-- The new value row `u`. -/
def fresh (q k v : FVec F S1x128 .f32) (e b : FVec F S1x1 .f32) (S : FVec F S128x128 .f32) : FVec F S1x128 .f32 :=
  subf (mulf v (broadcastTo S1x128 b broadcasts_S1x1_S1x128))
    (extractStridedSlice S1x128 ![0, 0] (rows q k e b S) slices_S8x128_o0_0_S1x128)

/-- The output row before its norm. -/
def rawOut (q k v : FVec F S1x128 .f32) (e b : FVec F S1x1 .f32) (S : FVec F S128x128 .f32) : FVec F S1x128 .f32 :=
  addf (extractStridedSlice S1x128 ![1, 0] (rows q k e b S) slices_S8x128_o1_0_S1x128)
    (mulf (broadcastTo S1x128 (extf .f32 (truncf .bf16 (shapeCast S1x1 (multiReduction .add [1] S1
        (mulf (extf .f32 (truncf .bf16 q bitsLt_bf16_f32) bitsLt_bf16_f32) (extf .f32 (truncf .bf16 k bitsLt_bf16_f32) bitsLt_bf16_f32))
        0x00000000#32 reduces_S1x128_S1 (.inl rfl) rfl) shapeCasts_S1_S1x1) bitsLt_bf16_f32) bitsLt_bf16_f32) broadcasts_S1x1_S1x128)
      (extf .f32 (truncf .bf16 (fresh q k v e b S) bitsLt_bf16_f32) bitsLt_bf16_f32))

/-- A row over the root of its mean square, times the norm's weights, times the gate `g · logistic g`. -/
def gated (o w g : FVec F S1x128 .f32) : FVec F S1x1x128 .f32 :=
  shapeCast S1x1x128 (mulf (mulf (mulf o (broadcastTo S1x128 (rsqrt (addf (divf
      (shapeCast S1x1 (multiReduction .add [1] S1 (mulf o o) 0x00000000#32 reduces_S1x128_S1 (.inl rfl) rfl) shapeCasts_S1_S1x1)
      (broadcast S1x1 (Scalar.ofBits .f32 0x43000000#32))) (broadcast S1x1 (Scalar.ofBits .f32 0x358637BD#32))))
      broadcasts_S1x1_S1x128)) w) (mulf g (logistic g))) shapeCasts_S1x128_S1x1x128

/-- The new state. -/
def newState (q k v : FVec F S1x128 .f32) (e b : FVec F S1x1 .f32) (S : FVec F S128x128 .f32) : FVec F S1x1x128x128 .f32 :=
  shapeCast S1x1x128x128 (addf (mulf S (broadcastTo S128x128 e broadcasts_S1x1_S128x128))
    (matmul dot_S128x128_S128x128_S128x128_1_0_0_1_n_n none
      (truncf .bf16 (select (cmpi .eq (iota .tc S128x128 32 [0] iota_S128x128_d0_w32) (iota .tc S128x128 32 [1] iota_S128x128_d1_w32))
        (broadcastTo S128x128 (shapeCast S1x128 k shapeCasts_S1x128_S1x128) broadcasts_S1x128_S128x128)
        (broadcast S128x128 (Scalar.ofBits .f32 0x00000000#32))) bitsLt_bf16_f32)
      (truncf .bf16 (broadcastTo S128x128 (shapeCast S1x128 (fresh q k v e b S) shapeCasts_S1x128_S1x128) broadcasts_S1x128_S128x128)
        bitsLt_bf16_f32)
      (constant S128x128 .f32 0x00000000#32))) shapeCasts_S128x128_S1x1x128x128

/-- The gates' row of a token: head `h`'s decay is its column `h` (exponentiated), its `β` column `4 + h`. -/
def decay (off : Fin 2 → Nat) (h : S1x128.Slices off S1x1) (p : Vec F S1x1x128 .f32) : FVec F S1x1 .f32 :=
  exp (extractStridedSlice S1x1 off (row p) h)
def beta (off : Fin 2 → Nat) (h : S1x128.Slices off S1x1) (p : Vec F S1x1x128 .f32) : FVec F S1x1 .f32 :=
  extractStridedSlice S1x1 off (row p) h

/-- The state of a head, loaded. -/
def mat (x : Vec F S1x1x128x128 .f32) : FVec F S128x128 .f32 := shapeCast S128x128 x shapeCasts_S1x1x128x128_S128x128

/-- The output row a head stores, from what it loads. -/
def outRow (od ob : Fin 2 → Nat) (hd : S1x128.Slices od S1x1) (hb : S1x128.Slices ob S1x1) (q k v p g : Vec F S1x1x128 .f32)
    (w : Vec F S1x128 .f32) (S : Vec F S1x1x128x128 .f32) : FVec F S1x1x128 .f32 :=
  gated (rawOut (row q) (row k) (row v) (decay od hd p) (beta ob hb p) (mat S)) (shapeCast S1x128 w shapeCasts_S1x128_S1x128) (row g)

/-- The state a head stores, from what it loads. -/
def outState (od ob : Fin 2 → Nat) (hd : S1x128.Slices od S1x1) (hb : S1x128.Slices ob S1x1) (q k v p : Vec F S1x1x128 .f32)
    (S : Vec F S1x1x128x128 .f32) : FVec F S1x1x128x128 .f32 :=
  newState (row q) (row k) (row v) (decay od hd p) (beta ob hb p) (mat S)

end AnyFloat

/-! ## The kernel's stores are these, head by head -/

section Stores

variable {F : FTy → Type} [FloatOps F]
variable (x0 x1 x2 : Vec F S1x1x512 .f32) (x3 : Vec F S1x1x128 .f32) (x4 : Vec F S1x1x512 .f32) (x5 : Vec F S1x128 .f32)
  (x6 : Vec F S1x4x128x128 .f32)

/-- The four stores of the output block. -/
theorem out7_eq : out0_7 x0 x1 x2 x3 x4 x5 x6 = View.canon [
    ⟨r0_8, outRow ![0, 3] ![0, 7] slices_S1x128_o0_3_S1x1 slices_S1x128_o0_7_S1x1 (View.ld x0 r0_8) (View.ld x1 r0_8) (View.ld x2 r0_8) (View.ld x3 r0_0) (View.ld x4 r0_8) (View.ld x5 r0_3) (View.ld x6 r0_9)⟩,
    ⟨r0_6, outRow ![0, 2] ![0, 6] slices_S1x128_o0_2_S1x1 slices_S1x128_o0_6_S1x1 (View.ld x0 r0_6) (View.ld x1 r0_6) (View.ld x2 r0_6) (View.ld x3 r0_0) (View.ld x4 r0_6) (View.ld x5 r0_3) (View.ld x6 r0_7)⟩,
    ⟨r0_4, outRow ![0, 1] ![0, 5] slices_S1x128_o0_1_S1x1 slices_S1x128_o0_5_S1x1 (View.ld x0 r0_4) (View.ld x1 r0_4) (View.ld x2 r0_4) (View.ld x3 r0_0) (View.ld x4 r0_4) (View.ld x5 r0_3) (View.ld x6 r0_5)⟩,
    ⟨r0_1, outRow ![0, 0] ![0, 4] slices_S1x128_o0_0_S1x1 slices_S1x128_o0_4_S1x1 (View.ld x0 r0_1) (View.ld x1 r0_1) (View.ld x2 r0_1) (View.ld x3 r0_0) (View.ld x4 r0_1) (View.ld x5 r0_3) (View.ld x6 r0_2)⟩] := by
  unfold_out out0_7
  rfl

/-- The four stores of the state block. -/
theorem out8_eq : out0_8 x0 x1 x2 x3 x4 x5 x6 = View.canon [
    ⟨r0_9, outState ![0, 3] ![0, 7] slices_S1x128_o0_3_S1x1 slices_S1x128_o0_7_S1x1 (View.ld x0 r0_8) (View.ld x1 r0_8) (View.ld x2 r0_8) (View.ld x3 r0_0) (View.ld x6 r0_9)⟩,
    ⟨r0_7, outState ![0, 2] ![0, 6] slices_S1x128_o0_2_S1x1 slices_S1x128_o0_6_S1x1 (View.ld x0 r0_6) (View.ld x1 r0_6) (View.ld x2 r0_6) (View.ld x3 r0_0) (View.ld x6 r0_7)⟩,
    ⟨r0_5, outState ![0, 1] ![0, 5] slices_S1x128_o0_1_S1x1 slices_S1x128_o0_5_S1x1 (View.ld x0 r0_4) (View.ld x1 r0_4) (View.ld x2 r0_4) (View.ld x3 r0_0) (View.ld x6 r0_5)⟩,
    ⟨r0_2, outState ![0, 0] ![0, 4] slices_S1x128_o0_0_S1x1 slices_S1x128_o0_4_S1x1 (View.ld x0 r0_1) (View.ld x1 r0_1) (View.ld x2 r0_1) (View.ld x3 r0_0) (View.ld x6 r0_2)⟩] := by
  unfold_out out0_8
  rfl

end Stores

/-! ## Read element by element over the extended reals -/

/-- The new value row at column `j`. -/
def U (q k v : Fin 128 → EReal) (e b : EReal) (S : Fin 128 → Fin 128 → EReal) (j : Fin 128) : EReal :=
  v j * b - ∑ i : Fin 128, k i * b * e * S i j

/-- The raw output row at column `j`. -/
def O (q k v : Fin 128 → EReal) (e b : EReal) (S : Fin 128 → Fin 128 → EReal) (j : Fin 128) : EReal :=
  (∑ i : Fin 128, q i * e * S i j) + (∑ i : Fin 128, q i * k i) * U q k v e b S j

/-- The stored output row at column `j`. -/
def Y (q k v : Fin 128 → EReal) (e b : EReal) (S : Fin 128 → Fin 128 → EReal) (w g : Fin 128 → EReal) (j : Fin 128) : EReal :=
  O q k v e b S j * Ideal.rsqrt (Ideal.div (∑ i : Fin 128, O q k v e b S i * O q k v e b S i) (Ideal.ofBits .f32 0x43000000#32)
    + Ideal.ofBits .f32 0x358637BD#32) * w j * (g j * Ideal.logistic (g j))

theorem rows_zero (q k : FVec Ideal S1x128 .f32) (e b : FVec Ideal S1x1 .f32) (S : FVec Ideal S128x128 .f32) (j : Fin 128) :
    rows q k e b S (ix2 0 j) = ∑ i : Fin 128, k (ix2 0 i) * b (ix2 0 0) * e (ix2 0 0) * S (ix2 i j) := by
  pointwise [rows]

theorem rows_one (q k : FVec Ideal S1x128 .f32) (e b : FVec Ideal S1x1 .f32) (S : FVec Ideal S128x128 .f32) (j : Fin 128) :
    rows q k e b S (ix2 1 j) = ∑ i : Fin 128, q (ix2 0 i) * e (ix2 0 0) * S (ix2 i j) := by
  pointwise [rows]
  exact Finset.sum_congr rfl fun i _ => rfl

theorem fresh_apply (q k v : FVec Ideal S1x128 .f32) (e b : FVec Ideal S1x1 .f32) (S : FVec Ideal S128x128 .f32) (j : Fin 128) :
    fresh q k v e b S (ix2 0 j)
      = U (fun i => q (ix2 0 i)) (fun i => k (ix2 0 i)) (fun i => v (ix2 0 i)) (e (ix2 0 0)) (b (ix2 0 0)) (fun i j => S (ix2 i j)) j := by
  pointwise [fresh, U, rows_zero]

theorem rawOut_apply (q k v : FVec Ideal S1x128 .f32) (e b : FVec Ideal S1x1 .f32) (S : FVec Ideal S128x128 .f32) (j : Fin 128) :
    rawOut q k v e b S (ix2 0 j)
      = O (fun i => q (ix2 0 i)) (fun i => k (ix2 0 i)) (fun i => v (ix2 0 i)) (e (ix2 0 0)) (b (ix2 0 0)) (fun i j => S (ix2 i j)) j := by
  pointwise [rawOut, O, rows_one, fresh_apply]

theorem gated_apply (o w g : FVec Ideal S1x128 .f32) (j : Fin 128) :
    gated o w g (ix3 0 0 j) = o (ix2 0 j) * Ideal.rsqrt (Ideal.div (∑ i : Fin 128, o (ix2 0 i) * o (ix2 0 i)) (Ideal.ofBits .f32 0x43000000#32)
    + Ideal.ofBits .f32 0x358637BD#32) * w (ix2 0 j) * (g (ix2 0 j) * Ideal.logistic (g (ix2 0 j))) := by
  pointwise [gated]

theorem newState_apply (q k v : FVec Ideal S1x128 .f32) (e b : FVec Ideal S1x1 .f32) (S : FVec Ideal S128x128 .f32) (i j : Fin 128) :
    newState q k v e b S (ix4 0 0 i j) = S (ix2 i j) * e (ix2 0 0) + k (ix2 0 i)
      * U (fun i => q (ix2 0 i)) (fun i => k (ix2 0 i)) (fun i => v (ix2 0 i)) (e (ix2 0 0)) (b (ix2 0 0)) (fun i j => S (ix2 i j)) j := by
  pointwise [newState, fresh_apply]
  rw [Finset.sum_eq_single i]
  · rw [IntOp.cmpi_eq_self]; rfl
  · intro x _ hx
    have hne : ¬ BitVec.ofNat 32 i.val = BitVec.ofNat 32 x.val := fun h => hx (Fin.ext (by
      have h' := congrArg BitVec.toNat h
      have hi := i.isLt; have hx' := x.isLt
      simp only [BitVec.toNat_ofNat] at h'; omega))
    simp only [IntOp.cmpi, beq_false_of_ne hne]; rfl
  · intro h; exact absurd (Finset.mem_univ i) h

/-- A head's decay and `β`, from the gates' row. -/
theorem decay_apply (c : Fin 128) (h : S1x128.Slices ![0, c.val] S1x1) (p : Vec Ideal S1x1x128 .f32) :
    decay ![0, c.val] h p (ix2 0 0) = Ideal.exp (p (ix3 0 0 c)) := by
  pointwise [decay, row]

theorem beta_apply (c : Fin 128) (h : S1x128.Slices ![0, c.val] S1x1) (p : Vec Ideal S1x1x128 .f32) :
    beta ![0, c.val] h p (ix2 0 0) = p (ix3 0 0 c) := by
  pointwise [beta, row]

/-- The row a head stores, element by element. -/
theorem outRow_apply (c d : Fin 128) (hc : S1x128.Slices ![0, c.val] S1x1) (hd : S1x128.Slices ![0, d.val] S1x1)
    (q k v p g : Vec Ideal S1x1x128 .f32) (w : Vec Ideal S1x128 .f32) (S : Vec Ideal S1x1x128x128 .f32) (j : Fin 128) :
    outRow ![0, c.val] ![0, d.val] hc hd q k v p g w S (ix3 0 0 j)
      = Y (fun i => q (ix3 0 0 i)) (fun i => k (ix3 0 0 i)) (fun i => v (ix3 0 0 i)) (Ideal.exp (p (ix3 0 0 c))) (p (ix3 0 0 d))
          (fun i j => S (ix4 0 0 i j)) (fun i => w (ix2 0 i)) (fun i => g (ix3 0 0 i)) j := by
  unfold outRow
  rw [gated_apply]
  simp only [rawOut_apply, decay_apply, beta_apply]
  pointwise [row, mat, Y]

/-- The state a head stores, element by element. -/
theorem outState_apply (c d : Fin 128) (hc : S1x128.Slices ![0, c.val] S1x1) (hd : S1x128.Slices ![0, d.val] S1x1)
    (q k v p : Vec Ideal S1x1x128 .f32) (S : Vec Ideal S1x1x128x128 .f32) (i j : Fin 128) :
    outState ![0, c.val] ![0, d.val] hc hd q k v p S (ix4 0 0 i j)
      = S (ix4 0 0 i j) * Ideal.exp (p (ix3 0 0 c)) + k (ix3 0 0 i)
        * U (fun i => q (ix3 0 0 i)) (fun i => k (ix3 0 0 i)) (fun i => v (ix3 0 0 i)) (Ideal.exp (p (ix3 0 0 c))) (p (ix3 0 0 d))
          (fun i j => S (ix4 0 0 i j)) j := by
  unfold outState
  rw [newState_apply]
  simp only [decay_apply, beta_apply]
  pointwise [row, mat]

end Cert.GdnStepIdeal.Head

end
-- ==== Proof.GdnRef.lean ====
/- The reference's single-token gated delta step, read element by element. -/
module

public import proofs.«01_k».proof.Proof.GdnHead
public import proofs.«01_k».proof.Proof.Gen.GdnStepRefIdeal.Read

@[expose] public section

set_option maxRecDepth 16384

noncomputable section

namespace Cert.GdnStepRefIdeal.Step

open Cert.GdnStepRefIdeal Cert.GdnStepRefIdeal.Gen Cert.GdnStepRefIdeal.Read Idealize.ShloMosaic Idealize.ShloMosaic.TcCoe Idealize.SL.Sem
open Cert.GdnStepIdeal.Head (U O Y)

/-- Column `i` of head `h`. -/
def col (h : Fin 4) (i : Fin 128) : Fin 512 := ⟨h.val * 128 + i.val, by have := h.isLt; have := i.isLt; omega⟩

variable (q k v : FVec Ideal S32x1x512 .f32) (p : FVec Ideal S32x1x128 .f32) (z : FVec Ideal S32x1x10240 .f32) (w : FVec Ideal S128 .f32)
  (S : FVec Ideal S32x4x128x128 .f32)

theorem u_apply (b : Fin 32) (h : Fin 4) (j : Fin 128) :
    val_main_v23 (F := Ideal) k v p S (ix3 b h j) = U (fun i => q (ix3 b 0 (col h i))) (fun i => k (ix3 b 0 (col h i)))
      (fun i => v (ix3 b 0 (col h i))) (Ideal.exp (p (ix3 b 0 ⟨h.val, by omega⟩))) (p (ix3 b 0 ⟨4 + h.val, by omega⟩))
      (fun i j => S (ix4 b h i j)) j := by
  pointwise [val_main_v23, val_main_v22, val_main_v16, val_main_v15, val_main_v14, val_main_v13, val_main_v12, val_main_v11, val_main_v10,
    val_main_v9, val_main_v8, val_main_v7, val_main_v6, val_main_v5, val_main_v4, val_main_v3, val_main_v2, val_main_v1, val_main_v0, U, col]

/-- The raw output at head `h`, column `j`. -/
theorem o_apply (b : Fin 32) (h : Fin 4) (j : Fin 128) :
    val_main_v28 (F := Ideal) q k v p S (ix3 b h j) = O (fun i => q (ix3 b 0 (col h i))) (fun i => k (ix3 b 0 (col h i)))
      (fun i => v (ix3 b 0 (col h i))) (Ideal.exp (p (ix3 b 0 ⟨h.val, by omega⟩))) (p (ix3 b 0 ⟨4 + h.val, by omega⟩))
      (fun i j => S (ix4 b h i j)) j := by
  pointwise [val_main_v28, val_main_v27, val_main_v26, val_main_v25, val_main_v24, val_main_v21, val_main_v20, val_main_v19, val_main_v18,
    val_main_v17, val_main_v4, val_main_v3, val_main_v1, val_main_v0, O, col, u_apply q k v p S]

/-- The output before its last reshape. -/
theorem y_apply (b : Fin 32) (h : Fin 4) (j : Fin 128) :
    val_main_v55 (F := Ideal) q k v p z w S (ix3 b h j) = Y (fun i => q (ix3 b 0 (col h i))) (fun i => k (ix3 b 0 (col h i)))
      (fun i => v (ix3 b 0 (col h i))) (Ideal.exp (p (ix3 b 0 ⟨h.val, by omega⟩))) (p (ix3 b 0 ⟨4 + h.val, by omega⟩))
      (fun i j => S (ix4 b h i j)) (fun i => w (ix1 i)) (fun i => z (ix3 b 0 ⟨3072 + (col h i).val, by have := (col h i).isLt; omega⟩)) j := by
  pointwise [val_main_v55, val_main_v54, val_main_call0_v5, val_main_call0_v4, val_main_call0_v3, val_main_call0_v2, val_main_call0_v1, val_main_call0_v0,
    val_main_call0_cst, val_main_call0_cst_0, val_main_v53, val_main_v52, val_main_v51, val_main_v50, val_main_v49, val_main_v48, val_main_v47, val_main_v46,
    val_main_v45, val_main_v44, val_main_v43, val_main_v42, val_main_v41, val_main_v40, val_main_v39, val_main_cst, val_main_cst_0, val_main_cst_1,
    Y, o_apply q k v p S]
  rfl

/-- The state at head `h`. -/
theorem s_apply (b : Fin 32) (h : Fin 4) (i j : Fin 128) :
    val_main_v38 (F := Ideal) k v p S (ix4 b h i j) = S (ix4 b h i j) * Ideal.exp (p (ix3 b 0 ⟨h.val, by omega⟩)) + k (ix3 b 0 (col h i)) *
      U (fun i => q (ix3 b 0 (col h i))) (fun i => k (ix3 b 0 (col h i)))
      (fun i => v (ix3 b 0 (col h i))) (Ideal.exp (p (ix3 b 0 ⟨h.val, by omega⟩))) (p (ix3 b 0 ⟨4 + h.val, by omega⟩))
      (fun i j => S (ix4 b h i j)) j := by
  pointwise [val_main_v38, val_main_v37, val_main_v36, val_main_v35, val_main_v34, val_main_v33, val_main_v32, val_main_v31, val_main_v30, val_main_v29,
    val_main_v4, val_main_v3, val_main_v1, u_apply q k v p S]
  rfl

end Cert.GdnStepRefIdeal.Step

end
-- ==== Proof.GdnValue.lean ====
/- The single-token gated delta step: both result arrays of the run, as plain functions of the argument arrays. -/
module

public import proofs.«01_k».proof.Proof.GdnHead
public import proofs.«01_k».proof.Proof.GdnRef
public import proofs.«01_k».proof.Proof.Gen.GdnStepIdeal.Value
public import Idealize.ShloMosaic.Lib.Pipeline.ValueKit

@[expose] public section

set_option maxRecDepth 16384

noncomputable section

namespace Cert.GdnStepIdeal.Step

open Cert.GdnStepIdeal Cert.GdnStepIdeal.Gen Cert.GdnStepIdeal.Head Idealize.ShloMosaic Idealize.ShloMosaic.TcCoe Idealize.SL.Sem
open Cert.GdnStepRefIdeal.Step (col)
open Idealize.ShloMosaic.Pipeline

/-- The head and the column within it of one of the 512 columns. -/
def hd (c : Fin 512) : Fin 4 := ⟨c.val / 128, by have := c.isLt; omega⟩
def cl (c : Fin 512) : Fin 128 := ⟨c.val % 128, by omega⟩

section Defs
variable (q k v : FVec Ideal S32x1x512 .f32) (p : FVec Ideal S32x1x128 .f32) (z : FVec Ideal S32x1x10240 .f32) (w : FVec Ideal S128 .f32)
  (S : FVec Ideal S32x4x128x128 .f32)

/-- The stored output at row `b`, head `h`, column `j`. -/
def yAt (b : Fin 32) (h : Fin 4) (j : Fin 128) : EReal :=
  Y (fun i => q (ix3 b 0 (col h i))) (fun i => k (ix3 b 0 (col h i)))
      (fun i => v (ix3 b 0 (col h i))) (Ideal.exp (p (ix3 b 0 ⟨h.val, by omega⟩))) (p (ix3 b 0 ⟨4 + h.val, by omega⟩))
      (fun i j => S (ix4 b h i j)) (fun i => w (ix1 i)) (fun i => z (ix3 b 0 ⟨3072 + (col h i).val, by have := (col h i).isLt; omega⟩)) j

/-- The stored state at row `b`, head `h`, entry `(i, j)`. -/
def sAt (b : Fin 32) (h : Fin 4) (i j : Fin 128) : EReal :=
  S (ix4 b h i j) * Ideal.exp (p (ix3 b 0 ⟨h.val, by omega⟩)) + k (ix3 b 0 (col h i)) *
      U (fun i => q (ix3 b 0 (col h i))) (fun i => k (ix3 b 0 (col h i)))
      (fun i => v (ix3 b 0 (col h i))) (Ideal.exp (p (ix3 b 0 ⟨h.val, by omega⟩))) (p (ix3 b 0 ⟨4 + h.val, by omega⟩))
      (fun i j => S (ix4 b h i j)) j

def yArr : FVec Ideal S32x1x512 .f32 := fun y => yAt q k v p z w S (y 0) (hd (y 2)) (cl (y 2))
def sArr : FVec Ideal S32x4x128x128 .f32 := fun y => sAt q k v p S (y 0) (y 1) (y 2) (y 3)
end Defs

section Block
variable (x0 x1 x2 : Vec Ideal S1x1x512 .f32) (x3 : Vec Ideal S1x1x128 .f32) (x4 : Vec Ideal S1x1x512 .f32) (x5 : Vec Ideal S1x128 .f32)
  (x6 : Vec Ideal S1x4x128x128 .f32)

/-- The output block at head `h`, column `j`, from the loaded blocks. -/
def yB (h : Fin 4) (j : Fin 128) : EReal :=
  Y (fun i => x0 (ix3 0 0 (col h i))) (fun i => x1 (ix3 0 0 (col h i))) (fun i => x2 (ix3 0 0 (col h i)))
    (Ideal.exp (x3 (ix3 0 0 ⟨h.val, by omega⟩))) (x3 (ix3 0 0 ⟨4 + h.val, by omega⟩))
    (fun i j => x6 (ix4 0 h i j)) (fun i => x5 (ix2 0 i)) (fun i => x4 (ix3 0 0 (col h i))) j

/-- The state block at head `h`, entry `(i, j)`, from the loaded blocks. -/
def sB (h : Fin 4) (i j : Fin 128) : EReal :=
  x6 (ix4 0 h i j) * Ideal.exp (x3 (ix3 0 0 ⟨h.val, by omega⟩)) + x1 (ix3 0 0 (col h i))
    * U (fun i => x0 (ix3 0 0 (col h i))) (fun i => x1 (ix3 0 0 (col h i))) (fun i => x2 (ix3 0 0 (col h i)))
      (Ideal.exp (x3 (ix3 0 0 ⟨h.val, by omega⟩))) (x3 (ix3 0 0 ⟨4 + h.val, by omega⟩))
      (fun i j => x6 (ix4 0 h i j)) j

/-- One head's stored row, whatever rows it loads, once those rows are the head's columns. -/
theorem out_piece (h : Fin 4) (c d : Fin 128) (ec : c.val = h.val) (ed : d.val = 4 + h.val) (hc : S1x128.Slices ![0, c.val] S1x1)
    (hd : S1x128.Slices ![0, d.val] S1x1) (q k v g : Vec Ideal S1x1x128 .f32) (S : Vec Ideal S1x1x128x128 .f32)
    (hq : ∀ i, q (ix3 0 0 i) = x0 (ix3 0 0 (col h i))) (hk : ∀ i, k (ix3 0 0 i) = x1 (ix3 0 0 (col h i)))
    (hv : ∀ i, v (ix3 0 0 i) = x2 (ix3 0 0 (col h i))) (hg : ∀ i, g (ix3 0 0 i) = x4 (ix3 0 0 (col h i)))
    (hS : ∀ i j, S (ix4 0 0 i j) = x6 (ix4 0 h i j)) (j : Fin 128) :
    outRow ![0, c.val] ![0, d.val] hc hd q k v x3 g x5 S (ix3 0 0 j) = yB x0 x1 x2 x3 x4 x5 x6 h j := by
  have ec' : c = ⟨h.val, by omega⟩ := Fin.ext ec
  have ed' : d = ⟨4 + h.val, by omega⟩ := Fin.ext ed
  rw [outRow_apply]
  simp only [hq, hk, hv, hg, hS, ec', ed']
  rfl

/-- The same for a head's stored state. -/
theorem state_piece (h : Fin 4) (c d : Fin 128) (ec : c.val = h.val) (ed : d.val = 4 + h.val) (hc : S1x128.Slices ![0, c.val] S1x1)
    (hd : S1x128.Slices ![0, d.val] S1x1) (q k v : Vec Ideal S1x1x128 .f32) (S : Vec Ideal S1x1x128x128 .f32)
    (hq : ∀ i, q (ix3 0 0 i) = x0 (ix3 0 0 (col h i))) (hk : ∀ i, k (ix3 0 0 i) = x1 (ix3 0 0 (col h i)))
    (hv : ∀ i, v (ix3 0 0 i) = x2 (ix3 0 0 (col h i)))
    (hS : ∀ i j, S (ix4 0 0 i j) = x6 (ix4 0 h i j)) (i j : Fin 128) :
    outState ![0, c.val] ![0, d.val] hc hd q k v x3 S (ix4 0 0 i j) = sB x0 x1 x2 x3 x6 h i j := by
  have ec' : c = ⟨h.val, by omega⟩ := Fin.ext ec
  have ed' : d = ⟨4 + h.val, by omega⟩ := Fin.ext ed
  rw [outState_apply]
  simp only [hq, hk, hv, hS, ec', ed']
  rfl

/-- 128 columns at offset `128 h`, and a whole 128 by 128 plane, index by index. -/
theorem emb_head (h : Fin 4) (i : Fin 128) (o : Nat) (inb) (ho : o = h.val * 128 := by rfl) :
    (Rect.unit (s := S1x1x512) ![0, 0, o] S1x1x128.size inb).emb (ix3 0 0 i) = ix3 0 0 (col h i) := by
  subst ho
  refine funext fun a => Fin.ext ?_
  match a with
  | 0 => rfl
  | 1 => rfl
  | 2 => show h.val * 128 + 1 * i.val = h.val * 128 + i.val; omega
theorem emb_plane (h : Fin 4) (i j : Fin 128) (o : Nat) (inb) (ho : o = h.val := by rfl) :
    (Rect.unit (s := S1x4x128x128) ![0, o, 0, 0] S1x1x128x128.size inb).emb (ix4 0 0 i j) = ix4 0 h i j := by
  subst ho
  refine funext fun a => Fin.ext ?_
  match a with
  | 0 => rfl
  | 1 => show h.val + 1 * 0 = h.val; omega
  | 2 => show 0 + 1 * i.val = i.val; omega
  | 3 => show 0 + 1 * j.val = j.val; omega

/-- The loads through them. -/
theorem at_head (x : Vec Ideal S1x1x512 .f32) (h : Fin 4) (i : Fin 128) (o : Nat) (inb) (ho : o = h.val * 128 := by rfl) :
    View.ld x (Rect.unit ![0, 0, o] S1x1x128.size inb) (ix3 0 0 i) = x (ix3 0 0 (col h i)) := congrArg x (emb_head h i o inb ho)
theorem at_plane (x : Vec Ideal S1x4x128x128 .f32) (h : Fin 4) (i j : Fin 128) (o : Nat) (inb) (ho : o = h.val := by rfl) :
    View.ld x (Rect.unit ![0, o, 0, 0] S1x1x128x128.size inb) (ix4 0 0 i j) = x (ix4 0 h i j) := congrArg x (emb_plane h i j o inb ho)

theorem hd_col (h : Fin 4) (j : Fin 128) : hd (col h j) = h := by
  apply Fin.ext; show (h.val * 128 + j.val) / 128 = h.val; omega
theorem cl_col (h : Fin 4) (j : Fin 128) : cl (col h j) = j := by
  apply Fin.ext; show (h.val * 128 + j.val) % 128 = j.val; omega

theorem idx_row (x : S1x1x128.Idx) : ∃ j : Fin 128, x = ix3 0 0 j := ⟨x 2, funext fun a => match a with
  | 0 => Subsingleton.elim (α := Fin 1) _ _
  | 1 => Subsingleton.elim (α := Fin 1) _ _
  | 2 => rfl⟩
theorem idx_plane (x : S1x1x128x128.Idx) : ∃ i j : Fin 128, x = ix4 0 0 i j := ⟨x 2, x 3, funext fun a => match a with
  | 0 => Subsingleton.elim (α := Fin 1) _ _
  | 1 => Subsingleton.elim (α := Fin 1) _ _
  | 2 => rfl
  | 3 => rfl⟩

/-! The loads of head 3, 2, 1 and 0. -/

theorem ld8 (x : Vec Ideal S1x1x512 .f32) (i : Fin 128) : View.ld x r0_8 (ix3 0 0 i) = x (ix3 0 0 (col 3 i)) := at_head x _ i _ _
theorem ld6 (x : Vec Ideal S1x1x512 .f32) (i : Fin 128) : View.ld x r0_6 (ix3 0 0 i) = x (ix3 0 0 (col 2 i)) := at_head x _ i _ _
theorem ld4 (x : Vec Ideal S1x1x512 .f32) (i : Fin 128) : View.ld x r0_4 (ix3 0 0 i) = x (ix3 0 0 (col 1 i)) := at_head x _ i _ _
theorem ld1 (x : Vec Ideal S1x1x512 .f32) (i : Fin 128) : View.ld x r0_1 (ix3 0 0 i) = x (ix3 0 0 (col 0 i)) := at_head x _ i _ _
theorem ldS9 (i j : Fin 128) : View.ld x6 r0_9 (ix4 0 0 i j) = x6 (ix4 0 3 i j) := at_plane x6 _ i j _ _
theorem ldS7 (i j : Fin 128) : View.ld x6 r0_7 (ix4 0 0 i j) = x6 (ix4 0 2 i j) := at_plane x6 _ i j _ _
theorem ldS5 (i j : Fin 128) : View.ld x6 r0_5 (ix4 0 0 i j) = x6 (ix4 0 1 i j) := at_plane x6 _ i j _ _
theorem ldS2 (i j : Fin 128) : View.ld x6 r0_2 (ix4 0 0 i j) = x6 (ix4 0 0 i j) := at_plane x6 _ i j _ _
theorem ld0 : View.ld x3 r0_0 = x3 := View.ld_unit_lit _ x3 (by decide)
theorem ld3 : View.ld x5 r0_3 = x5 := View.ld_unit_lit _ x5 (by decide)

/-- The output block, element by element. -/
theorem out7_apply (y : S1x1x512.Idx) : out0_7 (F := Ideal) x0 x1 x2 x3 x4 x5 x6 y = yB x0 x1 x2 x3 x4 x5 x6 (hd (y 2)) (cl (y 2)) := by
  rw [out7_eq, ld0, ld3]
  refine View.canon_apply_of_pieces (Val := Elt Ideal) (e := .f32) (fun y : S1x1x512.Idx => yB x0 x1 x2 x3 x4 x5 x6 (hd (y 2)) (cl (y 2))) _ ?_ y (cover0_7 _ _ _ _ y)
  have fin (h : Fin 4) (j : Fin 128) (z : S1x1x512.Idx) (hz : z = ix3 0 0 (col h j)) :
      yB x0 x1 x2 x3 x4 x5 x6 h j = yB x0 x1 x2 x3 x4 x5 x6 (hd (z 2)) (cl (z 2)) := by
    subst hz
    exact (congrArg₂ (yB x0 x1 x2 x3 x4 x5 x6) (hd_col h j) (cl_col h j)).symm
  intro p hp
  simp only [List.mem_cons, List.not_mem_nil, or_false] at hp
  rcases hp with rfl | rfl | rfl | rfl <;> intro x <;> obtain ⟨j, rfl⟩ := idx_row x
  · exact (out_piece x0 x1 x2 x3 x4 x5 x6 3 3 7 rfl rfl _ _ _ _ _ _ _ (ld8 x0) (ld8 x1) (ld8 x2) (ld8 x4) (ldS9 x6) j).trans (fin 3 j _ (emb_head 3 j 384 inb_S1x1x512_S1x1x128_0_0_384))
  · exact (out_piece x0 x1 x2 x3 x4 x5 x6 2 2 6 rfl rfl _ _ _ _ _ _ _ (ld6 x0) (ld6 x1) (ld6 x2) (ld6 x4) (ldS7 x6) j).trans (fin 2 j _ (emb_head 2 j 256 inb_S1x1x512_S1x1x128_0_0_256))
  · exact (out_piece x0 x1 x2 x3 x4 x5 x6 1 1 5 rfl rfl _ _ _ _ _ _ _ (ld4 x0) (ld4 x1) (ld4 x2) (ld4 x4) (ldS5 x6) j).trans (fin 1 j _ (emb_head 1 j 128 inb_S1x1x512_S1x1x128_0_0_128))
  · exact (out_piece x0 x1 x2 x3 x4 x5 x6 0 0 4 rfl rfl _ _ _ _ _ _ _ (ld1 x0) (ld1 x1) (ld1 x2) (ld1 x4) (ldS2 x6) j).trans (fin 0 j _ (emb_head 0 j 0 inb_S1x1x512_S1x1x128_0_0_0))

/-- The state block, element by element. -/
theorem out8_apply (y : S1x4x128x128.Idx) : out0_8 (F := Ideal) x0 x1 x2 x3 x4 x5 x6 y = sB x0 x1 x2 x3 x6 (y 1) (y 2) (y 3) := by
  rw [out8_eq, ld0]
  refine View.canon_apply_of_pieces (Val := Elt Ideal) (e := .f32) (fun y : S1x4x128x128.Idx => sB x0 x1 x2 x3 x6 (y 1) (y 2) (y 3)) _ ?_ y (cover0_8 _ _ _ _ y)
  have fin (h : Fin 4) (i j : Fin 128) (z : S1x4x128x128.Idx) (hz : z = ix4 0 h i j) :
      sB x0 x1 x2 x3 x6 h i j = sB x0 x1 x2 x3 x6 (z 1) (z 2) (z 3) := by subst hz; rfl
  intro p hp
  simp only [List.mem_cons, List.not_mem_nil, or_false] at hp
  rcases hp with rfl | rfl | rfl | rfl <;> intro x <;> obtain ⟨i, j, rfl⟩ := idx_plane x
  · exact (state_piece x0 x1 x2 x3 x6 3 3 7 rfl rfl _ _ _ _ _ _ (ld8 x0) (ld8 x1) (ld8 x2) (ldS9 x6) i j).trans (fin 3 i j _ (emb_plane 3 i j 3 inb_S1x4x128x128_S1x1x128x128_0_3_0_0))
  · exact (state_piece x0 x1 x2 x3 x6 2 2 6 rfl rfl _ _ _ _ _ _ (ld6 x0) (ld6 x1) (ld6 x2) (ldS7 x6) i j).trans (fin 2 i j _ (emb_plane 2 i j 2 inb_S1x4x128x128_S1x1x128x128_0_2_0_0))
  · exact (state_piece x0 x1 x2 x3 x6 1 1 5 rfl rfl _ _ _ _ _ _ (ld4 x0) (ld4 x1) (ld4 x2) (ldS5 x6) i j).trans (fin 1 i j _ (emb_plane 1 i j 1 inb_S1x4x128x128_S1x1x128x128_0_1_0_0))
  · exact (state_piece x0 x1 x2 x3 x6 0 0 4 rfl rfl _ _ _ _ _ _ (ld1 x0) (ld1 x1) (ld1 x2) (ldS2 x6) i j).trans (fin 0 i j _ (emb_plane 0 i j 0 inb_S1x4x128x128_S1x1x128x128_0_0_0_0))

end Block

variable (m : (ℓ : Loc nD τ sig) → Buf (Elt Ideal) ℓ)

theorem V_w (c : Dev nD) : V m c main_v0 = shapeCast _ (m ((c : Thread nD τ).loc main_arg5)) shapeCasts_S128_S1x128 := by
  show StableHlo.after hostOps0 _ (Proc.devRef .tc main_v0) = _
  after_results
  rfl

/-- The row a grid point works on. -/
def row (t : Fin cfg0.N) : Fin 32 := ⟨(grid0.coords t 0).val, (grid0.coords t 0).isLt⟩

/-! Each input block, element by element, is its array at that row. -/

theorem blk0 (c : Dev nD) (t : Fin cfg0.N) (i : Fin 512) : iblk m c 0 t (ix3 0 0 i) = m ((c : Thread nD τ).loc main_arg0) (ix3 (row t) 0 i) := by
  have e : ∀ t : Fin cfg0.N, win0_0.index t = ![(grid0.coords t 0).val, 0, 0] := (by decide +kernel : ∀ t : Fin grid0.N, _)
  blk_simp [iblk]
  rw [V_main_arg0]
  exact congrArg _ (by blk_ext [e, row])

theorem blk1 (c : Dev nD) (t : Fin cfg0.N) (i : Fin 512) : iblk m c 1 t (ix3 0 0 i) = m ((c : Thread nD τ).loc main_arg1) (ix3 (row t) 0 i) := by
  have e : ∀ t : Fin cfg0.N, win0_1.index t = ![(grid0.coords t 0).val, 0, 0] := (by decide +kernel : ∀ t : Fin grid0.N, _)
  blk_simp [iblk]
  rw [V_main_arg1]
  exact congrArg _ (by blk_ext [e, row])

theorem blk2 (c : Dev nD) (t : Fin cfg0.N) (i : Fin 512) : iblk m c 2 t (ix3 0 0 i) = m ((c : Thread nD τ).loc main_arg2) (ix3 (row t) 0 i) := by
  have e : ∀ t : Fin cfg0.N, win0_2.index t = ![(grid0.coords t 0).val, 0, 0] := (by decide +kernel : ∀ t : Fin grid0.N, _)
  blk_simp [iblk]
  rw [V_main_arg2]
  exact congrArg _ (by blk_ext [e, row])

theorem blk3 (c : Dev nD) (t : Fin cfg0.N) (i : Fin 128) : iblk m c 3 t (ix3 0 0 i) = m ((c : Thread nD τ).loc main_arg3) (ix3 (row t) 0 i) := by
  have e : ∀ t : Fin cfg0.N, win0_3.index t = ![(grid0.coords t 0).val, 0, 0] := (by decide +kernel : ∀ t : Fin grid0.N, _)
  blk_simp [iblk]
  rw [V_main_arg3]
  exact congrArg _ (by blk_ext [e, row])

theorem blk4 (c : Dev nD) (t : Fin cfg0.N) (i : Fin 512) : iblk m c 4 t (ix3 0 0 i) = m ((c : Thread nD τ).loc main_arg4) (ix3 (row t) 0 ⟨3072 + i.val, by omega⟩) := by
  have e : ∀ t : Fin cfg0.N, win0_4.index t = ![(grid0.coords t 0).val, 0, 6] := (by decide +kernel : ∀ t : Fin grid0.N, _)
  blk_simp [iblk]
  rw [V_main_arg4]
  exact congrArg _ (by blk_ext [e, row])

theorem blk6 (c : Dev nD) (t : Fin cfg0.N) (h : Fin 4) (i j : Fin 128) : iblk m c 6 t (ix4 0 h i j) = m ((c : Thread nD τ).loc main_arg6) (ix4 (row t) h i j) := by
  have e : ∀ t : Fin cfg0.N, win0_6.index t = ![(grid0.coords t 0).val, 0, 0, 0] := (by decide +kernel : ∀ t : Fin grid0.N, _)
  blk_simp [iblk]
  rw [V_main_arg6]
  exact congrArg _ (by blk_ext [e, row])

theorem blk5 (c : Dev nD) (t : Fin cfg0.N) (i : Fin 128) : iblk m c 5 t (ix2 0 i) = m ((c : Thread nD τ).loc main_arg5) (ix1 i) := by
  have e : ∀ t : Fin cfg0.N, win0_5.index t = ![0, 0] := (by decide +kernel : ∀ t : Fin grid0.N, _)
  blk_simp [iblk]
  rw [V_w, show (win0_5.blk t).view.emb (ix2 0 i) = ix2 0 i by blk_ext [e]]
  generalize m ((c : Thread nD τ).loc main_arg5) = w
  pointwise

theorem final_y (c : Dev nD) : (dats m 0 c).arrAt 7 cfg0.N = yArr (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) := by
  have e7 : ∀ t : Fin cfg0.N, win0_7.index t = ![(grid0.coords t 0).val, 0, 0] := (by decide +kernel : ∀ t : Fin grid0.N, _)
  refine (dats m 0 c).arrAt_eq_of_covers 7 _ (by decide +kernel) fun t hf y => ?_
  blk_simp
  rw [after0_7, out7_apply]
  idx_bounds y
  have hy0 : (win0_7.blk t).view.emb y 0 = row t := by apply Fin.ext; blk_simp [e7, row]
  have hy2 : (win0_7.blk t).view.emb y 2 = y 2 := by apply Fin.ext; blk_simp [e7]
  have key (h : Fin 4) (j : Fin 128) : yB (iblk m c 0 t) (iblk m c 1 t) (iblk m c 2 t) (iblk m c 3 t) (iblk m c 4 t) (iblk m c 5 t) (iblk m c 6 t) h j
      = yAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (row t) h j := by
    unfold yB yAt
    simp only [blk0, blk1, blk2, blk3, blk4, blk5, blk6]
  unfold yArr
  rw [hy0, hy2]
  exact key _ _

theorem final_s (c : Dev nD) : (dats m 0 c).arrAt 8 cfg0.N = sArr (m ((c : Thread nD τ).loc main_arg0)) (m ((c : Thread nD τ).loc main_arg1))
    (m ((c : Thread nD τ).loc main_arg2)) (m ((c : Thread nD τ).loc main_arg3))
    (m ((c : Thread nD τ).loc main_arg6)) := by
  have e8 : ∀ t : Fin cfg0.N, win0_8.index t = ![(grid0.coords t 0).val, 0, 0, 0] := (by decide +kernel : ∀ t : Fin grid0.N, _)
  refine (dats m 0 c).arrAt_eq_of_covers 8 _ (by decide +kernel) fun t hf y => ?_
  blk_simp
  rw [after0_8, out8_apply]
  idx_bounds y
  have hy0 : (win0_8.blk t).view.emb y 0 = row t := by apply Fin.ext; blk_simp [e8, row]
  have hy1 : (win0_8.blk t).view.emb y 1 = y 1 := by apply Fin.ext; blk_simp [e8]
  have hy2 : (win0_8.blk t).view.emb y 2 = y 2 := by apply Fin.ext; blk_simp [e8]
  have hy3 : (win0_8.blk t).view.emb y 3 = y 3 := by apply Fin.ext; blk_simp [e8]
  have key (h : Fin 4) (i j : Fin 128) : sB (iblk m c 0 t) (iblk m c 1 t) (iblk m c 2 t) (iblk m c 3 t) (iblk m c 6 t) h i j
      = sAt (m ((c : Thread nD τ).loc main_arg0)) (m ((c : Thread nD τ).loc main_arg1)) (m ((c : Thread nD τ).loc main_arg2))
        (m ((c : Thread nD τ).loc main_arg3)) (m ((c : Thread nD τ).loc main_arg6)) (row t) h i j := by
    unfold sB sAt
    simp only [blk0, blk1, blk2, blk3, blk6]
  unfold sArr
  rw [hy0, hy1, hy2, hy3]
  exact key _ _ _

end Cert.GdnStepIdeal.Step

end
-- ==== Proof.GdnAlgebra.lean ====
/- The single-token gated delta step: the kernel's run and the reference's run end in the same two arrays. -/
module

public import proofs.«01_k».proof.Proof.GdnValue
public import proofs.«01_k».proof.Proof.Gen.GdnStepRefIdeal.Run

@[expose] public section

set_option maxRecDepth 16384

noncomputable section

namespace Cert.GdnStepAlgebra

open Idealize.ShloMosaic Idealize.ShloMosaic.TcCoe Idealize.SL.Sem
open Cert.GdnStepRefIdeal Cert.GdnStepRefIdeal.Gen Cert.GdnStepRefIdeal.Read Cert.GdnStepRefIdeal.Step
open Cert.GdnStepIdeal.Step (yArr sArr yAt sAt hd cl)

variable (q k v : FVec Ideal S32x1x512 .f32) (p : FVec Ideal S32x1x128 .f32) (z : FVec Ideal S32x1x10240 .f32) (w : FVec Ideal S128 .f32)
  (S : FVec Ideal S32x4x128x128 .f32)

/-- The reference's output array. -/
theorem ref_y : val_main_v56 (F := Ideal) q k v p z w S = yArr q k v p z w S := by
  funext y
  obtain ⟨b, o, c, rfl⟩ : ∃ (b : Fin 32) (o : Fin 1) (c : Fin 512), y = ix3 b o c := ⟨y 0, y 1, y 2, funext fun a => match a with
    | 0 => rfl
    | 1 => rfl
    | 2 => rfl⟩
  have e : idx_main_v56 (ix3 b o c) = ix3 b (hd c) (cl c) := funext fun a => Fin.ext (by
    have ho : o = 0 := Subsingleton.elim _ _
    subst ho
    have hb := b.isLt
    have hc := c.isLt
    match a with
    | 0 => show ((b.val * 1 + 0) * 512 + c.val) / 512 = b.val; omega
    | 1 => show ((b.val * 1 + 0) * 512 + c.val) / 128 % 4 = c.val / 128; omega
    | 2 => show ((b.val * 1 + 0) * 512 + c.val) % 128 = c.val % 128; omega)
  rw [val_main_v56_apply, e, y_apply]
  rfl

/-- The reference's state array. -/
theorem ref_s : val_main_v38 (F := Ideal) k v p S = sArr q k v p S := by
  funext y
  obtain ⟨b, h, i, j, rfl⟩ : ∃ (b : Fin 32) (h : Fin 4) (i j : Fin 128), y = ix4 b h i j := ⟨y 0, y 1, y 2, y 3, funext fun a => match a with
    | 0 => rfl
    | 1 => rfl
    | 2 => rfl
    | 3 => rfl⟩
  rw [s_apply q]
  rfl

/-! ## The two runs -/

/-- The two results, from the kernel's own argument arrays. -/
def result0 (m : (ℓ : Loc Cert.GdnStepIdeal.nD Cert.GdnStepIdeal.τ Cert.GdnStepIdeal.sig) → Buf (Elt Ideal) ℓ) (c : Dev Cert.GdnStepIdeal.nD) :
    Buf (Elt Ideal) ((c.tc : Thread Cert.GdnStepIdeal.nD Cert.GdnStepIdeal.τ).loc Cert.GdnStepIdeal.main_v1_0) :=
  yArr (m ((c.tc : Thread Cert.GdnStepIdeal.nD Cert.GdnStepIdeal.τ).loc Cert.GdnStepIdeal.main_arg0))
    (m ((c.tc : Thread Cert.GdnStepIdeal.nD Cert.GdnStepIdeal.τ).loc Cert.GdnStepIdeal.main_arg1))
    (m ((c.tc : Thread Cert.GdnStepIdeal.nD Cert.GdnStepIdeal.τ).loc Cert.GdnStepIdeal.main_arg2))
    (m ((c.tc : Thread Cert.GdnStepIdeal.nD Cert.GdnStepIdeal.τ).loc Cert.GdnStepIdeal.main_arg3))
    (m ((c.tc : Thread Cert.GdnStepIdeal.nD Cert.GdnStepIdeal.τ).loc Cert.GdnStepIdeal.main_arg4))
    (m ((c.tc : Thread Cert.GdnStepIdeal.nD Cert.GdnStepIdeal.τ).loc Cert.GdnStepIdeal.main_arg5))
    (m ((c.tc : Thread Cert.GdnStepIdeal.nD Cert.GdnStepIdeal.τ).loc Cert.GdnStepIdeal.main_arg6))
def result1 (m : (ℓ : Loc Cert.GdnStepIdeal.nD Cert.GdnStepIdeal.τ Cert.GdnStepIdeal.sig) → Buf (Elt Ideal) ℓ) (c : Dev Cert.GdnStepIdeal.nD) :
    Buf (Elt Ideal) ((c.tc : Thread Cert.GdnStepIdeal.nD Cert.GdnStepIdeal.τ).loc Cert.GdnStepIdeal.main_v1_1) :=
  sArr (m ((c.tc : Thread Cert.GdnStepIdeal.nD Cert.GdnStepIdeal.τ).loc Cert.GdnStepIdeal.main_arg0))
    (m ((c.tc : Thread Cert.GdnStepIdeal.nD Cert.GdnStepIdeal.τ).loc Cert.GdnStepIdeal.main_arg1))
    (m ((c.tc : Thread Cert.GdnStepIdeal.nD Cert.GdnStepIdeal.τ).loc Cert.GdnStepIdeal.main_arg2))
    (m ((c.tc : Thread Cert.GdnStepIdeal.nD Cert.GdnStepIdeal.τ).loc Cert.GdnStepIdeal.main_arg3))
    (m ((c.tc : Thread Cert.GdnStepIdeal.nD Cert.GdnStepIdeal.τ).loc Cert.GdnStepIdeal.main_arg6))

/-- The kernel's two arrays are these. -/
theorem kernel0 (m : (ℓ : Loc Cert.GdnStepIdeal.nD Cert.GdnStepIdeal.τ Cert.GdnStepIdeal.sig) → Buf (Elt Ideal) ℓ) (c : Dev Cert.GdnStepIdeal.nD) :
    (Cert.GdnStepIdeal.Gen.dats m 0 c).arrAt 7 Cert.GdnStepIdeal.cfg0.N = result0 m c := Cert.GdnStepIdeal.Step.final_y m c
theorem kernel1 (m : (ℓ : Loc Cert.GdnStepIdeal.nD Cert.GdnStepIdeal.τ Cert.GdnStepIdeal.sig) → Buf (Elt Ideal) ℓ) (c : Dev Cert.GdnStepIdeal.nD) :
    (Cert.GdnStepIdeal.Gen.dats m 0 c).arrAt 8 Cert.GdnStepIdeal.cfg0.N = result1 m c := Cert.GdnStepIdeal.Step.final_s m c

variable (m : (ℓ : Loc Cert.GdnStepIdeal.nD Cert.GdnStepIdeal.τ Cert.GdnStepIdeal.sig) → Buf (Elt Ideal) ℓ)
  (m' : (ℓ : Loc nD τ sig) → Buf (Elt Ideal) ℓ) (c : Dev nD)

/-- So are the reference's, from memories that agree on the arguments. -/
theorem agree0
    (e0 : m' ((c.tc : Thread Cert.GdnStepRefIdeal.nD Cert.GdnStepRefIdeal.τ).loc Cert.GdnStepRefIdeal.main_arg0) = m ((c.tc : Thread Cert.GdnStepIdeal.nD Cert.GdnStepIdeal.τ).loc Cert.GdnStepIdeal.main_arg0))
    (e1 : m' ((c.tc : Thread Cert.GdnStepRefIdeal.nD Cert.GdnStepRefIdeal.τ).loc Cert.GdnStepRefIdeal.main_arg1) = m ((c.tc : Thread Cert.GdnStepIdeal.nD Cert.GdnStepIdeal.τ).loc Cert.GdnStepIdeal.main_arg1))
    (e2 : m' ((c.tc : Thread Cert.GdnStepRefIdeal.nD Cert.GdnStepRefIdeal.τ).loc Cert.GdnStepRefIdeal.main_arg2) = m ((c.tc : Thread Cert.GdnStepIdeal.nD Cert.GdnStepIdeal.τ).loc Cert.GdnStepIdeal.main_arg2))
    (e3 : m' ((c.tc : Thread Cert.GdnStepRefIdeal.nD Cert.GdnStepRefIdeal.τ).loc Cert.GdnStepRefIdeal.main_arg3) = m ((c.tc : Thread Cert.GdnStepIdeal.nD Cert.GdnStepIdeal.τ).loc Cert.GdnStepIdeal.main_arg3))
    (e4 : m' ((c.tc : Thread Cert.GdnStepRefIdeal.nD Cert.GdnStepRefIdeal.τ).loc Cert.GdnStepRefIdeal.main_arg4) = m ((c.tc : Thread Cert.GdnStepIdeal.nD Cert.GdnStepIdeal.τ).loc Cert.GdnStepIdeal.main_arg4))
    (e5 : m' ((c.tc : Thread Cert.GdnStepRefIdeal.nD Cert.GdnStepRefIdeal.τ).loc Cert.GdnStepRefIdeal.main_arg5) = m ((c.tc : Thread Cert.GdnStepIdeal.nD Cert.GdnStepIdeal.τ).loc Cert.GdnStepIdeal.main_arg5))
    (e6 : m' ((c.tc : Thread Cert.GdnStepRefIdeal.nD Cert.GdnStepRefIdeal.τ).loc Cert.GdnStepRefIdeal.main_arg6) = m ((c.tc : Thread Cert.GdnStepIdeal.nD Cert.GdnStepIdeal.τ).loc Cert.GdnStepIdeal.main_arg6)) :
    Cert.GdnStepRefIdeal.Value.res_main_v56 m' c = result0 m c := by
  rw [val_main_v56_eq, ref_y, e0, e1, e2, e3, e4, e5, e6]
  rfl
theorem agree1
    (e0 : m' ((c.tc : Thread Cert.GdnStepRefIdeal.nD Cert.GdnStepRefIdeal.τ).loc Cert.GdnStepRefIdeal.main_arg0) = m ((c.tc : Thread Cert.GdnStepIdeal.nD Cert.GdnStepIdeal.τ).loc Cert.GdnStepIdeal.main_arg0))
    (e1 : m' ((c.tc : Thread Cert.GdnStepRefIdeal.nD Cert.GdnStepRefIdeal.τ).loc Cert.GdnStepRefIdeal.main_arg1) = m ((c.tc : Thread Cert.GdnStepIdeal.nD Cert.GdnStepIdeal.τ).loc Cert.GdnStepIdeal.main_arg1))
    (e2 : m' ((c.tc : Thread Cert.GdnStepRefIdeal.nD Cert.GdnStepRefIdeal.τ).loc Cert.GdnStepRefIdeal.main_arg2) = m ((c.tc : Thread Cert.GdnStepIdeal.nD Cert.GdnStepIdeal.τ).loc Cert.GdnStepIdeal.main_arg2))
    (e3 : m' ((c.tc : Thread Cert.GdnStepRefIdeal.nD Cert.GdnStepRefIdeal.τ).loc Cert.GdnStepRefIdeal.main_arg3) = m ((c.tc : Thread Cert.GdnStepIdeal.nD Cert.GdnStepIdeal.τ).loc Cert.GdnStepIdeal.main_arg3))
    (e4 : m' ((c.tc : Thread Cert.GdnStepRefIdeal.nD Cert.GdnStepRefIdeal.τ).loc Cert.GdnStepRefIdeal.main_arg4) = m ((c.tc : Thread Cert.GdnStepIdeal.nD Cert.GdnStepIdeal.τ).loc Cert.GdnStepIdeal.main_arg4))
    (e5 : m' ((c.tc : Thread Cert.GdnStepRefIdeal.nD Cert.GdnStepRefIdeal.τ).loc Cert.GdnStepRefIdeal.main_arg5) = m ((c.tc : Thread Cert.GdnStepIdeal.nD Cert.GdnStepIdeal.τ).loc Cert.GdnStepIdeal.main_arg5))
    (e6 : m' ((c.tc : Thread Cert.GdnStepRefIdeal.nD Cert.GdnStepRefIdeal.τ).loc Cert.GdnStepRefIdeal.main_arg6) = m ((c.tc : Thread Cert.GdnStepIdeal.nD Cert.GdnStepIdeal.τ).loc Cert.GdnStepIdeal.main_arg6)) :
    val_main_v38 (F := Ideal) (m' ((c.tc : Thread nD τ).loc main_arg1)) (m' ((c.tc : Thread nD τ).loc main_arg2))
      (m' ((c.tc : Thread nD τ).loc main_arg3)) (m' ((c.tc : Thread nD τ).loc main_arg6)) = result1 m c := by
  rw [ref_s (m' ((c.tc : Thread nD τ).loc main_arg0)), e0, e1, e2, e3, e6]
  rfl

end Cert.GdnStepAlgebra

end
-- ==== Proof.InProjIdealRun.lean ====
/- The launch of the projection call (`InProjIdeal`). Along a row of the grid the kernel norms its block of rows once, at the
   row's first point, keeps the normed rows in its scratch and multiplies them with one block of the weight's columns per
   point; the narrow second output is stored at the row's first point only and written back at its last. The proof data
   says what every buffer holds after every point as a function of the input blocks AT that point: the normed rows do
   not depend on the place in the row, because the blocks of the rows and of the weight vector do not move along it. -/
module

public import proofs.«01_k».proof.Proof.Gen.InProjIdeal.Frame
public import proofs.«01_k».proof.Proof.Gen.InProjIdeal.Skeleton
public import Idealize.ShloMosaic.Lib.Pipeline.ValueKit
public import Idealize.ShloMosaic.Lib.Claim
public import Idealize.ShloMosaic.Lib.VecWindow

@[expose] public section

set_option maxRecDepth 16384

noncomputable section

namespace Cert.InProjIdeal.Proj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

/-- The body's condition holds exactly at the first point of each row of the grid. -/
theorem first_iff : ∀ t : Fin cfg0.N, k0_cond1 (grid0.coords t) = 1#1 ↔ t.val % 20 = 0 :=
  (fun t => by
    have ht : t.val < 320 := Nat.lt_of_lt_of_eq t.isLt N_0
    have e1 : (grid0.coords t 1).val = t.val / 1 % 20 := Pipeline.Grid.coords_val t 1 (by decide) rfl
    simp only [k0_cond1, e1]
    word_cmp
   : ∀ t : Fin grid0.N, k0_cond1 (grid0.coords t) = 1#1 ↔ t.val % 20 = 0)

set_option maxHeartbeats 1000000 in
/-- At a row's first point the body leaves the normed rows in the scratch and both products in the outputs. -/
theorem body_first (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x128 .bf16) (harg5 : arg5.IsWhole) (arg6 : Memref sig .tc .vmem S1024x512 .f32) (harg6 : arg6.IsWhole) (arg7 : Memref sig .tc .vmem S1024x128 .f32) (harg7 : arg7.IsWhole) (arg8 : Memref sig .tc .vmem S1024x1024 .bf16) (harg8 : arg8.IsWhole) (hc : k0_cond1 i = 1#1)
    (x0 : Vec F S1024x1024 .f32) (x1 : Vec F S1x1024 .f32) (x2 : Vec F S1024x512 .bf16) (x3 : Vec F S1024x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 (k0_pay1 x0 x1) x2) ∗ owns (c : Thread nD τ) arg7 fullShare (k0_pay2 (k0_pay1 x0 x1) x3) ∗ owns (c : Thread nD τ) arg8 fullShare (k0_pay1 x0 x1)) -∗ K ⟨⟩))
      ⊢ wp frame (wpE (defs₀ (F := F)) Variants.none c none) E (cc0_rms_matmul i arg2 harg2 arg3 harg3 arg4 harg4 arg5 harg5 arg6 harg6 arg7 harg7 arg8 harg8) K := by
  simp only [cc0_rms_matmul_eq_skeleton]; unfold cc0_rms_matmul_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (View.read_writes_full (s := S1024x512) _ _ _ _ _).trans ?_
    frame_open
    simp (disch := decide) only [View.read_writes_junk_eq_canon, View.canon_cons_unit_lit', View.ld_unit_lit', View.readCov_unit_lit', View.readCov_cons_unit_lit', View.readAt_eq_ld, Memref.IsWhole.read_unread, harg2, harg3, harg4]
    done
  isplitl [H5]
  · iexists _; isplitr
    swap; · iexact H5
    ipureintro
    refine (View.read_writes_full (s := S1024x128) _ _ _ _ _).trans ?_
    frame_open
    simp (disch := decide) only [View.read_writes_junk_eq_canon, View.canon_cons_unit_lit', View.ld_unit_lit', View.readCov_unit_lit', View.readCov_cons_unit_lit', View.readAt_eq_ld, Memref.IsWhole.read_unread, harg2, harg3, harg5]
    done
  iexists _; isplitr
  swap; · iexact H6
  ipureintro
  refine (View.read_writes_full (s := S1024x1024) _ _ _ _ _).trans ?_
  simp (disch := decide) only [View.read_writes_junk_eq_canon, View.canon_cons_unit_lit', View.ld_unit_lit', View.readCov_unit_lit', View.readCov_cons_unit_lit', View.readAt_eq_ld, Memref.IsWhole.read_unread, harg2, harg3]
  done

set_option maxHeartbeats 1000000 in
/-- At every other point it multiplies the rows found in the scratch and touches neither them nor the narrow output. -/
theorem body_later (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x512 .bf16) (harg4 : arg4.IsWhole) (arg5 : Memref sig .tc .vmem S1024x128 .bf16) (harg5 : arg5.IsWhole) (arg6 : Memref sig .tc .vmem S1024x512 .f32) (harg6 : arg6.IsWhole) (arg7 : Memref sig .tc .vmem S1024x128 .f32) (harg7 : arg7.IsWhole) (arg8 : Memref sig .tc .vmem S1024x1024 .bf16) (harg8 : arg8.IsWhole) (hc : ¬k0_cond1 i = 1#1)
    (x0 : Vec F S1024x1024 .f32) (x1 : Vec F S1x1024 .f32) (x2 : Vec F S1024x512 .bf16) (x3 : Vec F S1024x128 .bf16) (x5 : Vec F S1024x128 .f32) (x6 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5 ∗ owns (c : Thread nD τ) arg8 fullShare x6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay3 x6 x2) ∗ owns (c : Thread nD τ) arg7 fullShare x5 ∗ owns (c : Thread nD τ) arg8 fullShare x6) -∗ K ⟨⟩))
      ⊢ wp frame (wpE (defs₀ (F := F)) Variants.none c none) E (cc0_rms_matmul i arg2 harg2 arg3 harg3 arg4 harg4 arg5 harg5 arg6 harg6 arg7 harg7 arg8 harg8) K := by
  simp only [cc0_rms_matmul_eq_skeleton]; unfold cc0_rms_matmul_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg7.eq_unread hf5; obtain rfl := harg8.eq_unread hf6
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    refine (View.read_writes_full (s := S1024x512) _ _ _ _ _).trans ?_
    simp (disch := decide) only [View.read_writes_junk_eq_canon, View.canon_cons_unit_lit', View.ld_unit_lit', View.readCov_unit_lit', View.readCov_cons_unit_lit', View.readAt_eq_ld, Memref.IsWhole.read_unread, harg8, harg4]
    done
  isplitl [H5]
  · iexists _; isplitr; · ipureintro; exact harg7.read_unread _
    iexact H5
  iexists _; isplitr; · ipureintro; exact harg8.read_unread _
  iexact H6

/-! ## What the buffers hold after a point -/

/-- Window 0's staging buffer at a point. -/
abbrev stg0 (t : Fin cfg0.N) : Memref sig .tc .vmem S1024x1024 .f32 := win0_0.stage (cfg0.slots t 0)
/-- Window 1's staging buffer at a point. -/
abbrev stg1 (t : Fin cfg0.N) : Memref sig .tc .vmem S1x1024 .f32 := win0_1.stage (cfg0.slots t 1)
/-- Window 2's staging buffer at a point. -/
abbrev stg2 (t : Fin cfg0.N) : Memref sig .tc .vmem S1024x512 .bf16 := win0_2.stage (cfg0.slots t 2)
/-- Window 3's staging buffer at a point. -/
abbrev stg3 (t : Fin cfg0.N) : Memref sig .tc .vmem S1024x128 .bf16 := win0_3.stage (cfg0.slots t 3)
/-- Window 4's staging buffer at a point. -/
abbrev stg4 (t : Fin cfg0.N) : Memref sig .tc .vmem S1024x512 .f32 := win0_4.stage (cfg0.slots t 4)
/-- Window 5's staging buffer at a point. -/
abbrev stg5 (t : Fin cfg0.N) : Memref sig .tc .vmem S1024x128 .f32 := win0_5.stage (cfg0.slots t 5)
/-- The scratch of normed rows. -/
abbrev scr : Memref sig .tc .vmem S1024x1024 .bf16 := Memref.whole cc0_scratch0

/-- The normed rows of the point's block. -/
def norm (c : Dev nD) (t : Fin cfg0.N) : Vec F S1024x1024 .bf16 := k0_pay1 (iblk m c 0 t) (iblk m c 1 t)

/-- Away from a row's first point the normed rows are those of the point before. -/
theorem norm_prev (c : Dev nD) (t p : Fin cfg0.N) (h : ¬t.val % 20 = 0) (hp : p.val = t.val - 1) : norm m c t = norm m c p := by
  have e0 : ∀ t : Fin cfg0.N, win0_0.index t = ![t.val / 20, 0] := (by decide +kernel : ∀ t : Fin grid0.N, _)
  have e1 : ∀ t : Fin cfg0.N, win0_1.index t = ![0, 0] := (by decide +kernel : ∀ t : Fin grid0.N, _)
  have hq : p.val / 20 = t.val / 20 := by omega
  have b0 : (iblk m c 0 t : Vec F S1024x1024 .f32) = iblk m c 0 p := by
    funext y; blk_simp [iblk]; exact congrArg _ (by blk_ext [e0, hq])
  have b1 : (iblk m c 1 t : Vec F S1x1024 .f32) = iblk m c 1 p := by
    funext y; blk_simp [iblk]; exact congrArg _ (by blk_ext [e1])
  show k0_pay1 (iblk m c 0 t : Vec F S1024x1024 .f32) (iblk m c 1 t : Vec F S1x1024 .f32) = k0_pay1 (iblk m c 0 p : Vec F S1024x1024 .f32) (iblk m c 1 p : Vec F S1x1024 .f32)
  rw [b0, b1]

/-- The wide output's block. -/
def wide (c : Dev nD) (t : Fin cfg0.N) : Vec F S1024x512 .f32 := k0_pay3 (norm m c t) (iblk m c 2 t)
/-- The narrow output's block. -/
def narrow (c : Dev nD) (t : Fin cfg0.N) : Vec F S1024x128 .f32 := k0_pay2 (norm m c t) (iblk m c 3 t)

/-- Away from a row's first point the narrow block is that of the point before. -/
theorem narrow_prev (c : Dev nD) (t p : Fin cfg0.N) (h : ¬t.val % 20 = 0) (hp : p.val = t.val - 1) : narrow m c t = narrow m c p := by
  have e3 : ∀ t : Fin cfg0.N, win0_3.index t = ![0, 0] := (by decide +kernel : ∀ t : Fin grid0.N, _)
  have b3 : (iblk m c 3 t : Vec F S1024x128 .bf16) = iblk m c 3 p := by
    funext y; blk_simp [iblk]; exact congrArg _ (by blk_ext [e3])
  show k0_pay2 (norm m c t) (iblk m c 3 t : Vec F S1024x128 .bf16) = k0_pay2 (norm m c p) (iblk m c 3 p : Vec F S1024x128 .bf16)
  rw [norm_prev m c t p h hp, b3]

/-- Before the first point the scratch is anything; before any other it is the normed rows of the point before. -/
def inv (c : Dev nD) : (n : ℕ) → n ≤ cfg0.N → sProp 𝕄
  | 0, _ => Pipeline.ΦA spec0 c
  | n + 1, hn => iprop(owns (c : Thread nD τ) scr fullShare (norm m c ⟨n, hn⟩) ∗ (∃ r, prngReg c r))

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => wide m c t
    | ⟨5, _⟩ => narrow m c t
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = wide m c t := by dsimp only [dats]
theorem after_5 (c : Dev nD) (t : Fin cfg0.N) : (dats m 0 c).after 5 t = narrow m c t := by dsimp only [dats]

/-- The narrow output's window is idle exactly away from a row's first point. -/
theorem idle_5 (t : Fin cfg0.N) : cfg0.idle 5 (cfg0.grid.coords t) = !decide (t.val % 20 = 0) := by
  show (!(k0_cond1 (grid0.coords t) == 1#1)) = _
  by_cases h : t.val % 20 = 0
  · rw [(first_iff t).mpr h]; simp [h]
  · have := mt (first_iff t).mp h
    simp [h, this]

/-- Away from a row's first point the narrow output's buffer still holds its block. -/
theorem before_5 (c : Dev nD) (d) : ∀ (n : ℕ) (hn : n < cfg0.N), ¬n % 20 = 0 → (dats m 0 c).before 5 ⟨n, hn⟩ d = narrow m c ⟨n, hn⟩ := by
  intro n
  induction n with
  | zero => intro _ h; exact absurd rfl h
  | succ n ih =>
    intro hn h
    have hp : n < cfg0.N := Nat.lt_of_succ_lt hn
    have hf : (cfg0.win 5).flush ⟨n, hp⟩ = false := Bool.eq_false_iff.mpr fun e => by
      have h' : n % 20 = 19 := (flush0_5 ⟨n, hp⟩).mp e
      omega
    have e := (dats m 0 c).before_of_pos 5 ⟨n + 1, hn⟩ (Nat.succ_ne_zero n) ((cfg0.win 5).fetch_out rfl _) d
    refine e.trans ?_
    show (if (cfg0.win 5).flush ⟨n, hp⟩ then d else (dats m 0 c).left 5 ⟨n, hp⟩ d) = _
    rw [hf, if_neg Bool.false_ne_true, narrow_prev m c ⟨n + 1, hn⟩ ⟨n, hp⟩ h rfl]
    have hi := idle_5 ⟨n, hp⟩
    unfold Dat.left
    by_cases h0 : n % 20 = 0
    · rw [show (!decide (n % 20 = 0)) = false by simp [h0]] at hi
      rw [hi]
      show (dats m 0 c).kept 5 ⟨n, hp⟩ d = _
      unfold Dat.kept
      rw [Pipeline.fill_of_clip_none (cfg := cfg0) 5 _ (fun _ => rfl) d ((dats m 0 c).after 5 ⟨n, hp⟩), Window.fill_cut, after_5]
    · rw [show (!decide (n % 20 = 0)) = true by simp [h0]] at hi
      rw [hi]
      exact ih hp h0

/-- The narrow output's buffer at its block is what the pipeline asks of it, stored at this point or not. -/
theorem leaves_5 (c : Dev nD) (t : Fin cfg0.N) :
    owns (c : Thread nD τ) (stg5 t) fullShare (narrow m c t) ⊢ ((dats m 0 c).leavesExact 5 t : sProp 𝕄) := by
  unfold Dat.leavesExact
  by_cases h0 : t.val % 20 = 0
  · rw [idle_5, show (!decide (t.val % 20 = 0)) = false by simp [h0]]
    show _ ⊢ owns (c : Thread nD τ) (stg5 t) fullShare ((dats m 0 c).after 5 t)
    rw [after_5]
  · rw [idle_5, show (!decide (t.val % 20 = 0)) = true by simp [h0]]
    cases (cfg0.win 5).flush t
    · show _ ⊢ iprop(∃ d, owns (c : Thread nD τ) (stg5 t) fullShare ((dats m 0 c).before 5 t d))
      iintro H
      iexists (narrow m c t)
      rw [before_5 m c _ t.val t.isLt h0]
      iexact H
    · show _ ⊢ owns (c : Thread nD τ) (stg5 t) fullShare ((dats m 0 c).after 5 t)
      rw [after_5]

/-! ## The body obligation -/

/-- What the body is called with, window by window, -/
def pre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d)))

/-- and what it gives back. -/
def post (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ (dats m 0 c).leavesExact 5 t)

/-- The scratch, whatever it holds, with the generator register: the invariant at its weakest. -/
theorem weakest (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- The invariant gives the scratch at some contents, at every point. -/
theorem inv_any (c : Dev nD) (n : ℕ) (h : n ≤ cfg0.N) : inv m c n h ⊢ (Pipeline.ΦA spec0 c : sProp 𝕄) := by
  cases n with
  | zero => exact Idealize.SL.BI.Entails.refl _
  | succ n =>
    rw [weakest]; unfold inv
    iintro ⟨HS, Hg⟩
    isplitl [HS]
    · iexists _; iexact HS
    iexact Hg

set_option maxHeartbeats 3200000 in
/-- The body at any point. -/
theorem sound (c : Dev nD) (t : Fin cfg0.N) :
    pre m c t ⊢ wp frame (wpE (defs₀ (F := F)) Variants.none c none) Set.univ (bodyAt0 t) (fun _ => post m c t) := by
  unfold pre post bodyAt0
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c)]
  rw [show (dats m 0 c).owesAt () t.succ = (dats m 0 c).owesAt () t.castSucc from rfl,
    after_0, after_1, after_2, after_3, after_4,
    show (dats m 0 c).Φ t.succ = iprop(owns (c : Thread nD τ) scr fullShare (norm m c t) ∗ (∃ r, prngReg c r)) from rfl,
    show (dats m 0 c).Φ t.castSucc = inv m c t.val (Nat.le_of_lt t.isLt) from Pipeline.Dat.Φ_castSucc (inv m c) t]
  by_cases h : t.val % 20 = 0
  · refine (sep_mono_left (inv_any m c t.val _)).trans ?_
    rw [weakest]
    have hl := leaves_5 m c t
    unfold narrow norm at hl
    unfold wide norm
    iintro ⟨⟨HS, Hg⟩, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ _ _ ((first_iff t).mpr h) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply hl; iexact H5
  · have hz : t.val ≠ 0 := fun e => h (by omega)
    have ei : inv m c t.val (Nat.le_of_lt t.isLt) = iprop(owns (c : Thread nD τ) scr fullShare (norm m c t) ∗ (∃ r, prngReg c r)) := by
      obtain ⟨n, hn⟩ := t
      cases n with
      | zero => exact absurd rfl hz
      | succ n => rw [norm_prev m c ⟨n + 1, hn⟩ ⟨n, Nat.lt_of_succ_lt hn⟩ h rfl]; rfl
    rw [ei]
    simp only [fun d => before_5 m c d t.val t.isLt h]
    unfold wide
    iintro ⟨⟨HS, Hg⟩, Ho, ⟨%d0, H0⟩, ⟨%d1, H1⟩, ⟨%d2, H2⟩, ⟨%d3, H3⟩, ⟨%d4, H4⟩, ⟨%d5, H5⟩⟩
    iapply (body_later c (grid0.coords t) _ _ _ _ _ _ _ _ _ _ _ _ _ _ (fun e => h ((first_iff t).mp e)) (iblk m c 0 t) (iblk m c 1 t) (iblk m c 2 t) (iblk m c 3 t) (narrow m c t) (norm m c t) Set.univ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves_5 m c t); iexact H5

/-- The body as the pipeline calls it. -/
theorem row_body (t : Fin cfg0.N) : defs₀ (F := F) .tc cfg0.body (cfg0.bodyArgs t (cfg0.slots t)) = bodyAt0 t := by
  unfold defs₀; rw [Defs.onTc_tc]

set_option maxHeartbeats 1600000 in
theorem obligation (c : Dev nD) : BodyObligation (dats (F := F) m 0 c) (defs₀ (F := F)) Variants.none () Set.univ := fun t => by
  rw [bigSep_W0, bigSep_W0, row_body]
  exact triple_restated (sound m c t) rfl .rfl fun _ => .rfl

/-! ## The run -/

set_option backward.isDefEq.respectTransparency.types false in
/-- Every fair execution ends, with the arrays as the proof data says and all counters at zero. -/
theorem run_counters : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => Idealize.SL.BI.Entails.refl _) (hout := fun c => inv_any m c cfg0.N le_rfl)

theorem run : θ_run defs (onTc (τ := τ) (main (F := F))) (s₀ m ρ) (Pipeline.FramePost cfgs (dats m) 0 (V m)) :=
  (θ_run defs _ _).mono (fun _ h => h.1) (run_counters m ρ)

/-- The frame claim: the arguments end as they were, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run m ρ)) ((θ_run defs _ _).mono (fun _ h => h.2) (run_counters m ρ))

/-- The two result arrays after the run, by name, beside the arguments. -/
theorem run_named : θ_run defs (onTc (τ := τ) (main (F := F))) ⟨m, fun _ => 0, ρ⟩ fun r => ∀ c : Dev nD,
      r.2.mem ((c : Thread nD τ).loc main_v12_0) = (dats m 0 c).arrAt 4 cfg0.N
      ∧ r.2.mem ((c : Thread nD τ).loc main_v12_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h => fun c => ⟨(h.1 c).1 4, (h.1 c).1 5, h.2 c⟩)
    (θ_run_and (run m ρ) (frame_of m ρ (dats m) (A_eq m) (run m ρ)))

end Cert.InProjIdeal.Proj

end
-- ==== Proof.InProjValue.lean ====
/- The input projection of a layer (RMS norm, then the gathered weight columns of the attention, recurrence and gating
   branches): the kernel's two result arrays and the reference's, both as one plain function of the argument arrays. The
   kernel multiplies by gathered columns of the weights; the reference multiplies by all of them and gathers afterwards. -/
module

public import proofs.«01_k».proof.Proof.InProjIdealRun
public import proofs.«01_k».proof.Proof.Gen.InProjRefIdeal.Read
public import proofs.«01_k».proof.Proof.Gen.InProjRefIdeal.Run
public import Idealize.ShloMosaic.Lib.Pipeline.ValueKit
public import Idealize.ShloMosaic.Lib.Pointwise

@[expose] public section

set_option maxRecDepth 16384

noncomputable section

namespace Cert.InProjIdeal.Proj

open Cert.InProjIdeal Cert.InProjIdeal.Gen Idealize.ShloMosaic Idealize.ShloMosaic.TcCoe Idealize.SL.Sem
open Idealize.ShloMosaic.Pipeline

/-- A row of 1024 entries, RMS-normalised and scaled, at column `k`. -/
def rms (x g : Fin 1024 → EReal) (k : Fin 1024) : EReal :=
  x k * Ideal.rsqrt (Ideal.div (∑ i, x i * x i) (Scalar.ofBits (F := Ideal) .f32 0x44800000#32) + Scalar.ofBits (F := Ideal) .f32 0x358637BD#32) * g k

/-- The sequence and the position of one of the 16384 rows. -/
def bat (r : Fin 16384) : Fin 8 := ⟨r.val / 2048, by have := r.isLt; omega⟩
def pos (r : Fin 16384) : Fin 2048 := ⟨r.val % 2048, by omega⟩

/-- The weight column behind a column of the wide result: three runs of the weight's columns, two gaps of eight left out. -/
def wcol (j : Fin 10240) : Fin 10256 :=
  ⟨if j.val < 3584 then j.val else if j.val < 6144 then j.val + 8 else j.val + 16, by have := j.isLt; split_ifs <;> omega⟩
/-- The weight column behind one of the sixteen first columns of the narrow result: the two gaps. -/
def scol (j : Fin 128) (h : j.val < 16) : Fin 10256 := ⟨if j.val < 8 then 3584 + j.val else 6144 + j.val, by split_ifs <;> omega⟩

section
variable (x : FVec Ideal S8x2048x1024 .f32) (g : FVec Ideal S1024 .f32) (w : FVec Ideal S1024x10256 .f32)

/-- Row `r`, normalised, through weight column `n`. -/
def proj (r : Fin 16384) (n : Fin 10256) : EReal :=
  ∑ k : Fin 1024, rms (fun i => x (ix3 (bat r) (pos r) i)) (fun i => g (ix1 i)) k * w (ix2 k n)
/-- The wide result. -/
def wideArr : FVec Ideal S16384x10240 .f32 := fun y => proj x g w (y 0) (wcol (y 1))
/-- The narrow result: sixteen columns, then zeros. -/
def narrowArr : FVec Ideal S16384x128 .f32 := fun y =>
  if h : (show Fin 128 from y 1).val < 16 then proj x g w (y 0) (scol (y 1) h) else 0
end

theorem norm_apply (x : Vec Ideal S1024x1024 .f32) (g : Vec Ideal S1x1024 .f32) (i k : Fin 1024) :
    k0_pay1 (F := Ideal) x g (ix2 i k) = rms (fun l => x (ix2 i l)) (fun l => g (ix2 0 l)) k := by
  pointwise [k0_pay1, rms]
theorem wide_apply (x : Vec Ideal S1024x1024 .bf16) (w : Vec Ideal S1024x512 .bf16) (i : Fin 1024) (j : Fin 512) :
    k0_pay3 (F := Ideal) x w (ix2 i j) = ∑ k : Fin 1024, x (ix2 i k) * w (ix2 k j) := by
  pointwise [k0_pay3]
theorem narrow_apply (x : Vec Ideal S1024x1024 .bf16) (w : Vec Ideal S1024x128 .bf16) (i : Fin 1024) (j : Fin 128) :
    k0_pay2 (F := Ideal) x w (ix2 i j) = ∑ k : Fin 1024, x (ix2 i k) * w (ix2 k j) := by
  pointwise [k0_pay2]

/-- The gathered weight columns, at an index. -/
theorem wide_cols (a : FVec Ideal S1024x10256 .f32) (k : Fin 1024) (j : Fin 10240) :
    concatenate S1024x10240 1 [⟨S1024x3584, extractStridedSlice S1024x3584 ![0, 0] a slices_S1024x10256_S1024x3584_0_0⟩,
      ⟨S1024x2560, extractStridedSlice S1024x2560 ![0, 3592] a slices_S1024x10256_S1024x2560_0_3592⟩,
      ⟨S1024x4096, extractStridedSlice S1024x4096 ![0, 6160] a slices_S1024x10256_S1024x4096_0_6160⟩]
      concatenates_S1024x3584_S1024x2560_S1024x4096_S1024x10240_d1 (ix2 k j) = a (ix2 k (wcol j)) := by
  have hj := j.isLt
  pointwise []
  split_ifs <;> refine congrArg (fun n => a (ix2 k n)) (Fin.ext ?_) <;> simp only [wcol] <;> split_ifs <;> omega
theorem narrow_cols (a : FVec Ideal S1024x10256 .f32) (k : Fin 1024) (j : Fin 128) :
    concatenate S1024x128 1 [⟨S1024x8, extractStridedSlice S1024x8 ![0, 3584] a slices_S1024x10256_S1024x8_0_3584⟩,
      ⟨S1024x8, extractStridedSlice S1024x8 ![0, 6152] a slices_S1024x10256_S1024x8_0_6152⟩,
      ⟨S1024x112, broadcastInDim S1024x112 ![] bcast_S_S1024x112 (constant (F := Ideal) S_ .f32 0x00000000#32)⟩]
      concatenates_S1024x8_S1024x8_S1024x112_S1024x128_d1 (ix2 k j) = if h : j.val < 16 then a (ix2 k (scol j h)) else 0 := by
  have hj := j.isLt
  pointwise []
  by_cases h : j.val < 16
  · rw [dif_pos h]
    split_ifs <;> first
      | omega
      | (refine congrArg (fun n => a (ix2 k n)) (Fin.ext ?_); simp only [scol]; split_ifs <;> omega)
  · rw [dif_neg h]
    split_ifs <;> first
      | omega
      | rfl

variable (m : (ℓ : Loc nD τ sig) → Buf (Elt Ideal) ℓ)

theorem V_x (c : Dev nD) : V m c main_v10 = shapeCast _ (m ((c : Thread nD τ).loc main_arg0)) shapeCasts_S8x2048x1024_S16384x1024 := by
  show StableHlo.after hostOps0 _ (Proc.devRef .tc main_v10) = _
  after_results
  rfl
theorem V_g (c : Dev nD) : V m c main_v11 = shapeCast _ (m ((c : Thread nD τ).loc main_arg1)) shapeCasts_S1024_S1x1024 := by
  show StableHlo.after hostOps0 _ (Proc.devRef .tc main_v11) = _
  after_results
  rfl
theorem V_wide (c : Dev nD) (k : Fin 1024) (j : Fin 10240) : V m c main_v4 (ix2 k j) = m ((c : Thread nD τ).loc main_arg2) (ix2 k (wcol j)) := by
  rw [← wide_cols (m ((c : Thread nD τ).loc main_arg2)) k j]
  show StableHlo.after hostOps0 _ (Proc.devRef .tc main_v4) (ix2 k j) = _
  after_results
  rfl
theorem V_narrow (c : Dev nD) (k : Fin 1024) (j : Fin 128) : V m c main_v9 (ix2 k j)
    = if h : j.val < 16 then m ((c : Thread nD τ).loc main_arg2) (ix2 k (scol j h)) else (0 : EReal) := by
  rw [← narrow_cols (m ((c : Thread nD τ).loc main_arg2)) k j]
  show StableHlo.after hostOps0 _ (Proc.devRef .tc main_v9) (ix2 k j) = _
  after_results
  rfl

/-- The reshaped rows and the reshaped scale. -/
theorem rows (a : FVec Ideal S8x2048x1024 .f32) (r : Fin 16384) (l : Fin 1024) :
    shapeCast S16384x1024 a shapeCasts_S8x2048x1024_S16384x1024 (ix2 r l) = a (ix3 (bat r) (pos r) l) := by
  pointwise []
  rfl
theorem scale (a : FVec Ideal S1024 .f32) (l : Fin 1024) : shapeCast S1x1024 a shapeCasts_S1024_S1x1024 (ix2 0 l) = a (ix1 l) := by
  pointwise []

/-- The rows and the columns of the whole array that a grid point's block holds. -/
def row (t : Fin cfg0.N) (i : Fin 1024) : Fin 16384 := ⟨t.val / 20 * 1024 + i.val, by
  have h : t.val < 320 := lt_of_lt_of_eq t.isLt N_0
  have := i.isLt
  omega⟩
def colm (t : Fin cfg0.N) (j : Fin 512) : Fin 10240 := ⟨t.val % 20 * 512 + j.val, by
  have := j.isLt
  omega⟩

theorem blk0 (c : Dev nD) (t : Fin cfg0.N) (i l : Fin 1024) : iblk m c 0 t (ix2 i l)
    = m ((c : Thread nD τ).loc main_arg0) (ix3 (bat (row t i)) (pos (row t i)) l) := by
  have e : ∀ t : Fin cfg0.N, win0_0.index t = ![t.val / 20, 0] := (by decide +kernel : ∀ t : Fin grid0.N, _)
  blk_simp [iblk]
  rw [V_x, ← rows (m ((c : Thread nD τ).loc main_arg0))]
  exact congrArg _ (by blk_ext [e, row])
theorem blk1 (c : Dev nD) (t : Fin cfg0.N) (l : Fin 1024) : iblk m c 1 t (ix2 0 l) = m ((c : Thread nD τ).loc main_arg1) (ix1 l) := by
  have e : ∀ t : Fin cfg0.N, win0_1.index t = ![0, 0] := (by decide +kernel : ∀ t : Fin grid0.N, _)
  blk_simp [iblk]
  rw [V_g, ← scale (m ((c : Thread nD τ).loc main_arg1))]
  exact congrArg _ (by blk_ext [e])
theorem blk2 (c : Dev nD) (t : Fin cfg0.N) (k : Fin 1024) (j : Fin 512) : iblk m c 2 t (ix2 k j)
    = m ((c : Thread nD τ).loc main_arg2) (ix2 k (wcol (colm t j))) := by
  have e : ∀ t : Fin cfg0.N, win0_2.index t = ![0, t.val % 20] := (by decide +kernel : ∀ t : Fin grid0.N, _)
  rw [← V_wide m c]
  blk_simp [iblk]
  exact congrArg (V m c main_v4) (by blk_ext [e, colm])
theorem blk3 (c : Dev nD) (t : Fin cfg0.N) (k : Fin 1024) (j : Fin 128) : iblk m c 3 t (ix2 k j)
    = if h : j.val < 16 then m ((c : Thread nD τ).loc main_arg2) (ix2 k (scol j h)) else (0 : EReal) := by
  have e : ∀ t : Fin cfg0.N, win0_3.index t = ![0, 0] := (by decide +kernel : ∀ t : Fin grid0.N, _)
  rw [← V_narrow m c]
  blk_simp [iblk]
  exact congrArg (V m c main_v9) (by blk_ext [e])

theorem norm_blk (c : Dev nD) (t : Fin cfg0.N) (i k : Fin 1024) : norm m c t (ix2 i k)
    = rms (fun l => m ((c : Thread nD τ).loc main_arg0) (ix3 (bat (row t i)) (pos (row t i)) l)) (fun l => m ((c : Thread nD τ).loc main_arg1) (ix1 l)) k := by
  unfold norm
  rw [norm_apply]
  simp only [blk0, blk1]

theorem wide_blk (c : Dev nD) (t : Fin cfg0.N) (i : Fin 1024) (j : Fin 512) : wide m c t (ix2 i j)
    = proj (m ((c : Thread nD τ).loc main_arg0)) (m ((c : Thread nD τ).loc main_arg1)) (m ((c : Thread nD τ).loc main_arg2)) (row t i) (wcol (colm t j)) := by
  unfold wide
  rw [wide_apply]
  simp only [norm_blk, blk2]
  rfl

theorem narrow_blk (c : Dev nD) (t : Fin cfg0.N) (i : Fin 1024) (j : Fin 128) : narrow m c t (ix2 i j)
    = if h : j.val < 16 then proj (m ((c : Thread nD τ).loc main_arg0)) (m ((c : Thread nD τ).loc main_arg1)) (m ((c : Thread nD τ).loc main_arg2)) (row t i) (scol j h) else 0 := by
  unfold narrow
  rw [narrow_apply]
  simp only [norm_blk, blk3]
  by_cases h : j.val < 16
  · simp only [dif_pos h]
    rfl
  · simp only [dif_neg h, mul_zero, Finset.sum_const_zero]

/-- After the run the wide result is `wideArr` of the arguments, -/
theorem final4 (c : Dev nD) : (dats m 0 c).arrAt 4 cfg0.N
    = wideArr (m ((c : Thread nD τ).loc main_arg0)) (m ((c : Thread nD τ).loc main_arg1)) (m ((c : Thread nD τ).loc main_arg2)) := by
  have e : ∀ t : Fin cfg0.N, win0_4.index t = ![t.val / 20, t.val % 20] := (by decide +kernel : ∀ t : Fin grid0.N, _)
  refine (dats m 0 c).arrAt_eq_of_covers 4 _ (by decide +kernel) fun t hf y => ?_
  blk_simp
  rw [after_4]
  have key (i : Fin 1024) (j : Fin 512) (w : S16384x10240.Idx) (hw : w = ix2 (row t i) (colm t j)) : wide m c t (ix2 i j)
      = wideArr (m ((c : Thread nD τ).loc main_arg0)) (m ((c : Thread nD τ).loc main_arg1)) (m ((c : Thread nD τ).loc main_arg2)) w := by
    subst hw
    rw [wide_blk]
    rfl
  obtain ⟨i, j, rfl⟩ : ∃ (i : Fin 1024) (j : Fin 512), y = ix2 i j := ⟨y 0, y 1, funext fun a => match a with
    | 0 => rfl
    | 1 => rfl⟩
  exact key i j _ (by blk_ext [e, row, colm])

/-- and the narrow one `narrowArr`. -/
theorem final5 (c : Dev nD) : (dats m 0 c).arrAt 5 cfg0.N
    = narrowArr (m ((c : Thread nD τ).loc main_arg0)) (m ((c : Thread nD τ).loc main_arg1)) (m ((c : Thread nD τ).loc main_arg2)) := by
  have e : ∀ t : Fin cfg0.N, win0_5.index t = ![t.val / 20, 0] := (by decide +kernel : ∀ t : Fin grid0.N, _)
  refine (dats m 0 c).arrAt_eq_of_covers 5 _ (by decide +kernel) fun t hf y => ?_
  blk_simp
  rw [after_5]
  have key (i : Fin 1024) (j : Fin 128) (w : S16384x128.Idx) (hw : w = ix2 (row t i) j) : narrow m c t (ix2 i j)
      = narrowArr (m ((c : Thread nD τ).loc main_arg0)) (m ((c : Thread nD τ).loc main_arg1)) (m ((c : Thread nD τ).loc main_arg2)) w := by
    subst hw
    rw [narrow_blk]
    rfl
  obtain ⟨i, j, rfl⟩ : ∃ (i : Fin 1024) (j : Fin 128), y = ix2 i j := ⟨y 0, y 1, funext fun a => match a with
    | 0 => rfl
    | 1 => rfl⟩
  exact key i j _ (by blk_ext [e, row])

end Cert.InProjIdeal.Proj

namespace Cert.InProjAlgebra

open Idealize.ShloMosaic Idealize.ShloMosaic.TcCoe Idealize.SL.Sem
open Cert.InProjRefIdeal Cert.InProjRefIdeal.Gen Cert.InProjRefIdeal.Read
open Cert.InProjIdeal.Proj (wideArr narrowArr proj rms bat pos wcol scol)

variable (x : FVec Ideal S8x2048x1024 .f32) (g : FVec Ideal S1024 .f32) (w : FVec Ideal S1024x10256 .f32)

/-- The reference's normalised rows. -/
theorem ref_norm (b : Fin 8) (t : Fin 2048) (k : Fin 1024) :
    val_main_v12 (F := Ideal) x g (ix3 b t k) = rms (fun i => x (ix3 b t i)) (fun i => g (ix1 i)) k := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, rms]

/-- The reference's product with all the weight's columns. -/
theorem ref_proj (r : Fin 16384) (n : Fin 10256) : val_main_v14 (F := Ideal) x g w (ix2 r n) = proj x g w r n := by
  have h : val_main_v14 (F := Ideal) x g w (ix2 r n) = ∑ k : Fin 1024, val_main_v12 (F := Ideal) x g (ix3 (bat r) (pos r) k) * w (ix2 k n) := by
    pointwise [val_main_v14, val_main_v13]
    rfl
  rw [h]
  simp only [ref_norm]
  rfl

/-- The reference's two results. -/
theorem ref_wide : val_main_v18 (F := Ideal) x g w = wideArr x g w := by
  funext y
  obtain ⟨r, j, rfl⟩ : ∃ (r : Fin 16384) (j : Fin 10240), y = ix2 r j := ⟨y 0, y 1, funext fun a => match a with
    | 0 => rfl
    | 1 => rfl⟩
  have hj := j.isLt
  show _ = proj x g w r (wcol j)
  generalize hp : val_main_v14 (F := Ideal) x g w = p
  have hr := fun n => ref_proj x g w r n
  rw [hp] at hr
  rw [← hr]
  pointwise [val_main_v18, val_main_v15, val_main_v16, val_main_v17, hp]
  split_ifs <;> refine congrArg (fun n => p (ix2 r n)) (Fin.ext ?_) <;> simp only [wcol] <;> split_ifs <;> omega
theorem ref_narrow : val_main_v22 (F := Ideal) x g w = narrowArr x g w := by
  funext y
  obtain ⟨r, j, rfl⟩ : ∃ (r : Fin 16384) (j : Fin 128), y = ix2 r j := ⟨y 0, y 1, funext fun a => match a with
    | 0 => rfl
    | 1 => rfl⟩
  have hj := j.isLt
  show _ = if h : j.val < 16 then proj x g w r (scol j h) else 0
  generalize hp : val_main_v14 (F := Ideal) x g w = p
  have hr := fun n => ref_proj x g w r n
  rw [hp] at hr
  simp only [← hr]
  pointwise [val_main_v22, val_main_v19, val_main_v20, val_main_v21, val_main_cst_2, hp]
  by_cases h : j.val < 16
  · rw [dif_pos h]
    split_ifs <;> first
      | omega
      | (refine congrArg (fun n => p (ix2 r n)) (Fin.ext ?_); simp only [scol]; split_ifs <;> omega)
  · rw [dif_neg h]
    split_ifs <;> first
      | omega
      | rfl

/-- Result 0, from the kernel's own argument arrays. -/
def result0 (m : (ℓ : Loc Cert.InProjIdeal.nD Cert.InProjIdeal.τ Cert.InProjIdeal.sig) → Buf (Elt Ideal) ℓ) (c : Dev Cert.InProjIdeal.nD) :
    Buf (Elt Ideal) ((c.tc : Thread Cert.InProjIdeal.nD Cert.InProjIdeal.τ).loc Cert.InProjIdeal.main_v12_0) :=
  wideArr (m ((c.tc : Thread Cert.InProjIdeal.nD Cert.InProjIdeal.τ).loc Cert.InProjIdeal.main_arg0))
    (m ((c.tc : Thread Cert.InProjIdeal.nD Cert.InProjIdeal.τ).loc Cert.InProjIdeal.main_arg1))
    (m ((c.tc : Thread Cert.InProjIdeal.nD Cert.InProjIdeal.τ).loc Cert.InProjIdeal.main_arg2))

/-- The kernel's array is this. -/
theorem kernel0 (m : (ℓ : Loc Cert.InProjIdeal.nD Cert.InProjIdeal.τ Cert.InProjIdeal.sig) → Buf (Elt Ideal) ℓ) (c : Dev Cert.InProjIdeal.nD) :
    (Cert.InProjIdeal.Proj.dats m 0 c).arrAt 4 Cert.InProjIdeal.cfg0.N = result0 m c := Cert.InProjIdeal.Proj.final4 m c

/-- So is the reference's, from memories that agree on the arguments. -/
theorem agree0 (m : (ℓ : Loc Cert.InProjIdeal.nD Cert.InProjIdeal.τ Cert.InProjIdeal.sig) → Buf (Elt Ideal) ℓ)
    (m' : (ℓ : Loc nD τ sig) → Buf (Elt Ideal) ℓ) (c : Dev nD)
    (e0 : m' ((c.tc : Thread nD τ).loc main_arg0) = m ((c.tc : Thread Cert.InProjIdeal.nD Cert.InProjIdeal.τ).loc Cert.InProjIdeal.main_arg0))
    (e1 : m' ((c.tc : Thread nD τ).loc main_arg1) = m ((c.tc : Thread Cert.InProjIdeal.nD Cert.InProjIdeal.τ).loc Cert.InProjIdeal.main_arg1))
    (e2 : m' ((c.tc : Thread nD τ).loc main_arg2) = m ((c.tc : Thread Cert.InProjIdeal.nD Cert.InProjIdeal.τ).loc Cert.InProjIdeal.main_arg2)) :
    val_main_v18 (F := Ideal) (m' ((c.tc : Thread nD τ).loc main_arg0)) (m' ((c.tc : Thread nD τ).loc main_arg1)) (m' ((c.tc : Thread nD τ).loc main_arg2)) = result0 m c := by
  rw [ref_wide, e0, e1, e2]
  rfl

/-- Result 1, from the kernel's own argument arrays. -/
def result1 (m : (ℓ : Loc Cert.InProjIdeal.nD Cert.InProjIdeal.τ Cert.InProjIdeal.sig) → Buf (Elt Ideal) ℓ) (c : Dev Cert.InProjIdeal.nD) :
    Buf (Elt Ideal) ((c.tc : Thread Cert.InProjIdeal.nD Cert.InProjIdeal.τ).loc Cert.InProjIdeal.main_v12_1) :=
  narrowArr (m ((c.tc : Thread Cert.InProjIdeal.nD Cert.InProjIdeal.τ).loc Cert.InProjIdeal.main_arg0))
    (m ((c.tc : Thread Cert.InProjIdeal.nD Cert.InProjIdeal.τ).loc Cert.InProjIdeal.main_arg1))
    (m ((c.tc : Thread Cert.InProjIdeal.nD Cert.InProjIdeal.τ).loc Cert.InProjIdeal.main_arg2))

/-- The kernel's array is this. -/
theorem kernel1 (m : (ℓ : Loc Cert.InProjIdeal.nD Cert.InProjIdeal.τ Cert.InProjIdeal.sig) → Buf (Elt Ideal) ℓ) (c : Dev Cert.InProjIdeal.nD) :
    (Cert.InProjIdeal.Proj.dats m 0 c).arrAt 5 Cert.InProjIdeal.cfg0.N = result1 m c := Cert.InProjIdeal.Proj.final5 m c

/-- So is the reference's, from memories that agree on the arguments. -/
theorem agree1 (m : (ℓ : Loc Cert.InProjIdeal.nD Cert.InProjIdeal.τ Cert.InProjIdeal.sig) → Buf (Elt Ideal) ℓ)
    (m' : (ℓ : Loc nD τ sig) → Buf (Elt Ideal) ℓ) (c : Dev nD)
    (e0 : m' ((c.tc : Thread nD τ).loc main_arg0) = m ((c.tc : Thread Cert.InProjIdeal.nD Cert.InProjIdeal.τ).loc Cert.InProjIdeal.main_arg0))
    (e1 : m' ((c.tc : Thread nD τ).loc main_arg1) = m ((c.tc : Thread Cert.InProjIdeal.nD Cert.InProjIdeal.τ).loc Cert.InProjIdeal.main_arg1))
    (e2 : m' ((c.tc : Thread nD τ).loc main_arg2) = m ((c.tc : Thread Cert.InProjIdeal.nD Cert.InProjIdeal.τ).loc Cert.InProjIdeal.main_arg2)) :
    val_main_v22 (F := Ideal) (m' ((c.tc : Thread nD τ).loc main_arg0)) (m' ((c.tc : Thread nD τ).loc main_arg1)) (m' ((c.tc : Thread nD τ).loc main_arg2)) = result1 m c := by
  rw [ref_narrow, e0, e1, e2]
  rfl

end Cert.InProjAlgebra

end
-- ==== Proof.MemKvValue.lean ====
/- The memory's projection (RMS norm, then the key and value weights): the kernel's result array and the reference's, both
   as one plain function of the argument arrays. -/
module

public import proofs.«01_k».proof.Proof.Gen.MemKvIdeal.Value
public import proofs.«01_k».proof.Proof.Gen.MemKvRefIdeal.Read
public import Idealize.ShloMosaic.Lib.Pipeline.ValueKit
public import Idealize.ShloMosaic.Lib.Pointwise

@[expose] public section

set_option maxRecDepth 16384

noncomputable section

namespace Cert.MemKvIdeal.Proj

open Cert.MemKvIdeal Cert.MemKvIdeal.Gen Idealize.ShloMosaic Idealize.ShloMosaic.TcCoe Idealize.SL.Sem
open Idealize.ShloMosaic.Pipeline

/-- A row of 1024 entries, RMS-normalised and scaled, at column `k`. -/
def rms (x g : Fin 1024 → EReal) (k : Fin 1024) : EReal :=
  x k * Ideal.rsqrt (Ideal.div (∑ i, x i * x i) (Scalar.ofBits (F := Ideal) .f32 0x44800000#32) + Scalar.ofBits (F := Ideal) .f32 0x358637BD#32) * g k

/-- The batch row and the position of one of the 2048 rows. -/
def bat (r : Fin 2048) : Fin 8 := ⟨r.val / 256, by have := r.isLt; omega⟩
def pos (r : Fin 2048) : Fin 256 := ⟨r.val % 256, by omega⟩

/-- The result: each normalised row through the weights. -/
def kvArr (x : FVec Ideal S8x256x1024 .f32) (g : FVec Ideal S1024 .f32) (w : FVec Ideal S1024x1024 .f32) : FVec Ideal S2048x1024 .f32 := fun y =>
  ∑ k : Fin 1024, rms (fun i => x (ix3 (bat (y 0)) (pos (y 0)) i)) (fun i => g (ix1 i)) k * w (ix2 k (y 1))

theorem norm_apply (x : Vec Ideal S1024x1024 .f32) (g : Vec Ideal S1x1024 .f32) (i k : Fin 1024) :
    k0_pay1 (F := Ideal) x g (ix2 i k) = rms (fun l => x (ix2 i l)) (fun l => g (ix2 0 l)) k := by
  pointwise [k0_pay1, rms]

theorem dot_apply (x : Vec Ideal S1024x1024 .bf16) (w : Vec Ideal S1024x512 .bf16) (i : Fin 1024) (j : Fin 512) :
    k0_pay2 (F := Ideal) x w (ix2 i j) = ∑ k : Fin 1024, x (ix2 i k) * w (ix2 k j) := by
  pointwise [k0_pay2]

variable (m : (ℓ : Loc nD τ sig) → Buf (Elt Ideal) ℓ)

theorem V_x (c : Dev nD) : V m c main_v0 = shapeCast _ (m ((c : Thread nD τ).loc main_arg0)) shapeCasts_S8x256x1024_S2048x1024 := by
  show StableHlo.after hostOps0 _ (Proc.devRef .tc main_v0) = _
  after_results
  rfl
theorem V_g (c : Dev nD) : V m c main_v2 = shapeCast _ (m ((c : Thread nD τ).loc main_arg1)) shapeCasts_S1024_S1x1024 := by
  show StableHlo.after hostOps0 _ (Proc.devRef .tc main_v2) = _
  after_results
  rfl
theorem V_w (c : Dev nD) (y : S1024x1024.Idx) : V m c main_v1 y = m ((c : Thread nD τ).loc main_arg2) y := by
  show StableHlo.after hostOps0 _ (Proc.devRef .tc main_v1) y = _
  after_results
  rfl

/-- The reshaped memory, row by row, and the reshaped scale. -/
theorem rows (a : FVec Ideal S8x256x1024 .f32) (r : Fin 2048) (l : Fin 1024) :
    shapeCast S2048x1024 a shapeCasts_S8x256x1024_S2048x1024 (ix2 r l) = a (ix3 (bat r) (pos r) l) := by
  pointwise []
  rfl
theorem scale (a : FVec Ideal S1024 .f32) (l : Fin 1024) : shapeCast S1x1024 a shapeCasts_S1024_S1x1024 (ix2 0 l) = a (ix1 l) := by
  pointwise []

/-- The rows and the columns of the whole array that a grid point's block holds. -/
def row (t : Fin cfg0.N) (i : Fin 1024) : Fin 2048 := ⟨(grid0.coords t 0).val * 1024 + i.val, by
  have h : (grid0.coords t 0).val < 2 := (grid0.coords t 0).isLt
  have := i.isLt
  omega⟩
def colm (t : Fin cfg0.N) (j : Fin 512) : Fin 1024 := ⟨(grid0.coords t 1).val * 512 + j.val, by
  have h : (grid0.coords t 1).val < 2 := (grid0.coords t 1).isLt
  have := j.isLt
  omega⟩

theorem blk0 (c : Dev nD) (t : Fin cfg0.N) (i l : Fin 1024) : iblk m c 0 t (ix2 i l)
    = m ((c : Thread nD τ).loc main_arg0) (ix3 (bat (row t i)) (pos (row t i)) l) := by
  have e : ∀ t : Fin cfg0.N, win0_0.index t = ![(grid0.coords t 0).val, 0] := (by decide +kernel : ∀ t : Fin grid0.N, _)
  blk_simp [iblk]
  rw [V_x, ← rows (m ((c : Thread nD τ).loc main_arg0))]
  exact congrArg _ (by blk_ext [e, row])
theorem blk1 (c : Dev nD) (t : Fin cfg0.N) (l : Fin 1024) : iblk m c 1 t (ix2 0 l) = m ((c : Thread nD τ).loc main_arg1) (ix1 l) := by
  have e : ∀ t : Fin cfg0.N, win0_1.index t = ![0, 0] := (by decide +kernel : ∀ t : Fin grid0.N, _)
  blk_simp [iblk]
  rw [V_g, ← scale (m ((c : Thread nD τ).loc main_arg1))]
  exact congrArg _ (by blk_ext [e])
theorem blk2 (c : Dev nD) (t : Fin cfg0.N) (k : Fin 1024) (j : Fin 512) : iblk m c 2 t (ix2 k j)
    = m ((c : Thread nD τ).loc main_arg2) (ix2 k (colm t j)) := by
  have e : ∀ t : Fin cfg0.N, win0_2.index t = ![0, (grid0.coords t 1).val] := (by decide +kernel : ∀ t : Fin grid0.N, _)
  blk_simp [iblk]
  rw [V_w]
  exact congrArg (m ((c : Thread nD τ).loc main_arg2)) (by blk_ext [e, colm])

/-- The normalised row `i` of a grid point's block, at column `k`. -/
def normAt (c : Dev nD) (t : Fin cfg0.N) (i k : Fin 1024) : EReal :=
  rms (fun l => m ((c : Thread nD τ).loc main_arg0) (ix3 (bat (row t i)) (pos (row t i)) l)) (fun l => m ((c : Thread nD τ).loc main_arg1) (ix1 l)) k

theorem norm_blk (c : Dev nD) (t : Fin cfg0.N) (i k : Fin 1024) :
    k0_pay1 (F := Ideal) (iblk m c 0 t) (iblk m c 1 t) (ix2 i k) = normAt m c t i k := by
  rw [norm_apply]
  simp only [blk0, blk1]
  rfl

/-- A point that does not reload the rows has the point before it on the same rows. -/
theorem row_prev (t s : Fin cfg0.N) (hs : s.val = t.val - 1) (h : ¬t.val % 2 = 0) (i : Fin 1024) : row s i = row t i := by
  have e : ∀ t : Fin cfg0.N, (grid0.coords t 0).val = t.val / 2 := (by decide +kernel : ∀ t : Fin grid0.N, _)
  apply Fin.ext
  show (grid0.coords s 0).val * 1024 + i.val = (grid0.coords t 0).val * 1024 + i.val
  rw [e, e, hs]
  have : (t.val - 1) / 2 = t.val / 2 := by omega
  rw [this]

/-- After every point the scratch holds the normalised rows of the point's block. -/
theorem scratch (c : Dev nD) (t : Fin cfg0.N) (i k : Fin 1024) : (outsAt0 m c t.val t.isLt).2 (ix2 i k) = normAt m c t i k := by
  by_cases h : t.val % 2 = 0
  · rw [outsAt0_A m c t h]
    frame_out
    exact norm_blk m c t i k
  · have h0 : t.val - 1 < cfg0.N := Nat.lt_of_le_of_lt (Nat.sub_le _ _) t.isLt
    have h' : (⟨t.val - 1, h0⟩ : Fin cfg0.N).val % 2 = 0 := by
      show (t.val - 1) % 2 = 0
      omega
    rw [outsAt0_B m c t h]
    show (outsAt0 m c (⟨t.val - 1, h0⟩ : Fin cfg0.N).val h0).2 (ix2 i k) = _
    rw [outsAt0_A m c ⟨t.val - 1, h0⟩ h']
    frame_out
    rw [norm_blk]
    unfold normAt
    rw [row_prev t ⟨t.val - 1, h0⟩ rfl h i]

/-- After every point the output block is the normalised rows through the point's weights. -/
theorem block (c : Dev nD) (t : Fin cfg0.N) (i : Fin 1024) (j : Fin 512) : (outsAt0 m c t.val t.isLt).1 (ix2 i j)
    = ∑ k : Fin 1024, normAt m c t i k * m ((c : Thread nD τ).loc main_arg2) (ix2 k (colm t j)) := by
  by_cases h : t.val % 2 = 0
  · rw [outsAt0_A m c t h]
    frame_out
    rw [dot_apply]
    simp only [norm_blk, blk2]
  · have h0 : t.val - 1 < cfg0.N := Nat.lt_of_le_of_lt (Nat.sub_le _ _) t.isLt
    have hs := fun k => scratch m c t i k
    rw [outsAt0_B m c t h] at hs ⊢
    change ∀ k, (outsAt0 m c (t.val - 1) h0).2 (ix2 i k) = _ at hs
    generalize (outsAt0 m c (t.val - 1) h0).2 = s at hs ⊢
    frame_out
    rw [dot_apply]
    have hr : View.read (Elt Ideal) (View.whole cc0_scratch0) ((Memref.isWhole_whole cc0_scratch0).unread s) = s :=
      (Memref.isWhole_whole cc0_scratch0).read_unread s
    simp only [hr, hs, blk2]

/-- After the run the result array is `kvArr` of the arguments. -/
theorem final (c : Dev nD) : (dats m 0 c).arrAt 3 cfg0.N
    = kvArr (m ((c : Thread nD τ).loc main_arg0)) (m ((c : Thread nD τ).loc main_arg1)) (m ((c : Thread nD τ).loc main_arg2)) := by
  have e : ∀ t : Fin cfg0.N, win0_3.index t = ![(grid0.coords t 0).val, (grid0.coords t 1).val] := (by decide +kernel : ∀ t : Fin grid0.N, _)
  refine (dats m 0 c).arrAt_eq_of_covers 3 _ (by decide +kernel) fun t hf y => ?_
  blk_simp
  rw [after0_3]
  have key (i : Fin 1024) (j : Fin 512) (w : S2048x1024.Idx) (hw : w = ix2 (row t i) (colm t j)) :
      (outsAt0 m c t.val t.isLt).1 (ix2 i j)
      = kvArr (m ((c : Thread nD τ).loc main_arg0)) (m ((c : Thread nD τ).loc main_arg1)) (m ((c : Thread nD τ).loc main_arg2)) w := by
    subst hw
    rw [block]
    rfl
  obtain ⟨i, j, rfl⟩ : ∃ (i : Fin 1024) (j : Fin 512), y = ix2 i j := ⟨y 0, y 1, funext fun a => match a with
    | 0 => rfl
    | 1 => rfl⟩
  exact key i j _ (by blk_ext [e, row, colm])

end Cert.MemKvIdeal.Proj

namespace Cert.MemKvAlgebra

open Idealize.ShloMosaic Idealize.ShloMosaic.TcCoe Idealize.SL.Sem
open Cert.MemKvRefIdeal Cert.MemKvRefIdeal.Gen Cert.MemKvRefIdeal.Read
open Cert.MemKvIdeal.Proj (kvArr rms bat pos)

variable (x : FVec Ideal S8x256x1024 .f32) (g : FVec Ideal S1024 .f32) (w : FVec Ideal S1024x1024 .f32)

/-- The reference's normalised rows. -/
theorem ref_norm (b : Fin 8) (t : Fin 256) (k : Fin 1024) :
    val_main_v12 (F := Ideal) x g (ix3 b t k) = rms (fun i => x (ix3 b t i)) (fun i => g (ix1 i)) k := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, rms]

/-- The reference's result. -/
theorem ref_eq : val_main_v14 (F := Ideal) x g w = kvArr x g w := by
  funext y
  obtain ⟨r, j, rfl⟩ : ∃ (r : Fin 2048) (j : Fin 1024), y = ix2 r j := ⟨y 0, y 1, funext fun a => match a with
    | 0 => rfl
    | 1 => rfl⟩
  have h : val_main_v14 (F := Ideal) x g w (ix2 r j) = ∑ k : Fin 1024, val_main_v12 (F := Ideal) x g (ix3 (bat r) (pos r) k) * w (ix2 k j) := by
    pointwise [val_main_v14, val_main_v13]
    rfl
  rw [h]
  simp only [ref_norm]
  rfl

/-- The result, from the kernel's own argument arrays. -/
def result0 (m : (ℓ : Loc Cert.MemKvIdeal.nD Cert.MemKvIdeal.τ Cert.MemKvIdeal.sig) → Buf (Elt Ideal) ℓ) (c : Dev Cert.MemKvIdeal.nD) :
    Buf (Elt Ideal) ((c.tc : Thread Cert.MemKvIdeal.nD Cert.MemKvIdeal.τ).loc Cert.MemKvIdeal.main_v3) :=
  kvArr (m ((c.tc : Thread Cert.MemKvIdeal.nD Cert.MemKvIdeal.τ).loc Cert.MemKvIdeal.main_arg0))
    (m ((c.tc : Thread Cert.MemKvIdeal.nD Cert.MemKvIdeal.τ).loc Cert.MemKvIdeal.main_arg1))
    (m ((c.tc : Thread Cert.MemKvIdeal.nD Cert.MemKvIdeal.τ).loc Cert.MemKvIdeal.main_arg2))

/-- The kernel's array is this. -/
theorem kernel0 (m : (ℓ : Loc Cert.MemKvIdeal.nD Cert.MemKvIdeal.τ Cert.MemKvIdeal.sig) → Buf (Elt Ideal) ℓ) (c : Dev Cert.MemKvIdeal.nD) :
    (Cert.MemKvIdeal.Gen.dats m 0 c).arrAt 3 Cert.MemKvIdeal.cfg0.N = result0 m c := Cert.MemKvIdeal.Proj.final m c

variable (m : (ℓ : Loc Cert.MemKvIdeal.nD Cert.MemKvIdeal.τ Cert.MemKvIdeal.sig) → Buf (Elt Ideal) ℓ)
  (m' : (ℓ : Loc nD τ sig) → Buf (Elt Ideal) ℓ) (c : Dev nD)

/-- So is the reference's, from memories that agree on the arguments. -/
theorem agree0
    (e0 : m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0))
    (e1 : m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1))
    (e2 : m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)) :
    val_main_v14 (F := Ideal) (m' ((c.tc : Thread nD τ).loc main_arg0)) (m' ((c.tc : Thread nD τ).loc main_arg1)) (m' ((c.tc : Thread nD τ).loc main_arg2)) = result0 m c := by
  rw [ref_eq, e0, e1, e2]
  rfl

end Cert.MemKvAlgebra

end
-- ==== Proof.MergeValue.lean ====
/- The merge of the four branches: the kernel's result array and the reference's, both as one plain function of the
   argument arrays. -/
module

public import proofs.«01_k».proof.Proof.Gen.MergeIdeal.Value
public import proofs.«01_k».proof.Proof.Gen.MergeRefIdeal.Read
public import Idealize.ShloMosaic.Lib.Pipeline.ValueKit
public import Idealize.ShloMosaic.Lib.Pointwise

@[expose] public section

set_option maxRecDepth 16384

noncomputable section

namespace Cert.MergeIdeal.Branches

open Cert.MergeIdeal Cert.MergeIdeal.Gen Idealize.ShloMosaic Idealize.ShloMosaic.TcCoe Idealize.SL.Sem
open Idealize.ShloMosaic.Pipeline

/-- One branch's gated projection at one column. -/
def gate (g : EReal) (o w : Fin 512 → EReal) : EReal := Ideal.logistic g * ∑ i : Fin 512, o i * w i

/-- The merged row at one column: the four gated projections. -/
def mix (g0 g1 g2 g3 : EReal) (o0 o1 o2 o3 w0 w1 w2 w3 : Fin 512 → EReal) : EReal :=
  gate g0 o0 w0 + gate g1 o1 w1 + gate g2 o2 w2 + gate g3 o3 w3

/-- The batch row and the position of one of the 16384 rows. -/
def bat (r : Fin 16384) : Fin 8 := ⟨r.val / 2048, by have := r.isLt; omega⟩
def pos (r : Fin 16384) : Fin 2048 := ⟨r.val % 2048, by omega⟩

/-- Column `k` of gate `g`, among the projection's 10240. -/
def gcol (g : Fin 4) (k : Fin 1024) : Fin 10240 := ⟨6144 + (g.val * 1024 + k.val), by have := g.isLt; have := k.isLt; omega⟩

/-- The merged row `r` at column `k`. -/
def mixAt (a0 a1 a2 a3 : FVec Ideal S8x2048x512 .f32) (z : FVec Ideal S16384x10240 .f32) (wb : FVec Ideal S4x512x1024 .f32)
    (r : Fin 16384) (k : Fin 1024) : EReal :=
  mix (z (ix2 r (gcol 0 k))) (z (ix2 r (gcol 1 k))) (z (ix2 r (gcol 2 k))) (z (ix2 r (gcol 3 k)))
    (fun l => a0 (ix3 (bat r) (pos r) l)) (fun l => a1 (ix3 (bat r) (pos r) l)) (fun l => a2 (ix3 (bat r) (pos r) l)) (fun l => a3 (ix3 (bat r) (pos r) l))
    (fun l => wb (ix3 0 l k)) (fun l => wb (ix3 1 l k)) (fun l => wb (ix3 2 l k)) (fun l => wb (ix3 3 l k))

/-- The result: the residual plus the merged row through the output weights. -/
def mergeArr (a0 a1 a2 a3 : FVec Ideal S8x2048x512 .f32) (z : FVec Ideal S16384x10240 .f32) (x : FVec Ideal S16384x1024 .f32)
    (wb : FVec Ideal S4x512x1024 .f32) (wo : FVec Ideal S1024x1024 .f32) : FVec Ideal S16384x1024 .f32 := fun y =>
  x (ix2 (y 0) (y 1)) + ∑ k : Fin 1024, mixAt a0 a1 a2 a3 z wb (y 0) k * wo (ix2 k (y 1))

section Block
variable (x0 x1 x2 x3 : Vec Ideal S256x512 .f32) (x4 x5 x6 x7 x8 : Vec Ideal S256x1024 .f32) (x9 : Vec Ideal S4x512x1024 .bf16)
  (x10 : Vec Ideal S1024x1024 .bf16)

/-- One plane of the branch weights, as loaded. -/
theorem plane (h : Fin 4) (i : Fin 512) (j : Fin 1024) (o : Nat) (inb) (ho : o = h.val := by rfl) :
    View.ld x9 (Rect.unit (s := S4x512x1024) ![o, 0, 0] S1x512x1024.size inb) (ix3 0 i j) = x9 (ix3 h i j) := by
  subst ho
  refine congrArg x9 (funext fun a => Fin.ext ?_)
  match a with
  | 0 => show h.val + 1 * 0 = h.val; omega
  | 1 => show 0 + 1 * i.val = i.val; omega
  | 2 => show 0 + 1 * j.val = j.val; omega
theorem plane0 (i : Fin 512) (j : Fin 1024) : View.ld x9 r0_2 (ix3 0 i j) = x9 (ix3 0 i j) := plane x9 0 i j _ _
theorem plane1 (i : Fin 512) (j : Fin 1024) : View.ld x9 r0_3 (ix3 0 i j) = x9 (ix3 1 i j) := plane x9 1 i j _ _
theorem plane2 (i : Fin 512) (j : Fin 1024) : View.ld x9 r0_4 (ix3 0 i j) = x9 (ix3 2 i j) := plane x9 2 i j _ _
theorem plane3 (i : Fin 512) (j : Fin 1024) : View.ld x9 r0_5 (ix3 0 i j) = x9 (ix3 3 i j) := plane x9 3 i j _ _

/-- The stored block, element by element. -/
theorem out_apply (i : Fin 256) (j : Fin 1024) : out0_11 (F := Ideal) x0 x1 x2 x3 x4 x5 x6 x7 x8 x9 x10 (ix2 i j)
    = x8 (ix2 i j) + ∑ k : Fin 1024, mix (x4 (ix2 i k)) (x5 (ix2 i k)) (x6 (ix2 i k)) (x7 (ix2 i k))
        (fun l => x0 (ix2 i l)) (fun l => x1 (ix2 i l)) (fun l => x2 (ix2 i l)) (fun l => x3 (ix2 i l))
        (fun l => x9 (ix3 0 l k)) (fun l => x9 (ix3 1 l k)) (fun l => x9 (ix3 2 l k)) (fun l => x9 (ix3 3 l k)) * x10 (ix2 k j) := by
  have e0 (x : Vec Ideal S256x1024 .f32) : View.ld x r0_0 = x := View.ld_unit_lit _ x (by decide)
  have e1 (x : Vec Ideal S256x512 .f32) : View.ld x r0_1 = x := View.ld_unit_lit _ x (by decide)
  have e6 (x : Vec Ideal S1024x1024 .bf16) : View.ld x r0_6 = x := View.ld_unit_lit _ x (by decide)
  show View.canon [⟨r0_0, _⟩] _ = _
  rw [show ∀ p : Vec Ideal S256x1024 .f32, View.canon [⟨r0_0, p⟩] = p from fun p => View.canon_unit_zero (by decide) _ p]
  simp only [e0, e1, e6]
  have p0 := plane0 x9
  have p1 := plane1 x9
  have p2 := plane2 x9
  have p3 := plane3 x9
  generalize View.ld x9 r0_2 = w0 at *
  generalize View.ld x9 r0_3 = w1 at *
  generalize View.ld x9 r0_4 = w2 at *
  generalize View.ld x9 r0_5 = w3 at *
  pointwise [k0_pay1, k0_pay2, k0_pay3, mix, gate, p0, p1, p2, p3]

end Block

variable (m : (ℓ : Loc nD τ sig) → Buf (Elt Ideal) ℓ)

theorem V_o0 (c : Dev nD) : V m c main_v0 = shapeCast _ (m ((c : Thread nD τ).loc main_arg0)) shapeCasts_S8x2048x512_S16384x512 := by
  show StableHlo.after hostOps0 _ (Proc.devRef .tc main_v0) = _
  after_results
  rfl
theorem V_o1 (c : Dev nD) : V m c main_v1 = shapeCast _ (m ((c : Thread nD τ).loc main_arg1)) shapeCasts_S8x2048x512_S16384x512 := by
  show StableHlo.after hostOps0 _ (Proc.devRef .tc main_v1) = _
  after_results
  rfl
theorem V_o2 (c : Dev nD) : V m c main_v2 = shapeCast _ (m ((c : Thread nD τ).loc main_arg2)) shapeCasts_S8x2048x512_S16384x512 := by
  show StableHlo.after hostOps0 _ (Proc.devRef .tc main_v2) = _
  after_results
  rfl
theorem V_o3 (c : Dev nD) : V m c main_v3 = shapeCast _ (m ((c : Thread nD τ).loc main_arg3)) shapeCasts_S8x2048x512_S16384x512 := by
  show StableHlo.after hostOps0 _ (Proc.devRef .tc main_v3) = _
  after_results
  rfl
theorem V_w6 (c : Dev nD) (y : S4x512x1024.Idx) : V m c main_v4 y = m ((c : Thread nD τ).loc main_arg6) y := by
  show StableHlo.after hostOps0 _ (Proc.devRef .tc main_v4) y = _
  after_results
  rfl
theorem V_w7 (c : Dev nD) (y : S1024x1024.Idx) : V m c main_v5 y = m ((c : Thread nD τ).loc main_arg7) y := by
  show StableHlo.after hostOps0 _ (Proc.devRef .tc main_v5) y = _
  after_results
  rfl

/-- The row of the whole array that row `i` of a grid point's block is. -/
def row (t : Fin cfg0.N) (i : Fin 256) : Fin 16384 := ⟨(grid0.coords t 0).val * 256 + i.val, by
  have h : (grid0.coords t 0).val < 64 := (grid0.coords t 0).isLt
  have := i.isLt
  omega⟩

/-- A reshaped branch output, row by row. -/
theorem rows (a : FVec Ideal S8x2048x512 .f32) (r : Fin 16384) (l : Fin 512) :
    shapeCast S16384x512 a shapeCasts_S8x2048x512_S16384x512 (ix2 r l) = a (ix3 (bat r) (pos r) l) := by
  pointwise []
  rfl

/-! Each input block, element by element, is its array at those rows. -/

theorem blk0 (c : Dev nD) (t : Fin cfg0.N) (i : Fin 256) (l : Fin 512) : iblk m c 0 t (ix2 i l)
    = m ((c : Thread nD τ).loc main_arg0) (ix3 (bat (row t i)) (pos (row t i)) l) := by
  have e : ∀ t : Fin cfg0.N, win0_0.index t = ![(grid0.coords t 0).val, 0] := (by decide +kernel : ∀ t : Fin grid0.N, _)
  blk_simp [iblk]
  rw [V_o0, ← rows (m ((c : Thread nD τ).loc main_arg0))]
  exact congrArg _ (by blk_ext [e, row])
theorem blk1 (c : Dev nD) (t : Fin cfg0.N) (i : Fin 256) (l : Fin 512) : iblk m c 1 t (ix2 i l)
    = m ((c : Thread nD τ).loc main_arg1) (ix3 (bat (row t i)) (pos (row t i)) l) := by
  have e : ∀ t : Fin cfg0.N, win0_1.index t = ![(grid0.coords t 0).val, 0] := (by decide +kernel : ∀ t : Fin grid0.N, _)
  blk_simp [iblk]
  rw [V_o1, ← rows (m ((c : Thread nD τ).loc main_arg1))]
  exact congrArg _ (by blk_ext [e, row])
theorem blk2 (c : Dev nD) (t : Fin cfg0.N) (i : Fin 256) (l : Fin 512) : iblk m c 2 t (ix2 i l)
    = m ((c : Thread nD τ).loc main_arg2) (ix3 (bat (row t i)) (pos (row t i)) l) := by
  have e : ∀ t : Fin cfg0.N, win0_2.index t = ![(grid0.coords t 0).val, 0] := (by decide +kernel : ∀ t : Fin grid0.N, _)
  blk_simp [iblk]
  rw [V_o2, ← rows (m ((c : Thread nD τ).loc main_arg2))]
  exact congrArg _ (by blk_ext [e, row])
theorem blk3 (c : Dev nD) (t : Fin cfg0.N) (i : Fin 256) (l : Fin 512) : iblk m c 3 t (ix2 i l)
    = m ((c : Thread nD τ).loc main_arg3) (ix3 (bat (row t i)) (pos (row t i)) l) := by
  have e : ∀ t : Fin cfg0.N, win0_3.index t = ![(grid0.coords t 0).val, 0] := (by decide +kernel : ∀ t : Fin grid0.N, _)
  blk_simp [iblk]
  rw [V_o3, ← rows (m ((c : Thread nD τ).loc main_arg3))]
  exact congrArg _ (by blk_ext [e, row])
theorem blk4 (c : Dev nD) (t : Fin cfg0.N) (i : Fin 256) (l : Fin 1024) : iblk m c 4 t (ix2 i l)
    = m ((c : Thread nD τ).loc main_arg4) (ix2 (row t i) (gcol 0 l)) := by
  have e : ∀ t : Fin cfg0.N, win0_4.index t = ![(grid0.coords t 0).val, 6] := (by decide +kernel : ∀ t : Fin grid0.N, _)
  blk_simp [iblk]
  rw [V_main_arg4]
  exact congrArg _ (by blk_ext [e, row, gcol])
theorem blk5 (c : Dev nD) (t : Fin cfg0.N) (i : Fin 256) (l : Fin 1024) : iblk m c 5 t (ix2 i l)
    = m ((c : Thread nD τ).loc main_arg4) (ix2 (row t i) (gcol 1 l)) := by
  have e : ∀ t : Fin cfg0.N, win0_5.index t = ![(grid0.coords t 0).val, 7] := (by decide +kernel : ∀ t : Fin grid0.N, _)
  blk_simp [iblk]
  rw [V_main_arg4]
  exact congrArg _ (by blk_ext [e, row, gcol])
theorem blk6 (c : Dev nD) (t : Fin cfg0.N) (i : Fin 256) (l : Fin 1024) : iblk m c 6 t (ix2 i l)
    = m ((c : Thread nD τ).loc main_arg4) (ix2 (row t i) (gcol 2 l)) := by
  have e : ∀ t : Fin cfg0.N, win0_6.index t = ![(grid0.coords t 0).val, 8] := (by decide +kernel : ∀ t : Fin grid0.N, _)
  blk_simp [iblk]
  rw [V_main_arg4]
  exact congrArg _ (by blk_ext [e, row, gcol])
theorem blk7 (c : Dev nD) (t : Fin cfg0.N) (i : Fin 256) (l : Fin 1024) : iblk m c 7 t (ix2 i l)
    = m ((c : Thread nD τ).loc main_arg4) (ix2 (row t i) (gcol 3 l)) := by
  have e : ∀ t : Fin cfg0.N, win0_7.index t = ![(grid0.coords t 0).val, 9] := (by decide +kernel : ∀ t : Fin grid0.N, _)
  blk_simp [iblk]
  rw [V_main_arg4]
  exact congrArg _ (by blk_ext [e, row, gcol])
theorem blk8 (c : Dev nD) (t : Fin cfg0.N) (i : Fin 256) (l : Fin 1024) : iblk m c 8 t (ix2 i l)
    = m ((c : Thread nD τ).loc main_arg5) (ix2 (row t i) l) := by
  have e : ∀ t : Fin cfg0.N, win0_8.index t = ![(grid0.coords t 0).val, 0] := (by decide +kernel : ∀ t : Fin grid0.N, _)
  blk_simp [iblk]
  rw [V_main_arg5]
  exact congrArg _ (by blk_ext [e, row])
theorem blk9 (c : Dev nD) (t : Fin cfg0.N) (g : Fin 4) (l : Fin 512) (k : Fin 1024) : iblk m c 9 t (ix3 g l k)
    = m ((c : Thread nD τ).loc main_arg6) (ix3 g l k) := by
  have e : ∀ t : Fin cfg0.N, win0_9.index t = ![0, 0, 0] := (by decide +kernel : ∀ t : Fin grid0.N, _)
  blk_simp [iblk]
  rw [V_w6]
  exact congrArg (m ((c : Thread nD τ).loc main_arg6)) (by blk_ext [e])
theorem blk10 (c : Dev nD) (t : Fin cfg0.N) (k j : Fin 1024) : iblk m c 10 t (ix2 k j)
    = m ((c : Thread nD τ).loc main_arg7) (ix2 k j) := by
  have e : ∀ t : Fin cfg0.N, win0_10.index t = ![0, 0] := (by decide +kernel : ∀ t : Fin grid0.N, _)
  blk_simp [iblk]
  rw [V_w7]
  exact congrArg (m ((c : Thread nD τ).loc main_arg7)) (by blk_ext [e])

/-- After the run the result array is `mergeArr` of the arguments. -/
theorem final (c : Dev nD) : (dats m 0 c).arrAt 11 cfg0.N = mergeArr (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) := by
  have e : ∀ t : Fin cfg0.N, win0_11.index t = ![(grid0.coords t 0).val, 0] := (by decide +kernel : ∀ t : Fin grid0.N, _)
  refine (dats m 0 c).arrAt_eq_of_covers 11 _ (by decide +kernel) fun t hf y => ?_
  blk_simp
  rw [after0_11]
  have key (i : Fin 256) (j : Fin 1024) (w : S16384x1024.Idx) (hw : w = ix2 (row t i) j) :
      out0_11 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (ix2 i j)
      = mergeArr (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) w := by
    subst hw
    rw [out_apply]
    simp only [blk0, blk1, blk2, blk3, blk4, blk5, blk6, blk7, blk8, blk9, blk10]
    rfl
  obtain ⟨i, j, rfl⟩ : ∃ (i : Fin 256) (j : Fin 1024), y = ix2 i j := ⟨y 0, y 1, funext fun a => match a with
    | 0 => rfl
    | 1 => rfl⟩
  exact key i j _ (by blk_ext [e, row])

end Cert.MergeIdeal.Branches

namespace Cert.MergeRefIdeal.Branches

open Cert.MergeRefIdeal Cert.MergeRefIdeal.Gen Cert.MergeRefIdeal.Read Idealize.ShloMosaic Idealize.ShloMosaic.TcCoe Idealize.SL.Sem
open Cert.MergeIdeal.Branches (mix gate mixAt mergeArr bat pos gcol)

variable (a0 a1 a2 a3 : FVec Ideal S8x2048x512 .f32) (z : FVec Ideal S16384x10240 .f32) (x : FVec Ideal S16384x1024 .f32)
  (wb : FVec Ideal S4x512x1024 .f32) (wo : FVec Ideal S1024x1024 .f32)

/-- The reference's merged row at batch row `b`, position `t`, column `k`. -/
theorem mix_apply (b : Fin 8) (t : Fin 2048) (k : Fin 1024) :
    val_main_v36 (F := Ideal) a0 a1 a2 a3 z wb (ix3 b t k) =
       mix (z (ix2 ⟨b.val * 2048 + t.val, by omega⟩ ⟨6144 + k.val, by omega⟩)) (z (ix2 ⟨b.val * 2048 + t.val, by omega⟩ ⟨6144 + (1024 + k.val), by omega⟩))
         (z (ix2 ⟨b.val * 2048 + t.val, by omega⟩ ⟨6144 + (2048 + k.val), by omega⟩)) (z (ix2 ⟨b.val * 2048 + t.val, by omega⟩ ⟨6144 + (3072 + k.val), by omega⟩))
        (fun l => a0 (ix3 b t l)) (fun l => a1 (ix3 b t l)) (fun l => a2 (ix3 b t l)) (fun l => a3 (ix3 b t l))
        (fun l => wb (ix3 0 l k)) (fun l => wb (ix3 1 l k)) (fun l => wb (ix3 2 l k)) (fun l => wb (ix3 3 l k)) := by
  pointwise [val_main_v36, val_main_v35, val_main_v34, val_main_v33, val_main_v32, val_main_v31, val_main_v30, val_main_v29, val_main_v28,
    val_main_v27, val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_cst, val_main_cst_0, val_main_cst_1,
    mix, gate]
  rfl

/-- The same, from the row among all 16384. -/
theorem mix_row (r : Fin 16384) (k : Fin 1024) :
    val_main_v36 (F := Ideal) a0 a1 a2 a3 z wb (ix3 (bat r) (pos r) k) = mixAt a0 a1 a2 a3 z wb r k := by
  have hr : (⟨(bat r).val * 2048 + (pos r).val, by have := (bat r).isLt; have := (pos r).isLt; omega⟩ : Fin 16384) = r :=
    Fin.ext (by show r.val / 2048 * 2048 + r.val % 2048 = r.val; omega)
  have hc (g : Fin 4) (n : Nat) (hn : n = g.val * 1024) (h : 6144 + (n + k.val) < 10240) : (⟨6144 + (n + k.val), h⟩ : Fin 10240) = gcol g k :=
    Fin.ext (by subst hn; rfl)
  have h0 (h : 6144 + k.val < 10240) : (⟨6144 + k.val, h⟩ : Fin 10240) = gcol 0 k := Fin.ext (by show 6144 + k.val = 6144 + (0 * 1024 + k.val); omega)
  rw [mix_apply, hr, h0, hc 1 1024 rfl, hc 2 2048 rfl, hc 3 3072 rfl]
  rfl

/-- The reference's result. -/
theorem ref_eq : val_main_v39 (F := Ideal) a0 a1 a2 a3 z x wb wo = mergeArr a0 a1 a2 a3 z x wb wo := by
  funext y
  obtain ⟨r, j, rfl⟩ : ∃ (r : Fin 16384) (j : Fin 1024), y = ix2 r j := ⟨y 0, y 1, funext fun a => match a with
    | 0 => rfl
    | 1 => rfl⟩
  have h : val_main_v39 (F := Ideal) a0 a1 a2 a3 z x wb wo (ix2 r j) = x (ix2 r j) + ∑ k : Fin 1024,
      val_main_v36 (F := Ideal) a0 a1 a2 a3 z wb (ix3 (bat r) (pos r) k) * wo (ix2 k j) := by
    pointwise [val_main_v39, val_main_v38, val_main_v37]
    rfl
  rw [h]
  simp only [mix_row]
  rfl

end Cert.MergeRefIdeal.Branches

namespace Cert.MergeAlgebra

open Idealize.ShloMosaic Idealize.ShloMosaic.TcCoe Idealize.SL.Sem
open Cert.MergeRefIdeal Cert.MergeRefIdeal.Gen Cert.MergeRefIdeal.Read Cert.MergeRefIdeal.Branches
open Cert.MergeIdeal.Branches (mergeArr)

/-- The result, from the kernel's own argument arrays. -/
def result0 (m : (ℓ : Loc Cert.MergeIdeal.nD Cert.MergeIdeal.τ Cert.MergeIdeal.sig) → Buf (Elt Ideal) ℓ) (c : Dev Cert.MergeIdeal.nD) :
    Buf (Elt Ideal) ((c.tc : Thread Cert.MergeIdeal.nD Cert.MergeIdeal.τ).loc Cert.MergeIdeal.main_v6) :=
  mergeArr (m ((c.tc : Thread Cert.MergeIdeal.nD Cert.MergeIdeal.τ).loc Cert.MergeIdeal.main_arg0))
    (m ((c.tc : Thread Cert.MergeIdeal.nD Cert.MergeIdeal.τ).loc Cert.MergeIdeal.main_arg1))
    (m ((c.tc : Thread Cert.MergeIdeal.nD Cert.MergeIdeal.τ).loc Cert.MergeIdeal.main_arg2))
    (m ((c.tc : Thread Cert.MergeIdeal.nD Cert.MergeIdeal.τ).loc Cert.MergeIdeal.main_arg3))
    (m ((c.tc : Thread Cert.MergeIdeal.nD Cert.MergeIdeal.τ).loc Cert.MergeIdeal.main_arg4))
    (m ((c.tc : Thread Cert.MergeIdeal.nD Cert.MergeIdeal.τ).loc Cert.MergeIdeal.main_arg5))
    (m ((c.tc : Thread Cert.MergeIdeal.nD Cert.MergeIdeal.τ).loc Cert.MergeIdeal.main_arg6))
    (m ((c.tc : Thread Cert.MergeIdeal.nD Cert.MergeIdeal.τ).loc Cert.MergeIdeal.main_arg7))

/-- The kernel's array is this. -/
theorem kernel0 (m : (ℓ : Loc Cert.MergeIdeal.nD Cert.MergeIdeal.τ Cert.MergeIdeal.sig) → Buf (Elt Ideal) ℓ) (c : Dev Cert.MergeIdeal.nD) :
    (Cert.MergeIdeal.Gen.dats m 0 c).arrAt 11 Cert.MergeIdeal.cfg0.N = result0 m c := Cert.MergeIdeal.Branches.final m c

variable (m : (ℓ : Loc Cert.MergeIdeal.nD Cert.MergeIdeal.τ Cert.MergeIdeal.sig) → Buf (Elt Ideal) ℓ)
  (m' : (ℓ : Loc nD τ sig) → Buf (Elt Ideal) ℓ) (c : Dev nD)

/-- So is the reference's, from memories that agree on the arguments. -/
theorem agree0
    (e0 : m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0))
    (e1 : m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1))
    (e2 : m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2))
    (e3 : m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3))
    (e4 : m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4))
    (e5 : m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5))
    (e6 : m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6))
    (e7 : m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)) :
    val_main_v39 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) = result0 m c := by
  rw [ref_eq, e0, e1, e2, e3, e4, e5, e6, e7]
  rfl

end Cert.MergeAlgebra

end
-- ==== Proof.CrossHead.lean ====
/- The cross attention over the memory, as plain functions of the argument arrays: one head's scores and weighted values,
   four heads beside each other, the output product and the residual. -/
module

public import proofs.«01_k».proof.CrossIdeal
public import Idealize.ShloMosaic.Lib.Pipeline.ValueKit
public import Idealize.ShloMosaic.Lib.Pointwise

@[expose] public section

noncomputable section

namespace Cert.CrossIdeal.Heads

open Cert.CrossIdeal Idealize.ShloMosaic Idealize.ShloMosaic.TcCoe Idealize.SL.Sem

/-- A row of 1024 entries, RMS-normalised and scaled, at column `k`. -/
def unit (x g : Fin 1024 → EReal) (k : Fin 1024) : EReal :=
  x k * Ideal.rsqrt (Ideal.div (∑ i, x i * x i) (Scalar.ofBits (F := Ideal) .f32 0x44800000#32) + Scalar.ofBits (F := Ideal) .f32 0x358637BD#32) * g k

/-- The score of one query against one key. -/
def score (q k : Fin 128 → EReal) : EReal := (∑ e : Fin 128, q e * k e) * Ideal.ofBits .f32 0x3DB504F3#32

/-- The largest of the 256 scores. -/
def peak (s : Fin 256 → EReal) : EReal := Finset.fold max (Ideal.ofBits .f32 0xFF800000#32) s Finset.univ

/-- The exponentials of the scores under the largest, -/
def expo (s : Fin 256 → EReal) (j : Fin 256) : EReal := Ideal.exp (s j - peak s)
/-- over their sum, weighing the values. -/
def weigh (e v : Fin 256 → EReal) : EReal := ∑ j : Fin 256, Ideal.div (e j) (∑ l : Fin 256, e l) * v j

/-- Entry `e` of head `h`, among the four heads' 512. -/
def hd (h : Fin 4) (e : Fin 128) : Fin 512 := ⟨h.val * 128 + e.val, by have := h.isLt; have := e.isLt; omega⟩

/-- One head's result at entry `d`. -/
def head (q : Fin 512 → EReal) (k v : Fin 256 → Fin 512 → EReal) (h : Fin 4) (d : Fin 128) : EReal :=
  weigh (expo fun j => score (fun e => q (hd h e)) (fun e => k j (hd h e))) (fun j => v j (hd h d))

/-- The four heads beside each other. -/
def heads (q : Fin 512 → EReal) (k v : Fin 256 → Fin 512 → EReal) (f : Fin 512) : EReal :=
  head q k v ⟨f.val / 128, by have := f.isLt; omega⟩ ⟨f.val % 128, by omega⟩

/-- Four rows of 128 entries beside each other. -/
def beside (a0 a1 a2 a3 : Fin 128 → EReal) (f : Fin 512) : EReal :=
  if h0 : f.val < 128 then a0 ⟨f.val, h0⟩
  else if h1 : f.val - 128 < 128 then a1 ⟨f.val - 128, h1⟩
  else if h2 : f.val - 128 - 128 < 128 then a2 ⟨f.val - 128 - 128, h2⟩
  else a3 ⟨f.val - 128 - 128 - 128, by have := f.isLt; omega⟩

theorem beside_heads (q : Fin 512 → EReal) (k v : Fin 256 → Fin 512 → EReal) (f : Fin 512) :
    beside (head q k v 0) (head q k v 1) (head q k v 2) (head q k v 3) f = heads q k v f := by
  have hf := f.isLt
  unfold beside heads
  split_ifs with h0 h1 h2 <;> refine congrArg₂ (head q k v) (Fin.ext ?_) (Fin.ext ?_)
  · show 0 = f.val / 128; omega
  · show f.val = f.val % 128; omega
  · show 1 = f.val / 128; omega
  · show f.val - 128 = f.val % 128; omega
  · show 2 = f.val / 128; omega
  · show f.val - 128 - 128 = f.val % 128; omega
  · show 3 = f.val / 128; omega
  · show f.val - 128 - 128 - 128 = f.val % 128; omega

/-- The row of the 16384 that position `p` of sequence `b` is, and that of the 2048 memory rows. -/
def row (b : Fin 8) (p : Fin 2048) : Fin 16384 := ⟨b.val * 2048 + p.val, by have := b.isLt; have := p.isLt; omega⟩
@[inherit_doc row] def mem (b : Fin 8) (j : Fin 256) : Fin 2048 := ⟨b.val * 256 + j.val, by have := b.isLt; have := j.isLt; omega⟩
/-- The keys' and the values' columns of a memory row. -/
def kcol (n : Fin 512) : Fin 1024 := ⟨n.val, by have := n.isLt; omega⟩
@[inherit_doc kcol] def vcol (n : Fin 512) : Fin 1024 := ⟨512 + n.val, by have := n.isLt; omega⟩

section
variable (x : FVec Ideal S16384x1024 .f32) (g : FVec Ideal S1024 .f32) (w : FVec Ideal S1024x512 .f32)
  (kv : FVec Ideal S2048x1024 .f32) (o : FVec Ideal S512x1024 .f32)

/-- The queries of position `p` of sequence `b`. -/
def query (b : Fin 8) (p : Fin 2048) (n : Fin 512) : EReal :=
  ∑ k : Fin 1024, unit (fun i => x (ix2 (row b p) i)) (fun i => g (ix1 i)) k * w (ix2 k n)

/-- The result: the residual with the four heads through the output weights. -/
def crossArr : FVec Ideal S8x2048x1024 .f32 := fun y =>
  x (ix2 (row (y 0) (y 1)) (y 2)) + ∑ f : Fin 512,
    heads (query x g w (y 0) (y 1)) (fun j n => kv (ix2 (mem (y 0) j) (kcol n))) (fun j n => kv (ix2 (mem (y 0) j) (vcol n))) f * o (ix2 f (y 2))
end

end Cert.CrossIdeal.Heads

end
-- ==== Proof.CrossKernel.lean ====
/- The cross attention's kernel: its result array, from the blocks it reads. -/
module

public import proofs.«01_k».proof.Proof.CrossHead
public import proofs.«01_k».proof.Proof.Gen.CrossIdeal.Value

@[expose] public section

set_option maxRecDepth 16384

noncomputable section

namespace Cert.CrossIdeal.Heads

open Cert.CrossIdeal Cert.CrossIdeal.Gen Idealize.ShloMosaic Idealize.ShloMosaic.TcCoe Idealize.SL.Sem
open Idealize.ShloMosaic.Pipeline

section Block
variable (x : Vec Ideal S1x512x1024 .f32) (g : Vec Ideal S1x1024 .f32) (w : Vec Ideal S1024x512 .bf16) (ks vs : Vec Ideal S1x256x512 .f32)
  (o : Vec Ideal S512x1024 .bf16) (q : FVec Ideal S512x512 .f32) (k v : FVec Ideal S256x512 .bf16)

theorem hd_zero (e : Fin 128) (h : e.val < 512) : (⟨e.val, h⟩ : Fin 512) = hd 0 e := Fin.ext (by show e.val = 0 * 128 + e.val; omega)
theorem hd_at (h : Fin 4) (e : Fin 128) (n : ℕ) (hn : n = h.val * 128) (hl : n + e.val < 512) : (⟨n + e.val, hl⟩ : Fin 512) = hd h e := Fin.ext (by subst hn; rfl)

/-- The queries of the block, -/
theorem query_apply (i n : Fin 512) : k0_pay3 (F := Ideal) x g w (ix2 i n)
    = ∑ l : Fin 1024, unit (fun a => x (ix3 0 i a)) (fun a => g (ix2 0 a)) l * w (ix2 l n) := by
  pointwise [k0_pay3, k0_pay2, unit]
/-- its keys -/
theorem key_apply (j : Fin 256) (n : Fin 512) : k0_pay4 (F := Ideal) ks (ix2 j n) = ks (ix3 0 j n) := by
  pointwise [k0_pay4]
/-- and its values, -/
theorem value_apply (j : Fin 256) (n : Fin 512) : k0_pay5 (F := Ideal) vs (ix2 j n) = vs (ix3 0 j n) := by
  pointwise [k0_pay5]

/-- then the heads one after the other. -/
theorem head0 (i : Fin 512) (d : Fin 128) : k0_pay7 (F := Ideal) v (k0_pay6 (F := Ideal) x g w ks) (ix2 i d)
    = head (fun n => k0_pay3 (F := Ideal) x g w (ix2 i n)) (fun j n => k0_pay4 (F := Ideal) ks (ix2 j n)) (fun j n => v (ix2 j n)) 0 d := by
  have he (j : Fin 256) : k0_pay6 (F := Ideal) x g w ks (ix2 i j)
      = expo (fun j => score (fun e => k0_pay3 (F := Ideal) x g w (ix2 i (hd 0 e))) (fun e => k0_pay4 (F := Ideal) ks (ix2 j (hd 0 e)))) j := by
    unfold k0_pay6
    generalize k0_pay3 (F := Ideal) x g w = q
    generalize k0_pay4 (F := Ideal) ks = k
    pointwise [expo, peak, score, hd_zero]
  have hw : k0_pay7 (F := Ideal) v (k0_pay6 (F := Ideal) x g w ks) (ix2 i d)
      = weigh (fun j => k0_pay6 (F := Ideal) x g w ks (ix2 i j)) (fun j => v (ix2 j (hd 0 d))) := by
    generalize k0_pay6 (F := Ideal) x g w ks = e
    pointwise [k0_pay7, weigh, hd_zero]
  rw [hw]
  simp only [he]
  rfl
theorem head1 (i : Fin 512) (d : Fin 128) : k0_pay8 (F := Ideal) q k v (ix2 i d)
    = head (fun n => q (ix2 i n)) (fun j n => k (ix2 j n)) (fun j n => v (ix2 j n)) 1 d := by
  pointwise [k0_pay8, head, weigh, expo, peak, score]
  rfl
theorem head2 (i : Fin 512) (d : Fin 128) : k0_pay9 (F := Ideal) q k v (ix2 i d)
    = head (fun n => q (ix2 i n)) (fun j n => k (ix2 j n)) (fun j n => v (ix2 j n)) 2 d := by
  pointwise [k0_pay9, head, weigh, expo, peak, score]
  rfl
/-- The last head is formed where the heads are joined. -/
theorem joined (r : FVec Ideal S512x1024 .f32) (a0 a1 a2 : FVec Ideal S512x128 .f32) (s : FVec Ideal S512x256 .f32) (i : Fin 512) (n : Fin 1024) :
    k0_pay1 (F := Ideal) r v a0 a1 a2 s (Scalar.ofBits .f32 0x3DB504F3#32) o (ix3 0 i n)
      = r (ix2 i n) + ∑ f : Fin 512, beside (fun d => a0 (ix2 i d)) (fun d => a1 (ix2 i d)) (fun d => a2 (ix2 i d))
          (fun d => weigh (expo fun j => s (ix2 i j) * Ideal.ofBits .f32 0x3DB504F3#32) (fun j => v (ix2 j (hd 3 d)))) f * o (ix2 f n) := by
  pointwise [k0_pay1]
  rfl
theorem last_scores (i : Fin 512) (j : Fin 256) : k0_pay10 (F := Ideal) q k (ix2 i j) = ∑ e : Fin 128, q (ix2 i (hd 3 e)) * k (ix2 j (hd 3 e)) := by
  pointwise [k0_pay10]
  rfl

/-- The stored block, element by element. -/
theorem out_apply (i : Fin 512) (n : Fin 1024) : out0_6 (F := Ideal) x g w ks vs o (ix3 0 i n)
    = x (ix3 0 i n) + ∑ f : Fin 512, heads (fun n => ∑ l : Fin 1024, unit (fun a => x (ix3 0 i a)) (fun a => g (ix2 0 a)) l * w (ix2 l n))
        (fun j n => ks (ix3 0 j n)) (fun j n => vs (ix3 0 j n)) f * o (ix2 f n) := by
  have e0 (x : Vec Ideal S1x512x1024 .f32) : View.ld x r0_0 = x := View.ld_unit_lit _ x (by decide)
  have e1 (x : Vec Ideal S1x1024 .f32) : View.ld x r0_1 = x := View.ld_unit_lit _ x (by decide)
  have e2 (x : Vec Ideal S1024x512 .bf16) : View.ld x r0_2 = x := View.ld_unit_lit _ x (by decide)
  have e3 (x : Vec Ideal S1x256x512 .f32) : View.ld x r0_3 = x := View.ld_unit_lit _ x (by decide)
  have e4 (x : Vec Ideal S512x1024 .bf16) : View.ld x r0_4 = x := View.ld_unit_lit _ x (by decide)
  have er : k0_pay2 (F := Ideal) x (ix2 i n) = x (ix3 0 i n) := by pointwise [k0_pay2]
  unfold out0_6 k0_pay11 k0_pay12 k0_pay13
  rw [show ∀ p : Vec Ideal S1x512x1024 .f32, View.canon [⟨r0_0, p⟩] = p from fun p => View.canon_unit_zero (by decide) _ p]
  simp only [e0, e1, e2, e3, e4]
  rw [joined, er]
  refine congrArg (x (ix3 0 i n) + ·) (Finset.sum_congr rfl fun f _ => congrArg (· * o (ix2 f n)) ?_)
  simp only [last_scores, head0, head1, head2]
  rw [← beside_heads]
  simp only [← query_apply, ← key_apply ks, ← value_apply vs]
  rfl
end Block

variable (m : (ℓ : Loc nD τ sig) → Buf (Elt Ideal) ℓ)

theorem V_x (c : Dev nD) : V m c main_v1 = shapeCast _ (m ((c : Thread nD τ).loc main_arg0)) shapeCasts_S16384x1024_S8x2048x1024 := by
  show StableHlo.after hostOps0 _ (Proc.devRef .tc main_v1) = _
  after_results
  rfl
theorem V_kv (c : Dev nD) : V m c main_v0 = shapeCast _ (m ((c : Thread nD τ).loc main_arg3)) shapeCasts_S2048x1024_S8x256x1024 := by
  show StableHlo.after hostOps0 _ (Proc.devRef .tc main_v0) = _
  after_results
  rfl
theorem V_g (c : Dev nD) : V m c main_v4 = shapeCast _ (m ((c : Thread nD τ).loc main_arg1)) shapeCasts_S1024_S1x1024 := by
  show StableHlo.after hostOps0 _ (Proc.devRef .tc main_v4) = _
  after_results
  rfl
theorem V_w (c : Dev nD) (y : S1024x512.Idx) : V m c main_v2 y = m ((c : Thread nD τ).loc main_arg2) y := by
  show StableHlo.after hostOps0 _ (Proc.devRef .tc main_v2) y = _
  after_results
  rfl
theorem V_o (c : Dev nD) (y : S512x1024.Idx) : V m c main_v3 y = m ((c : Thread nD τ).loc main_arg4) y := by
  show StableHlo.after hostOps0 _ (Proc.devRef .tc main_v3) y = _
  after_results
  rfl

theorem rows (a : FVec Ideal S16384x1024 .f32) (b : Fin 8) (p : Fin 2048) (l : Fin 1024) :
    shapeCast S8x2048x1024 a shapeCasts_S16384x1024_S8x2048x1024 (ix3 b p l) = a (ix2 (row b p) l) := by
  pointwise []
  rfl
theorem mems (a : FVec Ideal S2048x1024 .f32) (b : Fin 8) (j : Fin 256) (l : Fin 1024) :
    shapeCast S8x256x1024 a shapeCasts_S2048x1024_S8x256x1024 (ix3 b j l) = a (ix2 (mem b j) l) := by
  pointwise []
  rfl
theorem scale (a : FVec Ideal S1024 .f32) (l : Fin 1024) : shapeCast S1x1024 a shapeCasts_S1024_S1x1024 (ix2 0 l) = a (ix1 l) := by
  pointwise []

/-- The sequence and the position of row `i` of a point's block. -/
def bat (t : Fin cfg0.N) : Fin 8 := grid0.coords t 0
@[inherit_doc bat] def pos (t : Fin cfg0.N) (i : Fin 512) : Fin 2048 := ⟨(grid0.coords t 1).val * 512 + i.val, by
  have h : (grid0.coords t 1).val < 4 := (grid0.coords t 1).isLt
  have := i.isLt
  omega⟩

theorem blk0 (c : Dev nD) (t : Fin cfg0.N) (i : Fin 512) (l : Fin 1024) : iblk m c 0 t (ix3 0 i l) = m ((c : Thread nD τ).loc main_arg0) (ix2 (row (bat t) (pos t i)) l) := by
  have e : ∀ t : Fin cfg0.N, win0_0.index t = ![(grid0.coords t 0).val, (grid0.coords t 1).val, 0] := (by decide +kernel : ∀ t : Fin grid0.N, _)
  blk_simp [iblk]
  rw [V_x, ← rows (m ((c : Thread nD τ).loc main_arg0))]
  exact congrArg _ (by blk_ext [e, bat, pos])
theorem blk1 (c : Dev nD) (t : Fin cfg0.N) (l : Fin 1024) : iblk m c 1 t (ix2 0 l) = m ((c : Thread nD τ).loc main_arg1) (ix1 l) := by
  have e : ∀ t : Fin cfg0.N, win0_1.index t = ![0, 0] := (by decide +kernel : ∀ t : Fin grid0.N, _)
  blk_simp [iblk]
  rw [V_g, ← scale (m ((c : Thread nD τ).loc main_arg1))]
  exact congrArg _ (by blk_ext [e])
theorem blk2 (c : Dev nD) (t : Fin cfg0.N) (k : Fin 1024) (n : Fin 512) : iblk m c 2 t (ix2 k n) = m ((c : Thread nD τ).loc main_arg2) (ix2 k n) := by
  have e : ∀ t : Fin cfg0.N, win0_2.index t = ![0, 0] := (by decide +kernel : ∀ t : Fin grid0.N, _)
  blk_simp [iblk]
  rw [V_w]
  exact congrArg (m ((c : Thread nD τ).loc main_arg2)) (by blk_ext [e])
theorem blk3 (c : Dev nD) (t : Fin cfg0.N) (j : Fin 256) (n : Fin 512) : iblk m c 3 t (ix3 0 j n) = m ((c : Thread nD τ).loc main_arg3) (ix2 (mem (bat t) j) (kcol n)) := by
  have e : ∀ t : Fin cfg0.N, win0_3.index t = ![(grid0.coords t 0).val, 0, 0] := (by decide +kernel : ∀ t : Fin grid0.N, _)
  blk_simp [iblk]
  rw [V_kv, ← mems (m ((c : Thread nD τ).loc main_arg3))]
  exact congrArg _ (by blk_ext [e, bat, kcol])
theorem blk4 (c : Dev nD) (t : Fin cfg0.N) (j : Fin 256) (n : Fin 512) : iblk m c 4 t (ix3 0 j n) = m ((c : Thread nD τ).loc main_arg3) (ix2 (mem (bat t) j) (vcol n)) := by
  have e : ∀ t : Fin cfg0.N, win0_4.index t = ![(grid0.coords t 0).val, 0, 1] := (by decide +kernel : ∀ t : Fin grid0.N, _)
  blk_simp [iblk]
  rw [V_kv, ← mems (m ((c : Thread nD τ).loc main_arg3))]
  exact congrArg _ (by blk_ext [e, bat, vcol])
theorem blk5 (c : Dev nD) (t : Fin cfg0.N) (f : Fin 512) (n : Fin 1024) : iblk m c 5 t (ix2 f n) = m ((c : Thread nD τ).loc main_arg4) (ix2 f n) := by
  have e : ∀ t : Fin cfg0.N, win0_5.index t = ![0, 0] := (by decide +kernel : ∀ t : Fin grid0.N, _)
  blk_simp [iblk]
  rw [V_o]
  exact congrArg (m ((c : Thread nD τ).loc main_arg4)) (by blk_ext [e])

/-- After the run the result array is `crossArr` of the arguments. -/
theorem final (c : Dev nD) : (dats m 0 c).arrAt 6 cfg0.N = crossArr (m ((c : Thread nD τ).loc main_arg0)) (m ((c : Thread nD τ).loc main_arg1))
    (m ((c : Thread nD τ).loc main_arg2)) (m ((c : Thread nD τ).loc main_arg3)) (m ((c : Thread nD τ).loc main_arg4)) := by
  have e : ∀ t : Fin cfg0.N, win0_6.index t = ![(grid0.coords t 0).val, (grid0.coords t 1).val, 0] := (by decide +kernel : ∀ t : Fin grid0.N, _)
  refine (dats m 0 c).arrAt_eq_of_covers 6 _ (by decide +kernel) fun t hf y => ?_
  blk_simp
  rw [after0_6]
  have key (i : Fin 512) (n : Fin 1024) (u : S8x2048x1024.Idx) (hu : u = ix3 (bat t) (pos t i) n) :
      out0_6 (F := Ideal) (iblk m c 0 t) (iblk m c 1 t) (iblk m c 2 t) (iblk m c 3 t) (iblk m c 4 t) (iblk m c 5 t) (ix3 0 i n)
      = crossArr (m ((c : Thread nD τ).loc main_arg0)) (m ((c : Thread nD τ).loc main_arg1))
          (m ((c : Thread nD τ).loc main_arg2)) (m ((c : Thread nD τ).loc main_arg3)) (m ((c : Thread nD τ).loc main_arg4)) u := by
    subst hu
    rw [out_apply]
    simp only [blk0, blk1, blk2, blk3, blk4, blk5]
    rfl
  obtain ⟨i, n, rfl⟩ : ∃ (i : Fin 512) (n : Fin 1024), y = ix3 0 i n := ⟨y 1, y 2, funext fun a => match a with
    | 0 => Subsingleton.elim (α := Fin 1) _ _
    | 1 => rfl
    | 2 => rfl⟩
  exact key i n _ (by blk_ext [e, bat, pos])

end Cert.CrossIdeal.Heads

end
-- ==== Proof.CrossValue.lean ====
/- The cross attention's reference: its result array is the same plain function of the argument arrays as the kernel's. -/
module

public import proofs.«01_k».proof.Proof.CrossKernel
public import proofs.«01_k».proof.Proof.Gen.CrossRefIdeal.Read

@[expose] public section

set_option maxRecDepth 16384

noncomputable section

namespace Cert.CrossAlgebra

open Idealize.ShloMosaic Idealize.ShloMosaic.TcCoe Idealize.SL.Sem
open Cert.CrossRefIdeal Cert.CrossRefIdeal.Gen Cert.CrossRefIdeal.Read
open Cert.CrossIdeal.Heads (unit score peak expo weigh hd head heads row mem kcol vcol query crossArr)

variable (x : FVec Ideal S16384x1024 .f32) (g : FVec Ideal S1024 .f32) (w : FVec Ideal S1024x512 .f32)
  (kv : FVec Ideal S2048x1024 .f32) (o : FVec Ideal S512x1024 .f32)

/-- The reference's normalised rows -/
theorem ref_unit (b : Fin 8) (p : Fin 2048) (k : Fin 1024) :
    val_main_v13 (F := Ideal) x g (ix3 b p k) = unit (fun i => x (ix2 (row b p) i)) (fun i => g (ix1 i)) k := by
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, unit]
  rfl
/-- and queries, -/
theorem ref_query (b : Fin 8) (p : Fin 2048) (n : Fin 512) : val_main_v19 (F := Ideal) x g w (ix3 b p n) = query x g w b p n := by
  have h : val_main_v19 (F := Ideal) x g w (ix3 b p n) = ∑ k : Fin 1024, val_main_v13 (F := Ideal) x g (ix3 b p k) * w (ix2 k n) := by
    generalize hq : val_main_v13 (F := Ideal) x g = q
    pointwise [val_main_v19, hq]
  rw [h]
  simp only [ref_unit]
  rfl
/-- memory rows, -/
theorem ref_mem (b : Fin 8) (j : Fin 256) (l : Fin 1024) : val_main_v14 (F := Ideal) kv (ix3 b j l) = kv (ix2 (mem b j) l) := by
  pointwise [val_main_v14]
  rfl
/-- scores, -/
theorem ref_score (b : Fin 8) (h : Fin 4) (p : Fin 2048) (j : Fin 256) : val_main_v23 (F := Ideal) x g w kv (ix4 b h p j)
    = score (fun e => query x g w b p (hd h e)) (fun e => kv (ix2 (mem b j) (kcol (hd h e)))) := by
  simp only [← ref_query, ← ref_mem]
  have hq : val_main_v20 (F := Ideal) x g w = shapeCast _ (val_main_v19 (F := Ideal) x g w) shapeCasts_S8x2048x512_S8x2048x4x128 := rfl
  generalize val_main_v19 (F := Ideal) x g w = q at *
  have hk : val_main_v15 (F := Ideal) kv = extractStridedSlice S8x256x512 ![0, 0, 0] (val_main_v14 (F := Ideal) kv) slices_S8x256x1024_S8x256x512_0_0_0 := rfl
  generalize val_main_v14 (F := Ideal) kv = k at *
  pointwise [val_main_v23, val_main_v22, val_main_v21, val_main_v16, val_main_cst_2, hq, hk, score]
  rfl
/-- the largest of them, -/
theorem ref_peak (b : Fin 8) (h : Fin 4) (p : Fin 2048) : val_main_v24 (F := Ideal) x g w kv (ix3 b h p)
    = peak (fun j => val_main_v23 (F := Ideal) x g w kv (ix4 b h p j)) := by
  unfold val_main_v24
  generalize val_main_v23 (F := Ideal) x g w kv = s
  pointwise [val_main_cst_3]
  rfl
/-- exponentials -/
theorem ref_expo (b : Fin 8) (h : Fin 4) (p : Fin 2048) (j : Fin 256) : val_main_v30 (F := Ideal) x g w kv (ix4 b h p j)
    = expo (fun j => val_main_v23 (F := Ideal) x g w kv (ix4 b h p j)) j := by
  have ht : val_main_v26 (F := Ideal) x g w kv (ix3 b h p) = max (Ideal.ofBits .f32 0xFF800000#32) (val_main_v24 (F := Ideal) x g w kv (ix3 b h p)) := by
    rw [val_main_v26_apply]
    generalize val_main_v24 (F := Ideal) x g w kv (ix3 b h p) = z
    pointwise [val_main_v25, val_main_cst_4]
  have he : val_main_v30 (F := Ideal) x g w kv (ix4 b h p j) = Ideal.exp (val_main_v23 (F := Ideal) x g w kv (ix4 b h p j)
      - val_main_v26 (F := Ideal) x g w kv (ix3 b h p)) := by
    unfold val_main_v30 val_main_v29 val_main_v28 val_main_v27
    generalize val_main_v26 (F := Ideal) x g w kv = t
    generalize val_main_v23 (F := Ideal) x g w kv = s
    pointwise []
  rw [he, ht, ref_peak, max_eq_right]
  · rfl
  · exact (Finset.le_fold_max _).mpr (Or.inl le_rfl)
/-- and heads. -/
theorem ref_head (b : Fin 8) (h : Fin 4) (p : Fin 2048) (d : Fin 128) : val_main_v35 (F := Ideal) x g w kv (ix4 b h d p)
    = head (query x g w b p) (fun j n => kv (ix2 (mem b j) (kcol n))) (fun j n => kv (ix2 (mem b j) (vcol n))) h d := by
  have hw : val_main_v35 (F := Ideal) x g w kv (ix4 b h d p)
      = weigh (fun j => val_main_v30 (F := Ideal) x g w kv (ix4 b h p j)) (fun j => val_main_v14 (F := Ideal) kv (ix3 b j (vcol (hd h d)))) := by
    generalize hq : val_main_v30 (F := Ideal) x g w kv = e
    have hv : val_main_v17 (F := Ideal) kv = extractStridedSlice S8x256x512 ![0, 0, 512] (val_main_v14 (F := Ideal) kv) slices_S8x256x1024_S8x256x512_0_0_512 := rfl
    generalize val_main_v14 (F := Ideal) kv = k at *
    pointwise [val_main_v35, val_main_v34, val_main_v33, val_main_v32, val_main_v31, val_main_v18, val_main_cst_5, hq, hv, weigh]
    exact Finset.sum_congr rfl fun j _ => mul_comm _ _
  rw [hw]
  simp only [ref_expo, ref_score, ref_mem]
  rfl

/-- The reference's result. -/
theorem ref_eq : val_main_v40 (F := Ideal) x g w kv o = crossArr x g w kv o := by
  funext y
  obtain ⟨b, p, n, rfl⟩ : ∃ (b : Fin 8) (p : Fin 2048) (n : Fin 1024), y = ix3 b p n := ⟨y 0, y 1, y 2, funext fun a => match a with
    | 0 => rfl
    | 1 => rfl
    | 2 => rfl⟩
  have h : val_main_v40 (F := Ideal) x g w kv o (ix3 b p n) = x (ix2 (row b p) n) + ∑ f : Fin 512,
      val_main_v35 (F := Ideal) x g w kv (ix4 b ⟨f.val / 128, by have := f.isLt; omega⟩ ⟨f.val % 128, by omega⟩ p) * o (ix2 f n) := by
    generalize hq : val_main_v35 (F := Ideal) x g w kv = q
    pointwise [val_main_v40, val_main_v39, val_main_v38, val_main_v37, val_main_v36, hq]
    rfl
  rw [h]
  simp only [ref_head]
  rfl

/-- The result, from the kernel's own argument arrays. -/
def result0 (m : (ℓ : Loc Cert.CrossIdeal.nD Cert.CrossIdeal.τ Cert.CrossIdeal.sig) → Buf (Elt Ideal) ℓ) (c : Dev Cert.CrossIdeal.nD) :
    Buf (Elt Ideal) ((c.tc : Thread Cert.CrossIdeal.nD Cert.CrossIdeal.τ).loc Cert.CrossIdeal.main_v5) :=
  crossArr (m ((c.tc : Thread Cert.CrossIdeal.nD Cert.CrossIdeal.τ).loc Cert.CrossIdeal.main_arg0)) (m ((c.tc : Thread Cert.CrossIdeal.nD Cert.CrossIdeal.τ).loc Cert.CrossIdeal.main_arg1)) (m ((c.tc : Thread Cert.CrossIdeal.nD Cert.CrossIdeal.τ).loc Cert.CrossIdeal.main_arg2)) (m ((c.tc : Thread Cert.CrossIdeal.nD Cert.CrossIdeal.τ).loc Cert.CrossIdeal.main_arg3)) (m ((c.tc : Thread Cert.CrossIdeal.nD Cert.CrossIdeal.τ).loc Cert.CrossIdeal.main_arg4))

/-- The kernel's array is this. -/
theorem kernel0 (m : (ℓ : Loc Cert.CrossIdeal.nD Cert.CrossIdeal.τ Cert.CrossIdeal.sig) → Buf (Elt Ideal) ℓ) (c : Dev Cert.CrossIdeal.nD) :
    (Cert.CrossIdeal.Gen.dats m 0 c).arrAt 6 Cert.CrossIdeal.cfg0.N = result0 m c := Cert.CrossIdeal.Heads.final m c

/-- So is the reference's, from memories that agree on the arguments. -/
theorem agree0 (m : (ℓ : Loc Cert.CrossIdeal.nD Cert.CrossIdeal.τ Cert.CrossIdeal.sig) → Buf (Elt Ideal) ℓ)
    (m' : (ℓ : Loc nD τ sig) → Buf (Elt Ideal) ℓ) (c : Dev nD)
    (e0 : m' ((c.tc : Thread nD τ).loc main_arg0) = m ((c.tc : Thread Cert.CrossIdeal.nD Cert.CrossIdeal.τ).loc Cert.CrossIdeal.main_arg0))
    (e1 : m' ((c.tc : Thread nD τ).loc main_arg1) = m ((c.tc : Thread Cert.CrossIdeal.nD Cert.CrossIdeal.τ).loc Cert.CrossIdeal.main_arg1))
    (e2 : m' ((c.tc : Thread nD τ).loc main_arg2) = m ((c.tc : Thread Cert.CrossIdeal.nD Cert.CrossIdeal.τ).loc Cert.CrossIdeal.main_arg2))
    (e3 : m' ((c.tc : Thread nD τ).loc main_arg3) = m ((c.tc : Thread Cert.CrossIdeal.nD Cert.CrossIdeal.τ).loc Cert.CrossIdeal.main_arg3))
    (e4 : m' ((c.tc : Thread nD τ).loc main_arg4) = m ((c.tc : Thread Cert.CrossIdeal.nD Cert.CrossIdeal.τ).loc Cert.CrossIdeal.main_arg4)) :
    val_main_v40 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) = result0 m c := by
  rw [ref_eq, e0, e1, e2, e3, e4]
  rfl

end Cert.CrossAlgebra

end
-- ==== Proof.FfnIdealBody.lean ====
/- The body of the gated convolution call (`FfnIdeal`): what it leaves in every buffer at any point, as plain functions of
   what it finds. A point forms one block of columns of the gate product under the rows above it (the history at the top
   of a batch entry, the last rows of the block before elsewhere, kept in a scratch per block of columns), runs the three
   taps over it, multiplies by the other product and adds the product with the block of the second weight to the sums. -/
module

public import proofs.«01_k».proof.Proof.Gen.FfnIdeal.Frame
public import proofs.«01_k».proof.Proof.Gen.FfnIdeal.Skeleton
public import Idealize.ShloMosaic.Lib.Pipeline.ValueKit
public import Idealize.ShloMosaic.Lib.Claim
public import Idealize.ShloMosaic.Lib.VecWindow

@[expose] public section

set_option maxRecDepth 16384

noncomputable section

namespace Cert.FfnIdeal.Conv

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (put)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

/-- The body's first condition: the point opens a block of rows. -/
abbrev opens (i : grid0.Coords) : Prop := Scalar.cmpi .ne (Scalar.extui (Scalar.cmpi .eq (BitVec.ofNat 32 (i 2).val) 0#32)) 0#32 = 1#1
/-- Its second: the block of rows is the first of its batch entry. -/
abbrev early (i : grid0.Coords) : Prop := Scalar.cmpi .ne (Scalar.extui (Scalar.cmpi .eq (BitVec.ofNat 32 (i 1).val) 0#32)) 0#32 = 1#1

theorem late_iff (i : grid0.Coords) : k0_cond3 i = 1#1 ↔ ¬early i := by
  have h : (i 1).val = 0 ∨ (i 1).val = 1 := by have : (i 1).val < 2 := (i 1).isLt; omega
  simp only [k0_cond3, early]
  rcases h with e | e <;> rw [e] <;> decide

/-- A buffer of which nothing is known. -/
abbrev blank : Vec F S1032x256 .f32 := View.canon []

/-- The rows of the gate product above the block: the history at the top of a batch entry, -/
def topRows (x9 : Vec F S1x2x256 .f32) : Vec F S1032x256 .f32 :=
  put (put blank ![0, 0] S8x256.size (k0_pay6 (F := F))) ![6, 0] S2x256.size (k0_pay7 x9)
/-- the last rows of the block before elsewhere. -/
def haloRows (i : grid0.Coords) (x14 : Vec F S11x8x256 .f32) : Vec F S1032x256 .f32 :=
  put blank ![0, 0] S8x256.size (k0_pay8 (VecWindow.window x14 (k0_off2 i) S1x8x256.size (k0_off2_inb i)))
/-- The gate product of the block under the rows above it. -/
def gateRows (hd : Vec F S1032x256 .f32) (xn : Vec F S1024x1024 .bf16) (x5 : Vec F S1024x256 .bf16) : Vec F S1032x256 .f32 :=
  put hd ![8, 0] S1024x256.size (k0_pay9 xn x5)
/-- The last two rows of the gate product. -/
def lastRows (g : Vec F S1032x256 .f32) : Vec F S1x2x256 .f32 :=
  k0_pay11 (View.ld g (Rect.unit (s := S1032x256) ![1030, 0] S2x256.size inb_S1032x256_S2x256_1030_0))
/-- The last eight, as the scratch keeps them. -/
def tailRows (g : Vec F S1032x256 .f32) : Vec F S1x8x256 .f32 :=
  k0_pay10 (View.ld g (Rect.unit (s := S1032x256) ![1024, 0] S8x256.size inb_S1032x256_S8x256_1024_0))
/-- The scratch of last rows with those of this block in the point's place. -/
def haloPut (i : grid0.Coords) (x14 : Vec F S11x8x256 .f32) (g : Vec F S1032x256 .f32) : Vec F S11x8x256 .f32 :=
  put x14 (k0_off2 i) S1x8x256.size (tailRows g)

/-- Row `n` of the three taps, -/
abbrev tap0 (x7 : Vec F S3x256 .f32) : Vec F S1x256 .f32 := View.ld x7 (Rect.unit (s := S3x256) ![0, 0] S1x256.size inb_S3x256_S1x256_0_0)
@[inherit_doc tap0] abbrev tap1 (x7 : Vec F S3x256 .f32) : Vec F S1x256 .f32 := View.ld x7 (Rect.unit (s := S3x256) ![1, 0] S1x256.size inb_S3x256_S1x256_1_0)
@[inherit_doc tap0] abbrev tap2 (x7 : Vec F S3x256 .f32) : Vec F S1x256 .f32 := View.ld x7 (Rect.unit (s := S3x256) ![2, 0] S1x256.size inb_S3x256_S1x256_2_0)

/-- The sums after the point: each quarter of the rows has its products added. -/
def addRows (a : Vec F S1024x1024 .f32) (g : Vec F S1032x256 .f32) (u : FVec F S1024x256 .f32) (x7 : Vec F S3x256 .f32) (x8 : Vec F S256x1024 .bf16) : Vec F S1024x1024 .f32 :=
  put (put (put (put a
    ![0, 0] S256x1024.size (k0_pay12 u (tap0 x7) (View.ld g (Rect.unit (s := S1032x256) ![6, 0] S256x256.size inb_S1032x256_S256x256_6_0)) (tap1 x7) (View.ld g (Rect.unit (s := S1032x256) ![7, 0] S256x256.size inb_S1032x256_S256x256_7_0)) (tap2 x7) (View.ld g (Rect.unit (s := S1032x256) ![8, 0] S256x256.size inb_S1032x256_S256x256_8_0)) (View.ld a (Rect.unit (s := S1024x1024) ![0, 0] S256x1024.size inb_S1024x1024_S256x1024_0_0)) x8))
    ![256, 0] S256x1024.size (k0_pay14 u (k0_pay13 (tap0 x7) (View.ld g (Rect.unit (s := S1032x256) ![262, 0] S256x256.size inb_S1032x256_S256x256_262_0))) (tap1 x7) (View.ld g (Rect.unit (s := S1032x256) ![263, 0] S256x256.size inb_S1032x256_S256x256_263_0)) (tap2 x7) (View.ld g (Rect.unit (s := S1032x256) ![264, 0] S256x256.size inb_S1032x256_S256x256_264_0)) (View.ld a (Rect.unit (s := S1024x1024) ![256, 0] S256x1024.size inb_S1024x1024_S256x1024_256_0)) x8))
    ![512, 0] S256x1024.size (k0_pay16 u (k0_pay15 (tap0 x7) (View.ld g (Rect.unit (s := S1032x256) ![518, 0] S256x256.size inb_S1032x256_S256x256_518_0)) (tap1 x7) (View.ld g (Rect.unit (s := S1032x256) ![519, 0] S256x256.size inb_S1032x256_S256x256_519_0))) (tap2 x7) (View.ld g (Rect.unit (s := S1032x256) ![520, 0] S256x256.size inb_S1032x256_S256x256_520_0)) (View.ld a (Rect.unit (s := S1024x1024) ![512, 0] S256x1024.size inb_S1024x1024_S256x1024_512_0)) x8))
    ![768, 0] S256x1024.size (k0_pay1 (View.ld a (Rect.unit (s := S1024x1024) ![768, 0] S256x1024.size inb_S1024x1024_S256x1024_768_0)) (k0_pay17 u (tap0 x7) (View.ld g (Rect.unit (s := S1032x256) ![774, 0] S256x256.size inb_S1032x256_S256x256_774_0)) (tap1 x7) (View.ld g (Rect.unit (s := S1032x256) ![775, 0] S256x256.size inb_S1032x256_S256x256_775_0)) (tap2 x7) (View.ld g (Rect.unit (s := S1032x256) ![776, 0] S256x256.size inb_S1032x256_S256x256_776_0))) x8)

/-- A store's contribution to what a list of stores leaves, as a put. -/
theorem canon_cons_put {s : Shape} {e : EltTy} {off size : Fin s.rank → ℕ} (inb : ∀ a, off a + size a ≤ s.size a)
    (w : (Rect.unit off size inb).shape.Idx → Elt F e) (L : List (View.Piece (Elt F) s e)) :
    View.canon (⟨Rect.unit off size inb, w⟩ :: L) = put (View.canon L) off size w := by
  funext y
  by_cases h : ∀ a, off a ≤ (y a).val ∧ (y a).val < off a + size a
  · have e1 : (Rect.unit off size inb).emb (Rect.unitLocal (s := s) (off := off) (size := size) y h) = y :=
      funext fun a => Fin.ext (by
        show off a + 1 * ((y a).val - off a) = (y a).val
        have := h a; omega)
    rw [show put (View.canon L) off size w y = w (Rect.unitLocal (s := s) (off := off) (size := size) y h) from dif_pos h]
    conv_lhs => rw [← e1]
    exact View.canon_cons_emb _ w L _
  · rw [show put (View.canon L) off size w y = View.canon L y from dif_neg h]
    refine View.canon_cons_of_not_mem _ L fun hm => h fun a => ?_
    obtain ⟨x, rfl⟩ := (Rect.unit off size inb).exists_idx_of_mem hm
    have ex : ((Rect.unit off size inb).emb x a).val = off a + 1 * (x a).val := rfl
    have hx := (x a).isLt
    have hs : (Rect.unit off size inb).shape.size a = size a := rfl
    exact ⟨by rw [show ((Rect.unit off size inb).idx x a).val = off a + 1 * (x a).val from rfl]; omega,
      by rw [show ((Rect.unit off size inb).idx x a).val = off a + 1 * (x a).val from rfl]; omega⟩

/-- A load after stores, as a load of what they leave. -/
theorem readCov_eq_ld {s : Shape} {e : EltTy} (v : View sig .tc .vmem s e) (L : List (View.Piece (Elt F) s e)) (r : Rect s) :
    v.readCov L r.toLoadRect = View.ld (View.canon L) r := View.readCov_eq_canon' v L _

/-- What a store leaves, as a put. -/
theorem read_writes_put {s : Shape} {e : EltTy} (v : View sig .tc .vmem s e) (f : v.ty.Contents (Elt F)) {off size : Fin s.rank → ℕ}
    (inb : ∀ a, off a + size a ≤ s.size a) (w : (Rect.unit off size inb).shape.Idx → Elt F e) (L : List (View.Piece (Elt F) s e)) :
    v.read (Elt F) (v.writes (Elt F) f (⟨Rect.unit off size inb, w⟩ :: L)) = put (v.read (Elt F) (v.writes (Elt F) f L)) off size w :=
  View.read_writes_cons_put v f inb w L rfl

/-- Putting a whole buffer. -/
theorem put_all {α : Type} {s : Shape} (x w : s.Idx → α) {off : Fin s.rank → ℕ} (h : ∀ a, off a = 0) : put x off (no_index s.size) w = w := by
  obtain rfl : off = fun _ => 0 := funext h
  funext y
  have hy : ∀ a, (fun _ : Fin s.rank => 0) a ≤ (y a).val ∧ (y a).val < (fun _ : Fin s.rank => 0) a + s.size a := fun a => ⟨Nat.zero_le _, by have := (y a).isLt; omega⟩
  refine (dif_pos hy).trans (congrArg w (funext fun a => Fin.ext ?_))
  show (y a).val - 0 = (y a).val
  omega

/-- A load beside what was just put reads what was there before. -/
theorem ld_put_beside {e : EltTy} {s : Shape} (x : s.Idx → Elt F e) {off size off' size' : Fin s.rank → ℕ} (inb : ∀ a, off' a + size' a ≤ s.size a)
    (w : ((a : Fin s.rank) → Fin (size a)) → Elt F e) (h : ∃ a, off' a + size' a ≤ off a ∨ off a + size a ≤ off' a) :
    View.ld (put x off size w) (Rect.unit (s := s) off' size' inb) = View.ld x (Rect.unit (s := s) off' size' inb) := by
  funext y
  obtain ⟨a, ha⟩ := h
  have hy := (y a).isLt
  refine dif_neg fun hw => ?_
  have h1 : off a ≤ off' a + 1 * (y a).val ∧ off' a + 1 * (y a).val < off a + size a := hw a
  have h2 : (y a).val < size' a := hy
  omega

@[inherit_doc ld_put_beside] theorem ld_rows_beside (x : Vec F S1024x1024 .f32) (o o' : ℕ) (inb : ∀ a, (![o', 0] : Fin 2 → ℕ) a + (![256, 1024] : Fin 2 → ℕ) a ≤ S1024x1024.size a)
    (w : Vec F S256x1024 .f32) (h : o' + 256 ≤ o ∨ o + 256 ≤ o') :
    View.ld (no_index (put x ![o, 0] ![256, 1024] w)) (no_index (Rect.unit (s := S1024x1024) ![o', 0] ![256, 1024] inb)) = View.ld x (Rect.unit (s := S1024x1024) ![o', 0] ![256, 1024] inb) :=
  ld_put_beside x inb w ⟨0, h⟩

/-- The last rows kept for the point, read through either of two equal offsets. -/
theorem ld_halo (i : grid0.Coords) (x14 : Vec F S11x8x256 .f32) (h : ∀ a, k0_off1 i a + S1x8x256.size a ≤ S11x8x256.size a) :
    (View.ld x14 (Rect.unit (s := S11x8x256) (k0_off1 i) (no_index S1x8x256.size) h) : Vec F S1x8x256 .f32) = VecWindow.window x14 (k0_off2 i) S1x8x256.size (k0_off2_inb i) := rfl

/-- Four bands of rows cover the sums: what was there before does not matter. -/
theorem put_bands (x y : Vec F S1024x1024 .f32) (w0 w1 w2 w3 : Vec F S256x1024 .f32) :
    put (put (put (put x ![0, 0] ![256, 1024] w0) ![256, 0] ![256, 1024] w1) ![512, 0] ![256, 1024] w2) ![768, 0] ![256, 1024] w3
      = put (put (put (put y ![0, 0] ![256, 1024] w0) ![256, 0] ![256, 1024] w1) ![512, 0] ![256, 1024] w2) ![768, 0] ![256, 1024] w3 := by
  funext v
  have hv : (v 0).val < 1024 := (v 0).isLt
  have hc : (v 1).val < 1024 := (v 1).isLt
  have band (o : ℕ) : (∀ a, (![o, 0] : Fin 2 → ℕ) a ≤ (v a).val ∧ (v a).val < (![o, 0] : Fin 2 → ℕ) a + (![256, 1024] : Fin 2 → ℕ) a) ↔ o ≤ (v 0).val ∧ (v 0).val < o + 256 :=
    ⟨fun h => h 0, fun h a => match a with
      | 0 => h
      | 1 => ⟨Nat.zero_le _, by show (v 1).val < 0 + 1024; omega⟩⟩
  unfold put
  split_ifs with h3 h2 h1 h0 <;> first
    | rfl
    | (rw [band] at h0 h1 h2 h3; omega)

/-- What a store of the whole buffer leaves. -/
theorem read_writes_all {s : Shape} {e : EltTy} (v : View sig .tc .vmem s e) (f : v.ty.Contents (Elt F)) {off : Fin s.rank → ℕ}
    (inb : ∀ a, off a + s.size a ≤ s.size a) (w : (Rect.unit off s.size inb).shape.Idx → Elt F e) (L : List (View.Piece (Elt F) s e)) :
    v.read (Elt F) (v.writes (Elt F) f (⟨Rect.unit off (no_index s.size) inb, w⟩ :: L)) = w :=
  View.read_writes_full v f inb w L

set_option maxHeartbeats 8000000 in
/-- What the body leaves in every buffer, at any point. -/
theorem body_any (c : Dev nD) (i : grid0.Coords) (arg3 : Memref sig .tc .vmem S1x1024x1024 .f32) (harg3 : arg3.IsWhole) (arg4 : Memref sig .tc .vmem S1x1024 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S3x256 .f32) (harg7 : arg7.IsWhole) (arg8 : Memref sig .tc .vmem S256x1024 .bf16) (harg8 : arg8.IsWhole) (arg9 : Memref sig .tc .vmem S1x2x256 .f32) (harg9 : arg9.IsWhole) (arg10 : Memref sig .tc .vmem S1x1024x1024 .f32) (harg10 : arg10.IsWhole) (arg11 : Memref sig .tc .vmem S1x2x256 .f32) (harg11 : arg11.IsWhole) (arg12 : Memref sig .tc .vmem S1024x1024 .bf16) (harg12 : arg12.IsWhole) (arg13 : Memref sig .tc .vmem S1024x1024 .f32) (harg13 : arg13.IsWhole) (arg14 : Memref sig .tc .vmem S11x8x256 .f32) (harg14 : arg14.IsWhole) (arg15 : Memref sig .tc .vmem S1032x256 .f32) (harg15 : arg15.IsWhole)
    (x3 : Vec F S1x1024x1024 .f32) (x4 : Vec F S1x1024 .f32) (x5 : Vec F S1024x256 .bf16) (x6 : Vec F S1024x256 .bf16) (x7 : Vec F S3x256 .f32) (x8 : Vec F S256x1024 .bf16) (x9 : Vec F S1x2x256 .f32) (x10 : Vec F S1x1024x1024 .f32) (x12 : Vec F S1024x1024 .bf16) (x13 : Vec F S1024x1024 .f32) (x14 : Vec F S11x8x256 .f32)
    (xn : Vec F S1024x1024 .bf16) (a : Vec F S1024x1024 .f32) (hd : Vec F S1032x256 .f32) (y10 : Vec F S1x1024x1024 .f32)
    (h1 : opens i ∧ xn = k0_pay3 x3 x4 ∧ a = k0_pay4 ∨ ¬opens i ∧ xn = x12 ∧ a = x13)
    (h2 : early i ∧ hd = topRows x9 ∨ ¬early i ∧ hd = haloRows i x14)
    (h4 : k0_cond4 i = 1#1 ∧ y10 = k0_pay2 x3 (addRows a (gateRows hd xn x5) (k0_pay5 xn x6) x7 x8) ∨ ¬k0_cond4 i = 1#1 ∧ y10 = x10)
    (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare x12 ∗ owns (c : Thread nD τ) arg13 fullShare x13 ∗ owns (c : Thread nD τ) arg14 fullShare x14 ∗ (∃ d, owns (c : Thread nD τ) arg15 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare y10 ∗ owns (c : Thread nD τ) arg11 fullShare (lastRows (gateRows hd xn x5)) ∗ owns (c : Thread nD τ) arg12 fullShare xn ∗ owns (c : Thread nD τ) arg13 fullShare (addRows a (gateRows hd xn x5) (k0_pay5 xn x6) x7 x8) ∗ owns (c : Thread nD τ) arg14 fullShare (haloPut i x14 (gateRows hd xn x5)) ∗ (∃ d, owns (c : Thread nD τ) arg15 fullShare d)) -∗ K ⟨⟩))
      ⊢ wp frame (wpE (defs₀ (F := F)) Variants.none c none) E (cc0_conv_ffn i arg3 harg3 arg4 harg4 arg5 harg5 arg6 harg6 arg7 harg7 arg8 harg8 arg9 harg9 arg10 harg10 arg11 harg11 arg12 harg12 arg13 harg13 arg14 harg14 arg15 harg15) K := by
  simp only [cc0_conv_ffn_eq_skeleton]; unfold cc0_conv_ffn_skel
  simp only [k0_part1_eq_skeleton, k0_part2_eq_skeleton, k0_part3_eq_skeleton, k0_part4_eq_skeleton]
  unfold k0_part1_skel k0_part2_skel k0_part3_skel k0_part4_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%d15, %f15, -, H15⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14
  have h3 := late_iff i
  obtain ⟨h1, rfl, rfl⟩ | ⟨h1, rfl, rfl⟩ := h1 <;> obtain ⟨h2, rfl⟩ | ⟨h2, rfl⟩ := h2 <;> obtain ⟨h4, rfl⟩ | ⟨h4, rfl⟩ := h4
  all_goals
    sl_exec (disch := first | sl_exact h1 | sl_exact h2 | sl_exact (h3.mpr h2) | sl_exact (fun e => h3.mp e h2) | sl_exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr
      swap; · iexact H10
      ipureintro
      frame_open
      (simp (disch := decide) only [ld_rows_beside, ld_halo, blank, tap0, tap1, tap2, put_all, read_writes_all, read_writes_put, View.writes_nil, gateRows, haloRows, topRows, lastRows, tailRows, haloPut, addRows, canon_cons_put, readCov_eq_ld, View.readAt_eq_ld, View.ld_unit_lit', View.canon_cons_unit_lit', View.readCov_unit_lit', View.readCov_cons_unit_lit', Memref.IsWhole.read_unread, harg3, harg4, harg5, harg6, harg7, harg8, harg9, harg10, harg11, harg12, harg13, harg14, harg15]) <;> first | rfl | exact congrArg (k0_pay2 x3) (put_bands _ _ _ _ _ _)
    isplitl [H11]
    · iexists _; isplitr
      swap; · iexact H11
      ipureintro
      frame_open
      (simp (disch := decide) only [ld_rows_beside, ld_halo, blank, tap0, tap1, tap2, put_all, read_writes_all, read_writes_put, View.writes_nil, gateRows, haloRows, topRows, lastRows, tailRows, haloPut, addRows, canon_cons_put, readCov_eq_ld, View.readAt_eq_ld, View.ld_unit_lit', View.canon_cons_unit_lit', View.readCov_unit_lit', View.readCov_cons_unit_lit', Memref.IsWhole.read_unread, harg3, harg4, harg5, harg6, harg7, harg8, harg9, harg10, harg11, harg12, harg13, harg14, harg15]) <;> rfl
    isplitl [H12]
    · iexists _; isplitr
      swap; · iexact H12
      ipureintro
      frame_open
      (simp (disch := decide) only [ld_rows_beside, ld_halo, blank, tap0, tap1, tap2, put_all, read_writes_all, read_writes_put, View.writes_nil, gateRows, haloRows, topRows, lastRows, tailRows, haloPut, addRows, canon_cons_put, readCov_eq_ld, View.readAt_eq_ld, View.ld_unit_lit', View.canon_cons_unit_lit', View.readCov_unit_lit', View.readCov_cons_unit_lit', Memref.IsWhole.read_unread, harg3, harg4, harg5, harg6, harg7, harg8, harg9, harg10, harg11, harg12, harg13, harg14, harg15]) <;> rfl
    isplitl [H13]
    · iexists _; isplitr
      swap; · iexact H13
      ipureintro
      frame_open
      (simp (disch := decide) only [ld_rows_beside, ld_halo, blank, tap0, tap1, tap2, put_all, read_writes_all, read_writes_put, View.writes_nil, gateRows, haloRows, topRows, lastRows, tailRows, haloPut, addRows, canon_cons_put, readCov_eq_ld, View.readAt_eq_ld, View.ld_unit_lit', View.canon_cons_unit_lit', View.readCov_unit_lit', View.readCov_cons_unit_lit', Memref.IsWhole.read_unread, harg3, harg4, harg5, harg6, harg7, harg8, harg9, harg10, harg11, harg12, harg13, harg14, harg15]) <;> rfl
    isplitl [H14]
    · iexists _; isplitr
      swap; · iexact H14
      ipureintro
      frame_open
      (simp (disch := decide) only [ld_rows_beside, ld_halo, blank, tap0, tap1, tap2, put_all, read_writes_all, read_writes_put, View.writes_nil, gateRows, haloRows, topRows, lastRows, tailRows, haloPut, addRows, canon_cons_put, readCov_eq_ld, View.readAt_eq_ld, View.ld_unit_lit', View.canon_cons_unit_lit', View.readCov_unit_lit', View.readCov_cons_unit_lit', Memref.IsWhole.read_unread, harg3, harg4, harg5, harg6, harg7, harg8, harg9, harg10, harg11, harg12, harg13, harg14, harg15]) <;> rfl
    iexists _; iexists _; isplitr
    swap; · iexact H15
    ipureintro; rfl

end Cert.FfnIdeal.Conv

end
-- ==== Proof.FfnIdealRun.lean ====
/- The launch of the gated convolution call (`FfnIdeal`). The proof data says what the buffers hold after every point: the
   normed rows of the block, the gate product of the block's columns under the rows above it, the sums over the blocks of
   columns seen so far, and the last rows of the gate product; the result's block is stored at a block's last point. Of
   the scratch of last rows the invariant keeps what a later point reads: the slices stored at the eleven points before. -/
module

public import proofs.«01_k».proof.Proof.FfnIdealBody
public import Idealize.ShloMosaic.Lib.Pipeline.ValueKit
public import Idealize.ShloMosaic.Lib.Claim
public import Idealize.ShloMosaic.Lib.VecWindow

@[expose] public section

set_option maxRecDepth 16384

noncomputable section

namespace Cert.FfnIdeal.Conv

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.VecWindow (put)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after a point -/

/-- Window 0's staging buffer at a point. -/
abbrev stg0 (t : Fin cfg0.N) : Memref sig .tc .vmem S1x1024x1024 .f32 := win0_0.stage (cfg0.slots t 0)
/-- Window 1's staging buffer at a point. -/
abbrev stg1 (t : Fin cfg0.N) : Memref sig .tc .vmem S1x1024 .f32 := win0_1.stage (cfg0.slots t 1)
/-- Window 2's staging buffer at a point. -/
abbrev stg2 (t : Fin cfg0.N) : Memref sig .tc .vmem S1024x256 .bf16 := win0_2.stage (cfg0.slots t 2)
/-- Window 3's staging buffer at a point. -/
abbrev stg3 (t : Fin cfg0.N) : Memref sig .tc .vmem S1024x256 .bf16 := win0_3.stage (cfg0.slots t 3)
/-- Window 4's staging buffer at a point. -/
abbrev stg4 (t : Fin cfg0.N) : Memref sig .tc .vmem S3x256 .f32 := win0_4.stage (cfg0.slots t 4)
/-- Window 5's staging buffer at a point. -/
abbrev stg5 (t : Fin cfg0.N) : Memref sig .tc .vmem S256x1024 .bf16 := win0_5.stage (cfg0.slots t 5)
/-- Window 6's staging buffer at a point. -/
abbrev stg6 (t : Fin cfg0.N) : Memref sig .tc .vmem S1x2x256 .f32 := win0_6.stage (cfg0.slots t 6)
/-- Window 7's staging buffer at a point. -/
abbrev stg7 (t : Fin cfg0.N) : Memref sig .tc .vmem S1x1024x1024 .f32 := win0_7.stage (cfg0.slots t 7)
/-- Window 8's staging buffer at a point. -/
abbrev stg8 (t : Fin cfg0.N) : Memref sig .tc .vmem S1x2x256 .f32 := win0_8.stage (cfg0.slots t 8)
/-- The scratch of normed rows, -/
abbrev scr0 : Memref sig .tc .vmem S1024x1024 .bf16 := Memref.whole cc0_scratch0
/-- of sums, -/
abbrev scr1 : Memref sig .tc .vmem S1024x1024 .f32 := Memref.whole cc0_scratch1
/-- of last rows, -/
abbrev scr2 : Memref sig .tc .vmem S11x8x256 .f32 := Memref.whole cc0_scratch2
/-- and of the gate product. -/
abbrev scr3 : Memref sig .tc .vmem S1032x256 .f32 := Memref.whole cc0_scratch3

theorem opens_iff : ∀ t : Fin cfg0.N, opens (grid0.coords t) ↔ t.val % 11 = 0 :=
  (fun t => by
    have ht : t.val < 176 := Nat.lt_of_lt_of_eq t.isLt N_0
    have e2 : (grid0.coords t 2).val = t.val / 1 % 11 := Pipeline.Grid.coords_val t 2 (by decide) rfl
    simp only [opens, e2]
    word_cmp
   : ∀ t : Fin grid0.N, opens (grid0.coords t) ↔ t.val % 11 = 0)

theorem early_iff : ∀ t : Fin cfg0.N, early (grid0.coords t) ↔ t.val / 11 % 2 = 0 :=
  (fun t => by
    have ht : t.val < 176 := Nat.lt_of_lt_of_eq t.isLt N_0
    have e1 : (grid0.coords t 1).val = t.val / 11 % 2 := Pipeline.Grid.coords_val t 1 (by decide) rfl
    simp only [early, e1]
    word_cmp
   : ∀ t : Fin grid0.N, early (grid0.coords t) ↔ t.val / 11 % 2 = 0)

theorem closes_iff : ∀ t : Fin cfg0.N, k0_cond4 (grid0.coords t) = 1#1 ↔ t.val % 11 = 10 :=
  (fun t => by
    have ht : t.val < 176 := Nat.lt_of_lt_of_eq t.isLt N_0
    have e2 : (grid0.coords t 2).val = t.val / 1 % 11 := Pipeline.Grid.coords_val t 2 (by decide) rfl
    simp only [k0_cond4, e2]
    word_cmp
   : ∀ t : Fin grid0.N, k0_cond4 (grid0.coords t) = 1#1 ↔ t.val % 11 = 10)

theorem slot_eq : ∀ t : Fin cfg0.N, k0_off2 (grid0.coords t) = ![t.val % 11, 0, 0] :=
  (fun t => by
    have e2 : (grid0.coords t 2).val = t.val / 1 % 11 := Pipeline.Grid.coords_val t 2 (by decide) rfl
    rw [k0_off2_eq, e2, Nat.div_one]
   : ∀ t : Fin grid0.N, k0_off2 (grid0.coords t) = ![t.val % 11, 0, 0])

/-- The normed rows of the point's block. -/
def norm (c : Dev nD) (t : Fin cfg0.N) : Vec F S1024x1024 .bf16 := k0_pay3 (iblk m c 0 t) (iblk m c 1 t)

/-- Inside a block of rows the normed rows are those of the point before. -/
theorem norm_prev (c : Dev nD) (t p : Fin cfg0.N) (h : ¬t.val % 11 = 0) (hp : p.val = t.val - 1) : norm m c t = norm m c p := by
  have e0 : ∀ t : Fin cfg0.N, win0_0.index t = ![t.val / 22, t.val / 11 % 2, 0] := (by decide +kernel : ∀ t : Fin grid0.N, _)
  have e1 : ∀ t : Fin cfg0.N, win0_1.index t = ![0, 0] := (by decide +kernel : ∀ t : Fin grid0.N, _)
  have hq : p.val / 22 = t.val / 22 := by omega
  have hr : p.val / 11 % 2 = t.val / 11 % 2 := by omega
  have b0 : (iblk m c 0 t : Vec F S1x1024x1024 .f32) = iblk m c 0 p := by
    funext y; blk_simp [iblk]; exact congrArg _ (by blk_ext [e0, hq, hr])
  have b1 : (iblk m c 1 t : Vec F S1x1024 .f32) = iblk m c 1 p := by
    funext y; blk_simp [iblk]; exact congrArg _ (by blk_ext [e1])
  show k0_pay3 (iblk m c 0 t : Vec F S1x1024x1024 .f32) (iblk m c 1 t : Vec F S1x1024 .f32) = k0_pay3 (iblk m c 0 p : Vec F S1x1024x1024 .f32) (iblk m c 1 p : Vec F S1x1024 .f32)
  rw [b0, b1]

/-- The gate product at a point of a batch entry's first block. -/
def gateTop (c : Dev nD) (t : Fin cfg0.N) : Vec F S1032x256 .f32 := gateRows (topRows (iblk m c 6 t)) (norm m c t) (iblk m c 2 t)

/-- The point of the block before with the same columns. -/
def above (t : Fin cfg0.N) : Fin cfg0.N := ⟨t.val - 11, Nat.lt_of_le_of_lt (Nat.sub_le _ _) t.isLt⟩

/-- The rows above the block. -/
def over (c : Dev nD) (t : Fin cfg0.N) : Vec F S1032x256 .f32 :=
  if t.val / 11 % 2 = 0 then topRows (iblk m c 6 t)
  else put blank ![0, 0] S8x256.size (k0_pay8 (tailRows (gateTop m c (above t))))

/-- The gate product at a point, under the rows above it. -/
def gate (c : Dev nD) (t : Fin cfg0.N) : Vec F S1032x256 .f32 := gateRows (over m c t) (norm m c t) (iblk m c 2 t)

theorem gate_top (c : Dev nD) (t : Fin cfg0.N) (h : t.val / 11 % 2 = 0) : gate m c t = gateTop m c t := by
  unfold gate over gateTop; rw [if_pos h]

/-- The sums after a point that finds `a` in them. -/
def plus (c : Dev nD) (a : Vec F S1024x1024 .f32) (t : Fin cfg0.N) : Vec F S1024x1024 .f32 :=
  addRows a (gate m c t) (k0_pay5 (norm m c t) (iblk m c 3 t)) (iblk m c 4 t) (iblk m c 5 t)

/-- The sums after a point. -/
def sums (c : Dev nD) : (n : ℕ) → n < cfg0.N → Vec F S1024x1024 .f32
  | 0, h => plus m c k0_pay4 ⟨0, h⟩
  | n + 1, h => plus m c (if (n + 1) % 11 = 0 then k0_pay4 else sums c n (Nat.lt_of_succ_lt h)) ⟨n + 1, h⟩

/-- What a point adds to. -/
def start (c : Dev nD) : (n : ℕ) → n < cfg0.N → Vec F S1024x1024 .f32
  | 0, h => k0_pay4
  | n + 1, h => if (n + 1) % 11 = 0 then k0_pay4 else sums m c n (Nat.lt_of_succ_lt h)

theorem sums_eq (c : Dev nD) (n : ℕ) (h : n < cfg0.N) : sums m c n h = plus m c (start m c n h) ⟨n, h⟩ := by
  cases n <;> rfl

theorem start_zero (c : Dev nD) (n : ℕ) (h : n < cfg0.N) (h0 : n % 11 = 0) : start m c n h = k0_pay4 := by
  cases n with
  | zero => rfl
  | succ n => exact if_pos h0

/-- The result's block, as a block's last point stores it. -/
def total (c : Dev nD) (t : Fin cfg0.N) : Vec F S1x1024x1024 .f32 := k0_pay2 (iblk m c 0 t) (sums m c t.val t.isLt)

/-- The scratch of last rows holds those of the eleven points before. -/
def Kept (c : Dev nD) (n : ℕ) (d : Vec F S11x8x256 .f32) : Prop :=
  ∀ p : Fin cfg0.N, p.val < n → n ≤ p.val + 11 →
    VecWindow.window d (k0_off2 (grid0.coords p)) S1x8x256.size (k0_off2_inb _) = tailRows (gate m c p)

theorem kept_zero (c : Dev nD) (d : Vec F S11x8x256 .f32) : Kept m c 0 d := fun _ h => absurd h (Nat.not_lt_zero _)

theorem kept_succ (c : Dev nD) (t : Fin cfg0.N) (d : Vec F S11x8x256 .f32) (h : Kept m c t.val d) :
    Kept m c (t.val + 1) (haloPut (grid0.coords t) d (gate m c t)) := fun p hp hn => by
  by_cases e : p = t
  · subst e; exact VecWindow.window_put_same _ _ _ _ _
  · have ne : p.val ≠ t.val := fun h => e (Fin.ext h)
    refine (VecWindow.window_put_of_disjoint _ _ _ _ _ _ _ (0 : Fin 3) ?_).trans (h p (by omega) (by omega))
    rw [slot_eq, slot_eq]
    show p.val % 11 + 1 ≤ t.val % 11 ∨ t.val % 11 + 1 ≤ p.val % 11
    omega

theorem over_kept (c : Dev nD) (t : Fin cfg0.N) (d : Vec F S11x8x256 .f32) (h : Kept m c t.val d) (hl : ¬t.val / 11 % 2 = 0) :
    over m c t = haloRows (grid0.coords t) d := by
  have key : ∀ (o o' : Fin 3 → ℕ) (e : o = o') (i : ∀ a, o a + S1x8x256.size a ≤ S11x8x256.size a) (i' : ∀ a, o' a + S1x8x256.size a ≤ S11x8x256.size a),
      (VecWindow.window d o S1x8x256.size i : Vec F S1x8x256 .f32) = VecWindow.window d o' S1x8x256.size i' := by
    intro o o' e i i'; subst e; rfl
  have hv : (above t).val = t.val - 11 := rfl
  have hw := h (above t) (by omega) (by omega)
  rw [gate_top m c (above t) (by omega)] at hw
  unfold over haloRows
  rw [if_neg hl, ← hw]
  exact congrArg (fun w : Vec F S1x8x256 .f32 => put blank ![0, 0] S8x256.size (k0_pay8 w))
    (key _ _ (by rw [slot_eq, slot_eq, hv, show (t.val - 11) % 11 = t.val % 11 by omega]) _ _)

/-- The invariant before a point: anything before the first; then what the point before left. -/
def inv (c : Dev nD) : (n : ℕ) → n ≤ cfg0.N → sProp 𝕄
  | 0, _ => Pipeline.ΦA spec0 c
  | n + 1, hn => iprop(owns (c : Thread nD τ) scr0 fullShare (norm m c ⟨n, hn⟩) ∗ owns (c : Thread nD τ) scr1 fullShare (sums m c n hn)
      ∗ (∃ d, ⌜Kept m c (n + 1) d⌝ ∗ owns (c : Thread nD τ) scr2 fullShare d) ∗ (∃ d, owns (c : Thread nD τ) scr3 fullShare d) ∗ (∃ r, prngReg c r))

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => total m c t
    | ⟨8, _⟩ => lastRows (gate m c t)
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = total m c t := by dsimp only [dats]
theorem after_8 (c : Dev nD) (t : Fin cfg0.N) : (dats m 0 c).after 8 t = lastRows (gate m c t) := by dsimp only [dats]

/-- The result's window is idle exactly away from a block's last point. -/
theorem idle_7 (t : Fin cfg0.N) : cfg0.idle 7 (cfg0.grid.coords t) = !decide (t.val % 11 = 10) := by
  show (!(k0_cond4 (grid0.coords t) == 1#1)) = _
  by_cases h : t.val % 11 = 10
  · rw [(closes_iff t).mpr h]; simp [h]
  · have := mt (closes_iff t).mp h
    simp [h, this]

/-- What the result's buffer holds after the point: its block, stored at the last point, or what was there. -/
def left7 (c : Dev nD) (t : Fin cfg0.N) (x : Vec F S1x1024x1024 .f32) : Vec F S1x1024x1024 .f32 := if t.val % 11 = 10 then total m c t else x

theorem leaves_7 (c : Dev nD) (t : Fin cfg0.N) (d) :
    owns (c : Thread nD τ) (stg7 t) fullShare (left7 m c t ((dats m 0 c).before 7 t d)) ⊢ ((dats m 0 c).leavesExact 7 t : sProp 𝕄) := by
  unfold Dat.leavesExact left7
  by_cases h0 : t.val % 11 = 10
  · rw [idle_7, show (!decide (t.val % 11 = 10)) = false by simp [h0], if_pos h0]
    show _ ⊢ owns (c : Thread nD τ) (stg7 t) fullShare ((dats m 0 c).after 7 t)
    rw [after_7]
  · have hf : (cfg0.win 7).flush t = false := Bool.eq_false_iff.mpr fun e => h0 ((flush0_7 t).mp e)
    rw [idle_7, show (!decide (t.val % 11 = 10)) = true by simp [h0], if_neg h0, hf]
    show _ ⊢ iprop(∃ d, owns (c : Thread nD τ) (stg7 t) fullShare ((dats m 0 c).before 7 t d))
    iintro H
    iexists d
    iexact H

/-! ## The body obligation -/

/-- What the body is called with, window by window, -/
def pre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d)))

/-- and what it gives back. -/
def post (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ (dats m 0 c).leavesExact 7 t
    ∗ owns (c : Thread nD τ) (stg8 t) fullShare ((dats m 0 c).after 8 t))

/-- The scratches, whatever they hold, with the generator register: the invariant at its weakest. -/
theorem weakest (c : Dev nD) :
    (Pipeline.ΦA spec0 c : sProp 𝕄) = iprop(((∃ d, owns (c : Thread nD τ) scr0 fullShare d) ∗ (∃ d, owns (c : Thread nD τ) scr1 fullShare d)
      ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; try rfl

/-- The invariant gives the scratches at some contents, at every point. -/
theorem inv_any (c : Dev nD) (n : ℕ) (h : n ≤ cfg0.N) : inv m c n h ⊢ (Pipeline.ΦA spec0 c : sProp 𝕄) := by
  cases n with
  | zero => exact Idealize.SL.BI.Entails.refl _
  | succ n =>
    rw [weakest]; unfold inv
    iintro ⟨H0, H1, ⟨%d, -, H2⟩, H3, Hg⟩
    isplitr [Hg]
    · isplitl [H0]; · iexists _; iexact H0
      isplitl [H1]; · iexists _; iexact H1
      isplitl [H2]; · iexists _; iexact H2
      iexact H3
    iexact Hg

/-- What the invariant says before a point, the first or not. -/
theorem inv_open (c : Dev nD) (n : ℕ) (h : n < cfg0.N) : inv m c n (Nat.le_of_lt h) ⊢
    iprop(∃ x12 x13 x14, ⌜Kept m c n x14 ∧ (¬n % 11 = 0 → x12 = norm m c ⟨n, h⟩ ∧ x13 = start m c n h)⌝
      ∗ owns (c : Thread nD τ) scr0 fullShare x12 ∗ owns (c : Thread nD τ) scr1 fullShare x13 ∗ owns (c : Thread nD τ) scr2 fullShare x14
      ∗ (∃ d, owns (c : Thread nD τ) scr3 fullShare d) ∗ (∃ r, prngReg c r)) := by
  cases n with
  | zero =>
    show (Pipeline.ΦA spec0 c : sProp 𝕄) ⊢ _
    rw [weakest]
    iintro ⟨⟨⟨%d0, H0⟩, ⟨%d1, H1⟩, ⟨%d2, H2⟩, H3⟩, Hg⟩
    iexists d0; iexists d1; iexists d2
    isplitr
    · ipureintro; exact ⟨kept_zero m c d2, fun e => absurd rfl e⟩
    isplitl [H0]; · iexact H0
    isplitl [H1]; · iexact H1
    isplitl [H2]; · iexact H2
    isplitl [H3]; · iexact H3
    iexact Hg
  | succ n =>
    unfold inv
    iintro ⟨H0, H1, ⟨%d2, %k, H2⟩, H3, Hg⟩
    iexists _; iexists _; iexists d2
    isplitr
    swap
    · isplitl [H0]; · iexact H0
      isplitl [H1]; · iexact H1
      isplitl [H2]; · iexact H2
      isplitl [H3]; · iexact H3
      iexact Hg
    ipureintro
    exact ⟨k, fun e => ⟨(norm_prev m c ⟨n + 1, h⟩ ⟨n, Nat.lt_of_succ_lt h⟩ e rfl).symm, (if_neg e).symm⟩⟩

set_option maxHeartbeats 3200000 in
/-- The body at any point. -/
theorem sound (c : Dev nD) (t : Fin cfg0.N) :
    pre m c t ⊢ wp frame (wpE (defs₀ (F := F)) Variants.none c none) Set.univ (bodyAt0 t) (fun _ => post m c t) := by
  unfold pre post bodyAt0
  simp only [before0_0_of m (dats m 0 c) (A_eq m c 0) (after_0 m c), before0_1_of m (dats m 0 c) (A_eq m c 1) (after_1 m c), before0_2_of m (dats m 0 c) (A_eq m c 2) (after_2 m c), before0_3_of m (dats m 0 c) (A_eq m c 3) (after_3 m c), before0_4_of m (dats m 0 c) (A_eq m c 4) (after_4 m c), before0_5_of m (dats m 0 c) (A_eq m c 5) (after_5 m c), before0_6_of m (dats m 0 c) (A_eq m c 6) (after_6 m c)]
  rw [show (dats m 0 c).owesAt () t.succ = (dats m 0 c).owesAt () t.castSucc from rfl,
    after_0, after_1, after_2, after_3, after_4, after_5, after_6, after_8,
    show (dats m 0 c).Φ t.succ = iprop(owns (c : Thread nD τ) scr0 fullShare (norm m c t) ∗ owns (c : Thread nD τ) scr1 fullShare (sums m c t.val t.isLt)
      ∗ (∃ d, ⌜Kept m c (t.val + 1) d⌝ ∗ owns (c : Thread nD τ) scr2 fullShare d) ∗ (∃ d, owns (c : Thread nD τ) scr3 fullShare d) ∗ (∃ r, prngReg c r)) from rfl,
    show (dats m 0 c).Φ t.castSucc = inv m c t.val (Nat.le_of_lt t.isLt) from Pipeline.Dat.Φ_castSucc (inv m c) t]
  refine (sep_mono_left (inv_open m c t.val t.isLt)).trans ?_
  rw [sums_eq]
  iintro ⟨⟨%x12, %x13, %x14, %hx, HA, HB, HC, HD, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hk := hx.1
  have h1 : opens (grid0.coords t) ∧ norm m c t = k0_pay3 (iblk m c 0 t) (iblk m c 1 t) ∧ start m c t.val t.isLt = k0_pay4
      ∨ ¬opens (grid0.coords t) ∧ norm m c t = x12 ∧ start m c t.val t.isLt = x13 := by
    by_cases h : t.val % 11 = 0
    · exact .inl ⟨(opens_iff t).mpr h, rfl, start_zero m c t.val t.isLt h⟩
    · exact .inr ⟨fun e => h ((opens_iff t).mp e), (hx.2 h).1.symm, (hx.2 h).2.symm⟩
  have h2 : early (grid0.coords t) ∧ over m c t = topRows (iblk m c 6 t) ∨ ¬early (grid0.coords t) ∧ over m c t = haloRows (grid0.coords t) x14 := by
    by_cases h : t.val / 11 % 2 = 0
    · exact .inl ⟨(early_iff t).mpr h, if_pos h⟩
    · exact .inr ⟨fun e => h ((early_iff t).mp e), over_kept m c t x14 hk h⟩
  have h4 : k0_cond4 (grid0.coords t) = 1#1 ∧ left7 m c t ((dats m 0 c).before 7 t d7) = k0_pay2 (iblk m c 0 t) (addRows (start m c t.val t.isLt) (gateRows (over m c t) (norm m c t) (iblk m c 2 t)) (k0_pay5 (norm m c t) (iblk m c 3 t)) (iblk m c 4 t) (iblk m c 5 t))
      ∨ ¬k0_cond4 (grid0.coords t) = 1#1 ∧ left7 m c t ((dats m 0 c).before 7 t d7) = (dats m 0 c).before 7 t d7 := by
    by_cases h : t.val % 11 = 10
    · refine .inl ⟨(closes_iff t).mpr h, (if_pos h).trans ?_⟩
      unfold total; rw [sums_eq]; rfl
    · exact .inr ⟨fun e => h ((closes_iff t).mp e), if_neg h⟩
  iapply (body_any c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)
    ((dats m 0 c).before 7 t d7) x12 x13 x14 (norm m c t) (start m c t.val t.isLt) (over m c t) (left7 m c t ((dats m 0 c).before 7 t d7)) h1 h2 h4 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HA]; · iexact HA
  isplitl [HB]; · iexact HB
  isplitl [HC]; · iexact HC
  isplitl [HD]; · iexact HD
  iintro ⟨H0, H1, H2, H3, H4, H5, H6, H7, H8, HA, HB, HC, HD⟩
  isplitl [HA HB HC HD Hg]
  · isplitl [HA]; · iexact HA
    isplitl [HB]; · iexact HB
    isplitl [HC]
    · iexists _; isplitr
      swap; · iexact HC
      ipureintro; exact kept_succ m c t x14 hk
    isplitl [HD]; · iexact HD
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves_7 m c t d7); iexact H7
  iexact H8

/-- The body as the pipeline calls it. -/
theorem row_body (t : Fin cfg0.N) : defs₀ (F := F) .tc cfg0.body (cfg0.bodyArgs t (cfg0.slots t)) = bodyAt0 t := by
  unfold defs₀; rw [Defs.onTc_tc]

set_option maxHeartbeats 1600000 in
theorem obligation (c : Dev nD) : BodyObligation (dats (F := F) m 0 c) (defs₀ (F := F)) Variants.none () Set.univ := fun t => by
  rw [bigSep_W0, bigSep_W0, row_body]
  exact triple_restated (sound m c t) rfl .rfl fun _ => .rfl

/-! ## The run -/

set_option backward.isDefEq.respectTransparency.types false in
/-- Every fair execution ends, with the arrays as the proof data says and all counters at zero. -/
theorem run_counters : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m)
    (hin := fun c => Idealize.SL.BI.Entails.refl _) (hout := fun c => inv_any m c cfg0.N le_rfl)

theorem run : θ_run defs (onTc (τ := τ) (main (F := F))) (s₀ m ρ) (Pipeline.FramePost cfgs (dats m) 0 (V m)) :=
  (θ_run defs _ _).mono (fun _ h => h.1) (run_counters m ρ)

/-- The frame claim: the arguments end as they were, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run m ρ)) ((θ_run defs _ _).mono (fun _ h => h.2) (run_counters m ρ))

/-- The two result arrays after the run, by name, beside the arguments. -/
theorem run_named : θ_run defs (onTc (τ := τ) (main (F := F))) ⟨m, fun _ => 0, ρ⟩ fun r => ∀ c : Dev nD,
      r.2.mem ((c : Thread nD τ).loc main_v4_0) = (dats m 0 c).arrAt 7 cfg0.N
      ∧ r.2.mem ((c : Thread nD τ).loc main_v4_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h => fun c => ⟨(h.1 c).1 7, (h.1 c).1 8, h.2 c⟩)
    (θ_run_and (run m ρ) (frame_of m ρ (dats m) (A_eq m) (run m ρ)))

end Cert.FfnIdeal.Conv

end
-- ==== Proof.FfnValue.lean ====
/- The feed-forward with the gated short convolution: the kernel's two result arrays and the reference's, both as plain
   functions of the argument arrays. The kernel forms the gate product by blocks of 256 columns under the last rows of the
   block of rows before, runs the taps over it, and adds the second product up over the eleven blocks of columns; the
   reference pads the whole gate product with two rows of zeros and multiplies once. -/
module

public import proofs.«01_k».proof.Proof.FfnIdealRun
public import proofs.«01_k».proof.Proof.Gen.FfnRefIdeal.Read
public import proofs.«01_k».proof.Proof.Gen.FfnRefIdeal.Run
public import Idealize.ShloMosaic.Lib.Pipeline.ValueKit
public import Idealize.ShloMosaic.Lib.Pointwise

@[expose] public section

set_option maxRecDepth 16384

noncomputable section

namespace Cert.FfnIdeal.Conv

open Cert.FfnIdeal Cert.FfnIdeal.Gen Idealize.ShloMosaic Idealize.ShloMosaic.TcCoe Idealize.SL.Sem
open Idealize.ShloMosaic.Pipeline
open Idealize.ShloMosaic.VecWindow (put)

/-! ## The functions of the arguments -/

/-- A row of 1024 entries, RMS-normalised and scaled, at column `k`. -/
def rms (x g : Fin 1024 → EReal) (k : Fin 1024) : EReal :=
  x k * Ideal.rsqrt (Ideal.div (∑ i, x i * x i) (Scalar.ofBits (F := Ideal) .f32 0x44800000#32) + Scalar.ofBits (F := Ideal) .f32 0x358637BD#32) * g k

/-- Three taps over three neighbours. -/
def taps (t0 t1 t2 a b c : EReal) : EReal := t0 * a + t1 * b + t2 * c
/-- The gate's activation of `z`, times `u`. -/
def gated (z u : EReal) : EReal := z * Ideal.logistic z * u

/-- The two halves of the first product's columns. -/
def lo (f : Fin 2816) : Fin 5632 := ⟨f.val, by have := f.isLt; omega⟩
@[inherit_doc lo] def hi (f : Fin 2816) : Fin 5632 := ⟨2816 + f.val, by have := f.isLt; omega⟩

section
variable (x : FVec Ideal S8x2048x1024 .f32) (g : FVec Ideal S1024 .f32) (w : FVec Ideal S1024x5632 .f32)
  (t : FVec Ideal S3x2816 .f32) (o : FVec Ideal S2816x1024 .f32)

/-- Position `p` of sequence `b`, normalised, through column `n` of the first weight. -/
def lin (b : Fin 8) (p : Fin 2048) (n : Fin 5632) : EReal :=
  ∑ k : Fin 1024, rms (fun i => x (ix3 b p i)) (fun i => g (ix1 i)) k * w (ix2 k n)
/-- The gate product with two rows of zeros above it. -/
def padded (b : Fin 8) (p : Fin 2050) (f : Fin 2816) : EReal :=
  if h : 2 ≤ p.val then lin x g w b ⟨p.val - 2, by have := p.isLt; omega⟩ (lo f) else 0
/-- What the second product multiplies. -/
def act (b : Fin 8) (p : Fin 2048) (f : Fin 2816) : EReal :=
  gated (taps (t (ix2 0 f)) (t (ix2 1 f)) (t (ix2 2 f)) (padded x g w b ⟨p.val, by have := p.isLt; omega⟩ f)
    (padded x g w b ⟨p.val + 1, by have := p.isLt; omega⟩ f) (padded x g w b ⟨p.val + 2, by have := p.isLt; omega⟩ f))
    (lin x g w b p (hi f))
/-- The first result: the rows with the second product added. -/
def outArr : FVec Ideal S8x2048x1024 .f32 := fun y =>
  x (ix3 (y 0) (y 1) (y 2)) + ∑ f : Fin 2816, act x g w t (y 0) (y 1) f * o (ix2 f (y 2))
/-- The second: the last two rows of the gate product. -/
def lastArr : FVec Ideal S8x2x2816 .f32 := fun y =>
  padded x g w (y 0) ⟨2048 + (show Fin 2 from y 1).val, by have := (show Fin 2 from y 1).isLt; omega⟩ (y 2)
end

/-! ## One point's buffers, element by element -/

theorem norm_apply (x : Vec Ideal S1x1024x1024 .f32) (g : Vec Ideal S1x1024 .f32) (i k : Fin 1024) :
    k0_pay3 (F := Ideal) x g (ix2 i k) = rms (fun l => x (ix3 0 i l)) (fun l => g (ix2 0 l)) k := by
  pointwise [k0_pay3, rms]
theorem prod_apply (x : Vec Ideal S1024x1024 .bf16) (w : Vec Ideal S1024x256 .bf16) (i : Fin 1024) (c : Fin 256) :
    k0_pay9 (F := Ideal) x w (ix2 i c) = ∑ k : Fin 1024, x (ix2 i k) * w (ix2 k c) := by
  pointwise [k0_pay9]
theorem other_apply (x : Vec Ideal S1024x1024 .bf16) (w : Vec Ideal S1024x256 .bf16) (i : Fin 1024) (c : Fin 256) :
    k0_pay5 (F := Ideal) x w (ix2 i c) = ∑ k : Fin 1024, x (ix2 i k) * w (ix2 k c) := by
  pointwise [k0_pay5]
theorem nil_apply (i k : Fin 1024) : k0_pay4 (F := Ideal) (ix2 i k) = 0 := by
  pointwise [k0_pay4]
theorem hist_apply (x : Vec Ideal S1x2x256 .f32) (r : Fin 2) (c : Fin 256) : k0_pay7 (F := Ideal) x (ix2 r c) = x (ix3 0 r c) := by
  pointwise [k0_pay7]
theorem halo_apply (x : Vec Ideal S1x8x256 .f32) (r : Fin 8) (c : Fin 256) : k0_pay8 (F := Ideal) x (ix2 r c) = x (ix3 0 r c) := by
  pointwise [k0_pay8]
theorem tail_apply (x : Vec Ideal S8x256 .f32) (r : Fin 8) (c : Fin 256) : k0_pay10 (F := Ideal) x (ix3 0 r c) = x (ix2 r c) := by
  pointwise [k0_pay10]
theorem last_apply (x : Vec Ideal S2x256 .f32) (r : Fin 2) (c : Fin 256) : k0_pay11 (F := Ideal) x (ix3 0 r c) = x (ix2 r c) := by
  pointwise [k0_pay11]
theorem total_apply (x : Vec Ideal S1x1024x1024 .f32) (s : Vec Ideal S1024x1024 .f32) (i n : Fin 1024) :
    k0_pay2 (F := Ideal) x s (ix3 0 i n) = x (ix3 0 i n) + s (ix2 i n) := by
  pointwise [k0_pay2]

/-- The rows of a put into a buffer of whole rows: those of the window, -/
theorem put_in {α : Type} {R C N : ℕ} (x : (⟨2, ![R, C]⟩ : Shape).Idx → α) (o : ℕ) (w : (⟨2, ![N, C]⟩ : Shape).Idx → α) (i : Fin R) (j : Fin C)
    (n : Fin N) (h : i.val = o + n.val) : put x ![o, 0] ![N, C] w (ix2 i j) = w (ix2 n j) := by
  have hn := n.isLt
  have hj := j.isLt
  have hy : ∀ a : Fin 2, (![o, 0] : Fin 2 → ℕ) a ≤ ((ix2 i j : (⟨2, ![R, C]⟩ : Shape).Idx) a).val ∧ ((ix2 i j : (⟨2, ![R, C]⟩ : Shape).Idx) a).val < (![o, 0] : Fin 2 → ℕ) a + (![N, C] : Fin 2 → ℕ) a := fun a => match a with
    | 0 => ⟨show o ≤ i.val by omega, show i.val < o + N by omega⟩
    | 1 => ⟨Nat.zero_le _, show j.val < 0 + C by omega⟩
  refine (dif_pos hy).trans (congrArg w (funext fun a => Fin.ext ?_))
  match a with
  | 0 => show i.val - o = n.val; omega
  | 1 => show j.val - 0 = j.val; omega
/-- and the rest. -/
theorem put_out {α : Type} {R C N : ℕ} (x : (⟨2, ![R, C]⟩ : Shape).Idx → α) (o : ℕ) (w : (⟨2, ![N, C]⟩ : Shape).Idx → α) (i : Fin R) (j : Fin C)
    (h : i.val < o ∨ o + N ≤ i.val) : put x ![o, 0] ![N, C] w (ix2 i j) = x (ix2 i j) := by
  refine dif_neg fun hy => ?_
  have h0 : o ≤ i.val ∧ i.val < o + N := hy 0
  omega
/-- A load of whole rows. -/
theorem ld_rows {α : EltTy → Type} {e : EltTy} {R C N : ℕ} (x : (⟨2, ![R, C]⟩ : Shape).Idx → α e) (o : ℕ)
    (inb : ∀ a : Fin 2, (![o, 0] : Fin 2 → ℕ) a + (![N, C] : Fin 2 → ℕ) a ≤ (![R, C] : Fin 2 → ℕ) a) (n : Fin N) (j : Fin C) (i : Fin R) (h : i.val = o + n.val) :
    View.ld x (Rect.unit (s := ⟨2, ![R, C]⟩) ![o, 0] ![N, C] inb) (ix2 n j) = x (ix2 i j) := by
  refine congrArg x (funext fun a => Fin.ext ?_)
  match a with
  | 0 => show o + 1 * n.val = i.val; omega
  | 1 => show 0 + 1 * j.val = j.val; omega

/-- The gate product's own rows in its buffer, -/
theorem gate_low (hd : Vec Ideal S1032x256 .f32) (xn : Vec Ideal S1024x1024 .bf16) (x5 : Vec Ideal S1024x256 .bf16) (r : Fin 1032) (c : Fin 256)
    (i : Fin 1024) (h : r.val = 8 + i.val) : gateRows hd xn x5 (ix2 r c) = ∑ k : Fin 1024, xn (ix2 i k) * x5 (ix2 k c) :=
  (put_in hd 8 (k0_pay9 xn x5) r c i h).trans (prod_apply xn x5 i c)
/-- the rows above them, -/
theorem gate_high (hd : Vec Ideal S1032x256 .f32) (xn : Vec Ideal S1024x1024 .bf16) (x5 : Vec Ideal S1024x256 .bf16) (r : Fin 1032) (c : Fin 256)
    (h : r.val < 8) : gateRows hd xn x5 (ix2 r c) = hd (ix2 r c) :=
  put_out hd 8 (k0_pay9 xn x5) r c (.inl h)
/-- the history, -/
theorem top_apply (x9 : Vec Ideal S1x2x256 .f32) (r : Fin 1032) (c : Fin 256) (n : Fin 2) (h : r.val = 6 + n.val) :
    topRows x9 (ix2 r c) = x9 (ix3 0 n c) :=
  (put_in _ 6 (k0_pay7 x9) r c n h).trans (hist_apply x9 n c)
/-- and the last rows of the block before. -/
theorem over_apply (g : Vec Ideal S1032x256 .f32) (r : Fin 1032) (c : Fin 256) (n : Fin 8) (q : Fin 1032) (h : r.val = n.val) (hq : q.val = 1024 + n.val) :
    put (blank (F := Ideal)) ![0, 0] S8x256.size (k0_pay8 (tailRows g)) (ix2 r c) = g (ix2 q c) := by
  refine (put_in _ 0 (k0_pay8 (tailRows g)) r c n (by omega)).trans ?_
  rw [halo_apply]
  unfold tailRows
  rw [tail_apply]
  exact ld_rows g 1024 _ n c q hq
/-- The last two rows, as stored. -/
theorem lastRows_apply (g : Vec Ideal S1032x256 .f32) (r : Fin 2) (c : Fin 256) (q : Fin 1032) (hq : q.val = 1030 + r.val) :
    lastRows g (ix3 0 r c) = g (ix2 q c) := by
  unfold lastRows
  rw [last_apply]
  exact ld_rows g 1030 _ r c q hq

section
variable (u : FVec Ideal S1024x256 .f32) (t0 t1 t2 : Vec Ideal S1x256 .f32) (v0 v1 v2 : Vec Ideal S256x256 .f32) (a : Vec Ideal S256x1024 .f32) (x8 : Vec Ideal S256x1024 .bf16)

theorem quarter0 (i : Fin 256) (n : Fin 1024) (q : Fin 1024) (h : q.val = i.val) : k0_pay12 (F := Ideal) u t0 v0 t1 v1 t2 v2 a x8 (ix2 i n)
    = a (ix2 i n) + ∑ c : Fin 256, gated (taps (t0 (ix2 0 c)) (t1 (ix2 0 c)) (t2 (ix2 0 c)) (v0 (ix2 i c)) (v1 (ix2 i c)) (v2 (ix2 i c))) (u (ix2 q c)) * x8 (ix2 c n) := by
  rw [show q = ⟨i.val, by have := i.isLt; omega⟩ from Fin.ext h]
  pointwise [k0_pay12, gated, taps]
theorem quarter1 (i : Fin 256) (n : Fin 1024) (q : Fin 1024) (h : q.val = 256 + i.val) : k0_pay14 (F := Ideal) u (k0_pay13 t0 v0) t1 v1 t2 v2 a x8 (ix2 i n)
    = a (ix2 i n) + ∑ c : Fin 256, gated (taps (t0 (ix2 0 c)) (t1 (ix2 0 c)) (t2 (ix2 0 c)) (v0 (ix2 i c)) (v1 (ix2 i c)) (v2 (ix2 i c))) (u (ix2 q c)) * x8 (ix2 c n) := by
  rw [show q = ⟨256 + i.val, by have := i.isLt; omega⟩ from Fin.ext h]
  pointwise [k0_pay14, k0_pay13, gated, taps]
theorem quarter2 (i : Fin 256) (n : Fin 1024) (q : Fin 1024) (h : q.val = 512 + i.val) : k0_pay16 (F := Ideal) u (k0_pay15 t0 v0 t1 v1) t2 v2 a x8 (ix2 i n)
    = a (ix2 i n) + ∑ c : Fin 256, gated (taps (t0 (ix2 0 c)) (t1 (ix2 0 c)) (t2 (ix2 0 c)) (v0 (ix2 i c)) (v1 (ix2 i c)) (v2 (ix2 i c))) (u (ix2 q c)) * x8 (ix2 c n) := by
  rw [show q = ⟨512 + i.val, by have := i.isLt; omega⟩ from Fin.ext h]
  pointwise [k0_pay16, k0_pay15, gated, taps]
theorem quarter3 (i : Fin 256) (n : Fin 1024) (q : Fin 1024) (h : q.val = 768 + i.val) : k0_pay1 (F := Ideal) a (k0_pay17 u t0 v0 t1 v1 t2 v2) x8 (ix2 i n)
    = a (ix2 i n) + ∑ c : Fin 256, gated (taps (t0 (ix2 0 c)) (t1 (ix2 0 c)) (t2 (ix2 0 c)) (v0 (ix2 i c)) (v1 (ix2 i c)) (v2 (ix2 i c))) (u (ix2 q c)) * x8 (ix2 c n) := by
  rw [show q = ⟨768 + i.val, by have := i.isLt; omega⟩ from Fin.ext h]
  pointwise [k0_pay1, k0_pay17, gated, taps]
end

/-- What a point adds to row `q` of the sums, column by column of its block. -/
def term (g : Vec Ideal S1032x256 .f32) (u : FVec Ideal S1024x256 .f32) (x7 : Vec Ideal S3x256 .f32) (q : Fin 1024) (c : Fin 256) : EReal :=
  gated (taps (x7 (ix2 0 c)) (x7 (ix2 1 c)) (x7 (ix2 2 c)) (g (ix2 ⟨6 + q.val, by have := q.isLt; omega⟩ c))
    (g (ix2 ⟨7 + q.val, by have := q.isLt; omega⟩ c)) (g (ix2 ⟨8 + q.val, by have := q.isLt; omega⟩ c))) (u (ix2 q c))

theorem add_apply (a : Vec Ideal S1024x1024 .f32) (g : Vec Ideal S1032x256 .f32) (u : FVec Ideal S1024x256 .f32) (x7 : Vec Ideal S3x256 .f32)
    (x8 : Vec Ideal S256x1024 .bf16) (q n : Fin 1024) :
    addRows a g u x7 x8 (ix2 q n) = a (ix2 q n) + ∑ c : Fin 256, term g u x7 q c * x8 (ix2 c n) := by
  have hq := q.isLt
  have e0 (c : Fin 256) : tap0 x7 (ix2 0 c) = x7 (ix2 0 c) := ld_rows x7 0 _ 0 c 0 (by rfl)
  have e1 (c : Fin 256) : tap1 x7 (ix2 0 c) = x7 (ix2 1 c) := ld_rows x7 1 _ 0 c 1 (by rfl)
  have e2 (c : Fin 256) : tap2 x7 (ix2 0 c) = x7 (ix2 2 c) := ld_rows x7 2 _ 0 c 2 (by rfl)
  have eg (o : ℕ) (inb) (i c : Fin 256) (r : Fin 1032) (h : r.val = o + i.val) :
    View.ld g (Rect.unit (s := S1032x256) ![o, 0] S256x256.size inb) (ix2 i c) = g (ix2 r c) := ld_rows g o inb i c r h
  have ea (o : ℕ) (inb) (i : Fin 256) (h : q.val = o + i.val) :
    View.ld a (Rect.unit (s := S1024x1024) ![o, 0] S256x1024.size inb) (ix2 i n) = a (ix2 q n) := ld_rows a o inb i n q h
  unfold addRows
  rcases (by omega : q.val < 256 ∨ (256 ≤ q.val ∧ q.val < 512) ∨ (512 ≤ q.val ∧ q.val < 768) ∨ 768 ≤ q.val) with h | h | h | h
  · obtain ⟨i, hi⟩ : ∃ i : Fin 256, q.val = 0 + i.val := ⟨⟨q.val, by omega⟩, by simp⟩
    refine (put_out _ 768 _ q n (.inl (by omega))).trans ((put_out _ 512 _ q n (.inl (by omega))).trans ((put_out _ 256 _ q n (.inl (by omega))).trans
      ((put_in a 0 _ q n i hi).trans ((quarter0 _ _ _ _ _ _ _ _ _ i n q (by omega)).trans ?_))))
    rw [ea 0 _ i hi]
    refine congrArg _ (Finset.sum_congr rfl fun c _ => ?_)
    rw [e0, e1, e2, eg 6 _ i c ⟨6 + q.val, by omega⟩ (by show 6 + q.val = _; omega), eg 7 _ i c ⟨7 + q.val, by omega⟩ (by show 7 + q.val = _; omega), eg 8 _ i c ⟨8 + q.val, by omega⟩ (by show 8 + q.val = _; omega)]
    rfl
  · obtain ⟨i, hi⟩ : ∃ i : Fin 256, q.val = 256 + i.val := ⟨⟨q.val - 256, by omega⟩, by show q.val = 256 + (q.val - 256); omega⟩
    refine (put_out _ 768 _ q n (.inl (by omega))).trans ((put_out _ 512 _ q n (.inl (by omega))).trans
      ((put_in _ 256 _ q n i hi).trans ((quarter1 _ _ _ _ _ _ _ _ _ i n q (by omega)).trans ?_)))
    rw [ea 256 _ i hi]
    refine congrArg _ (Finset.sum_congr rfl fun c _ => ?_)
    rw [e0, e1, e2, eg 262 _ i c ⟨6 + q.val, by omega⟩ (by show 6 + q.val = _; omega), eg 263 _ i c ⟨7 + q.val, by omega⟩ (by show 7 + q.val = _; omega), eg 264 _ i c ⟨8 + q.val, by omega⟩ (by show 8 + q.val = _; omega)]
    rfl
  · obtain ⟨i, hi⟩ : ∃ i : Fin 256, q.val = 512 + i.val := ⟨⟨q.val - 512, by omega⟩, by show q.val = 512 + (q.val - 512); omega⟩
    refine (put_out _ 768 _ q n (.inl (by omega))).trans
      ((put_in _ 512 _ q n i hi).trans ((quarter2 _ _ _ _ _ _ _ _ _ i n q (by omega)).trans ?_))
    rw [ea 512 _ i hi]
    refine congrArg _ (Finset.sum_congr rfl fun c _ => ?_)
    rw [e0, e1, e2, eg 518 _ i c ⟨6 + q.val, by omega⟩ (by show 6 + q.val = _; omega), eg 519 _ i c ⟨7 + q.val, by omega⟩ (by show 7 + q.val = _; omega), eg 520 _ i c ⟨8 + q.val, by omega⟩ (by show 8 + q.val = _; omega)]
    rfl
  · obtain ⟨i, hi⟩ : ∃ i : Fin 256, q.val = 768 + i.val := ⟨⟨q.val - 768, by omega⟩, by show q.val = 768 + (q.val - 768); omega⟩
    refine (put_in _ 768 _ q n i hi).trans ((quarter3 _ _ _ _ _ _ _ _ _ i n q (by omega)).trans ?_)
    rw [ea 768 _ i hi]
    refine congrArg _ (Finset.sum_congr rfl fun c _ => ?_)
    rw [e0, e1, e2, eg 774 _ i c ⟨6 + q.val, by omega⟩ (by show 6 + q.val = _; omega), eg 775 _ i c ⟨7 + q.val, by omega⟩ (by show 7 + q.val = _; omega), eg 776 _ i c ⟨8 + q.val, by omega⟩ (by show 8 + q.val = _; omega)]
    rfl

/-! ## The blocks a point finds -/

variable (m : (ℓ : Loc nD τ sig) → Buf (Elt Ideal) ℓ)

theorem V_x (c : Dev nD) (y : S8x2048x1024.Idx) : V m c main_arg0 y = m ((c : Thread nD τ).loc main_arg0) y := by
  show StableHlo.after hostOps0 _ (Proc.devRef .tc main_arg0) y = _
  after_results
theorem V_t (c : Dev nD) (y : S3x2816.Idx) : V m c main_arg3 y = m ((c : Thread nD τ).loc main_arg3) y := by
  show StableHlo.after hostOps0 _ (Proc.devRef .tc main_arg3) y = _
  after_results
theorem V_g (c : Dev nD) : V m c main_v3 = shapeCast _ (m ((c : Thread nD τ).loc main_arg1)) shapeCasts_S1024_S1x1024 := by
  show StableHlo.after hostOps0 _ (Proc.devRef .tc main_v3) = _
  after_results
  rfl
theorem V_w (c : Dev nD) (y : S1024x5632.Idx) : V m c main_v0 y = m ((c : Thread nD τ).loc main_arg2) y := by
  show StableHlo.after hostOps0 _ (Proc.devRef .tc main_v0) y = _
  after_results
  rfl
theorem V_o (c : Dev nD) (y : S2816x1024.Idx) : V m c main_v1 y = m ((c : Thread nD τ).loc main_arg4) y := by
  show StableHlo.after hostOps0 _ (Proc.devRef .tc main_v1) y = _
  after_results
  rfl
theorem zeros_apply (b : Fin 8) (r : Fin 2) (f : Fin 2816) :
    broadcastInDim S8x2x2816 ![] bcast_S_S8x2x2816 (constant (F := Ideal) S_ .f32 0x00000000#32) (ix3 b r f) = (0 : EReal) := by
  pointwise []
theorem V_h (c : Dev nD) (b : Fin 8) (r : Fin 2) (f : Fin 2816) : V m c main_v2 (ix3 b r f) = (0 : EReal) := by
  rw [← zeros_apply b r f]
  show StableHlo.after hostOps0 _ (Proc.devRef .tc main_v2) (ix3 b r f) = _
  after_results
theorem scale (a : FVec Ideal S1024 .f32) (l : Fin 1024) : shapeCast S1x1024 a shapeCasts_S1024_S1x1024 (ix2 0 l) = a (ix1 l) := by
  pointwise []

/-- The sequence, the positions and the columns of a point's blocks. -/
def bat (t : Fin cfg0.N) : Fin 8 := ⟨t.val / 22, by
  have h : t.val < 176 := lt_of_lt_of_eq t.isLt N_0
  omega⟩
@[inherit_doc bat] def pos (t : Fin cfg0.N) (i : Fin 1024) : Fin 2048 := ⟨t.val / 11 % 2 * 1024 + i.val, by
  have := i.isLt
  omega⟩
@[inherit_doc bat] def col (t : Fin cfg0.N) (c : Fin 256) : Fin 2816 := ⟨t.val % 11 * 256 + c.val, by
  have := c.isLt
  omega⟩

theorem blk0 (c : Dev nD) (t : Fin cfg0.N) (i l : Fin 1024) : iblk m c 0 t (ix3 0 i l) = m ((c : Thread nD τ).loc main_arg0) (ix3 (bat t) (pos t i) l) := by
  have e : ∀ t : Fin cfg0.N, win0_0.index t = ![t.val / 22, t.val / 11 % 2, 0] := (by decide +kernel : ∀ t : Fin grid0.N, _)
  blk_simp [iblk]
  rw [V_x]
  exact congrArg _ (by blk_ext [e, bat, pos])
theorem blk1 (c : Dev nD) (t : Fin cfg0.N) (l : Fin 1024) : iblk m c 1 t (ix2 0 l) = m ((c : Thread nD τ).loc main_arg1) (ix1 l) := by
  have e : ∀ t : Fin cfg0.N, win0_1.index t = ![0, 0] := (by decide +kernel : ∀ t : Fin grid0.N, _)
  blk_simp [iblk]
  rw [V_g, ← scale (m ((c : Thread nD τ).loc main_arg1))]
  exact congrArg _ (by blk_ext [e])
theorem blk2 (c : Dev nD) (t : Fin cfg0.N) (k : Fin 1024) (j : Fin 256) : iblk m c 2 t (ix2 k j) = m ((c : Thread nD τ).loc main_arg2) (ix2 k (lo (col t j))) := by
  have e : ∀ t : Fin cfg0.N, win0_2.index t = ![0, t.val % 11] := (by decide +kernel : ∀ t : Fin grid0.N, _)
  blk_simp [iblk]
  rw [V_w]
  exact congrArg _ (by blk_ext [e, lo, col])
theorem blk3 (c : Dev nD) (t : Fin cfg0.N) (k : Fin 1024) (j : Fin 256) : iblk m c 3 t (ix2 k j) = m ((c : Thread nD τ).loc main_arg2) (ix2 k (hi (col t j))) := by
  have e : ∀ t : Fin cfg0.N, win0_3.index t = ![0, 11 + t.val % 11] := (by decide +kernel : ∀ t : Fin grid0.N, _)
  blk_simp [iblk]
  rw [V_w]
  exact congrArg _ (by blk_ext [e, hi, col])
theorem blk4 (c : Dev nD) (t : Fin cfg0.N) (r : Fin 3) (j : Fin 256) : iblk m c 4 t (ix2 r j) = m ((c : Thread nD τ).loc main_arg3) (ix2 r (col t j)) := by
  have e : ∀ t : Fin cfg0.N, win0_4.index t = ![0, t.val % 11] := (by decide +kernel : ∀ t : Fin grid0.N, _)
  blk_simp [iblk]
  rw [V_t]
  exact congrArg _ (by blk_ext [e, col])
theorem blk5 (c : Dev nD) (t : Fin cfg0.N) (j : Fin 256) (n : Fin 1024) : iblk m c 5 t (ix2 j n) = m ((c : Thread nD τ).loc main_arg4) (ix2 (col t j) n) := by
  have e : ∀ t : Fin cfg0.N, win0_5.index t = ![t.val % 11, 0] := (by decide +kernel : ∀ t : Fin grid0.N, _)
  blk_simp [iblk]
  rw [V_o]
  exact congrArg _ (by blk_ext [e, col])
theorem blk6 (c : Dev nD) (t : Fin cfg0.N) (r : Fin 2) (j : Fin 256) : iblk m c 6 t (ix3 0 r j) = (0 : EReal) := by
  have e : ∀ t : Fin cfg0.N, win0_6.index t = ![t.val / 22, 0, t.val % 11] := (by decide +kernel : ∀ t : Fin grid0.N, _)
  rw [← V_h m c (bat t) r (col t j)]
  blk_simp [iblk]
  exact congrArg (V m c main_v2) (by blk_ext [e, bat, col])

/-! ## The values a point leaves -/

/-- The arguments, read as arrays. -/
abbrev aX (c : Dev nD) : FVec Ideal S8x2048x1024 .f32 := m ((c : Thread nD τ).loc main_arg0)
@[inherit_doc aX] abbrev aG (c : Dev nD) : FVec Ideal S1024 .f32 := m ((c : Thread nD τ).loc main_arg1)
@[inherit_doc aX] abbrev aW (c : Dev nD) : FVec Ideal S1024x5632 .f32 := m ((c : Thread nD τ).loc main_arg2)
@[inherit_doc aX] abbrev aT (c : Dev nD) : FVec Ideal S3x2816 .f32 := m ((c : Thread nD τ).loc main_arg3)
@[inherit_doc aX] abbrev aO (c : Dev nD) : FVec Ideal S2816x1024 .f32 := m ((c : Thread nD τ).loc main_arg4)

theorem norm_blk (c : Dev nD) (t : Fin cfg0.N) (i k : Fin 1024) : norm m c t (ix2 i k)
    = rms (fun l => aX m c (ix3 (bat t) (pos t i) l)) (fun l => aG m c (ix1 l)) k := by
  unfold norm
  rw [norm_apply]
  simp only [blk0, blk1]

theorem low_blk (c : Dev nD) (t : Fin cfg0.N) (hd : Vec Ideal S1032x256 .f32) (r : Fin 1032) (j : Fin 256) (i : Fin 1024) (h : r.val = 8 + i.val) :
    gateRows hd (norm m c t) (iblk m c 2 t) (ix2 r j) = lin (aX m c) (aG m c) (aW m c) (bat t) (pos t i) (lo (col t j)) := by
  rw [gate_low _ _ _ r j i h]
  simp only [norm_blk, blk2]
  rfl
theorem other_blk (c : Dev nD) (t : Fin cfg0.N) (i : Fin 1024) (j : Fin 256) :
    k0_pay5 (F := Ideal) (norm m c t) (iblk m c 3 t) (ix2 i j) = lin (aX m c) (aG m c) (aW m c) (bat t) (pos t i) (hi (col t j)) := by
  rw [other_apply]
  simp only [norm_blk, blk3]
  rfl

/-- The gate product under the rows above it is a run of the padded one. -/
theorem gate_blk (c : Dev nD) (t : Fin cfg0.N) (r : Fin 1032) (j : Fin 256) (p : Fin 2050) (hr : 6 ≤ r.val) (hp : p.val = t.val / 11 % 2 * 1024 + (r.val - 6)) :
    gate m c t (ix2 r j) = padded (aX m c) (aG m c) (aW m c) (bat t) p (col t j) := by
  have hr' := r.isLt
  unfold gate
  by_cases h8 : 8 ≤ r.val
  · have e : r.val = 8 + (⟨r.val - 8, by omega⟩ : Fin 1024).val := by show r.val = 8 + (r.val - 8); omega
    rw [low_blk m c t _ r j _ e]
    unfold padded
    rw [dif_pos (by omega)]
    exact congrArg (fun p => lin (aX m c) (aG m c) (aW m c) (bat t) p (lo (col t j))) (Fin.ext (by
      show t.val / 11 % 2 * 1024 + (r.val - 8) = p.val - 2
      omega))
  · rw [gate_high _ _ _ r j (by omega)]
    unfold over
    by_cases h0 : t.val / 11 % 2 = 0
    · rw [if_pos h0, top_apply _ r j ⟨r.val - 6, by omega⟩ (by show r.val = 6 + (r.val - 6); omega), blk6]
      unfold padded
      rw [dif_neg (by omega)]
    · rw [if_neg h0, over_apply _ r j ⟨r.val, by omega⟩ ⟨1024 + r.val, by omega⟩ rfl rfl]
      unfold gateTop
      rw [low_blk m c (above t) _ _ j ⟨1016 + r.val, by omega⟩ (by show 1024 + r.val = 8 + (1016 + r.val); omega)]
      unfold padded
      rw [dif_pos (by omega)]
      have eb : bat (above t) = bat t := Fin.ext (by show (t.val - 11) / 22 = t.val / 22; omega)
      have ec : col (above t) j = col t j := Fin.ext (by show (t.val - 11) % 11 * 256 + j.val = t.val % 11 * 256 + j.val; omega)
      rw [eb, ec]
      exact congrArg (fun p => lin (aX m c) (aG m c) (aW m c) (bat t) p (lo (col t j))) (Fin.ext (by
        show (t.val - 11) / 11 % 2 * 1024 + (1016 + r.val) = p.val - 2
        omega))

/-- A point's products. -/
theorem term_blk (c : Dev nD) (t : Fin cfg0.N) (q : Fin 1024) (j : Fin 256) :
    term (gate m c t) (k0_pay5 (F := Ideal) (norm m c t) (iblk m c 3 t)) (iblk m c 4 t) q j
      = act (aX m c) (aG m c) (aW m c) (aT m c) (bat t) (pos t q) (col t j) := by
  have hq := q.isLt
  have hp := (pos t q).isLt
  unfold term act
  rw [other_blk, gate_blk m c t ⟨6 + q.val, by omega⟩ j ⟨(pos t q).val, by omega⟩ (by show 6 ≤ 6 + q.val; omega) (by show t.val / 11 % 2 * 1024 + q.val = t.val / 11 % 2 * 1024 + (6 + q.val - 6); omega),
    gate_blk m c t ⟨7 + q.val, by omega⟩ j ⟨(pos t q).val + 1, by omega⟩ (by show 6 ≤ 7 + q.val; omega) (by show t.val / 11 % 2 * 1024 + q.val + 1 = t.val / 11 % 2 * 1024 + (7 + q.val - 6); omega),
    gate_blk m c t ⟨8 + q.val, by omega⟩ j ⟨(pos t q).val + 2, by omega⟩ (by show 6 ≤ 8 + q.val; omega) (by show t.val / 11 % 2 * 1024 + q.val + 2 = t.val / 11 % 2 * 1024 + (8 + q.val - 6); omega)]
  simp only [blk4]

/-- The second product over one block of columns. -/
def part (c : Dev nD) (b : Fin 8) (p : Fin 2048) (n : Fin 1024) (f : ℕ) : EReal :=
  if h : f < 11 then ∑ j : Fin 256, act (aX m c) (aG m c) (aW m c) (aT m c) b p ⟨f * 256 + j.val, by have := j.isLt; omega⟩
    * aO m c (ix2 ⟨f * 256 + j.val, by have := j.isLt; omega⟩ n) else 0

theorem plus_blk (c : Dev nD) (t : Fin cfg0.N) (a : Vec Ideal S1024x1024 .f32) (q n : Fin 1024) :
    plus m c a t (ix2 q n) = a (ix2 q n) + part m c (bat t) (pos t q) n (t.val % 11) := by
  unfold plus
  rw [add_apply]
  unfold part
  rw [dif_pos (Nat.mod_lt _ (by decide))]
  simp only [term_blk, blk5]
  rfl

/-- The sums after a point: the blocks of columns up to its own. -/
theorem sums_blk (c : Dev nD) (q n : Fin 1024) : ∀ (k : ℕ) (h : k < cfg0.N),
    sums m c k h (ix2 q n) = ∑ f ∈ Finset.range (k % 11 + 1), part m c (bat ⟨k, h⟩) (pos ⟨k, h⟩ q) n f := by
  intro k
  induction k with
  | zero =>
    intro h
    rw [sums_eq, plus_blk, start_zero m c 0 h rfl, nil_apply, zero_add]
    exact (Finset.sum_range_one _).symm
  | succ k ih =>
    intro h
    rw [sums_eq, plus_blk]
    by_cases h0 : (k + 1) % 11 = 0
    · rw [start_zero m c (k + 1) h h0, nil_apply, zero_add]
      show part m c _ _ n ((k + 1) % 11) = _
      rw [h0]
      exact (Finset.sum_range_one _).symm
    · have es : start m c (k + 1) h = sums m c k (Nat.lt_of_succ_lt h) := if_neg h0
      have ek : (k + 1) % 11 = k % 11 + 1 := by omega
      have eb : bat (⟨k, Nat.lt_of_succ_lt h⟩ : Fin cfg0.N) = bat ⟨k + 1, h⟩ := Fin.ext (by show k / 22 = (k + 1) / 22; omega)
      have ep : pos (⟨k, Nat.lt_of_succ_lt h⟩ : Fin cfg0.N) q = pos ⟨k + 1, h⟩ q := Fin.ext (by
        show k / 11 % 2 * 1024 + q.val = (k + 1) / 11 % 2 * 1024 + q.val; omega)
      rw [es, ih, eb, ep, ek, Finset.sum_range_succ _ (k % 11 + 1)]

/-- All eleven blocks together. -/
theorem parts (c : Dev nD) (b : Fin 8) (p : Fin 2048) (n : Fin 1024) : ∑ f ∈ Finset.range 11, part m c b p n f
    = ∑ f : Fin 2816, act (aX m c) (aG m c) (aW m c) (aT m c) b p f * aO m c (ix2 f n) := by
  rw [Finset.sum_range, ← Equiv.sum_comp (finProdFinEquiv (m := 11) (n := 256)), Fintype.sum_prod_type]
  refine Finset.sum_congr rfl fun f _ => ?_
  unfold part
  rw [dif_pos f.isLt]
  refine Finset.sum_congr rfl fun j _ => ?_
  have e : (⟨f.val * 256 + j.val, by have := j.isLt; have := f.isLt; omega⟩ : Fin 2816) = finProdFinEquiv (m := 11) (n := 256) (f, j) := Fin.ext (by
    show f.val * 256 + j.val = j.val + 256 * f.val; omega)
  rw [e]

/-- After the run the first result is `outArr` of the arguments. -/
theorem final7 (c : Dev nD) : (dats m 0 c).arrAt 7 cfg0.N = outArr (aX m c) (aG m c) (aW m c) (aT m c) (aO m c) := by
  have e : ∀ t : Fin cfg0.N, win0_7.index t = ![t.val / 22, t.val / 11 % 2, 0] := (by decide +kernel : ∀ t : Fin grid0.N, _)
  refine (dats m 0 c).arrAt_eq_of_covers 7 _ (by decide +kernel) fun t hf y => ?_
  have ht := (flush0_7 t).mp hf
  blk_simp
  rw [after_7]
  have key (i n : Fin 1024) (w : S8x2048x1024.Idx) (hw : w = ix3 (bat t) (pos t i) n) : total m c t (ix3 0 i n)
      = outArr (aX m c) (aG m c) (aW m c) (aT m c) (aO m c) w := by
    subst hw
    unfold total
    rw [total_apply, blk0, sums_blk]
    show _ + ∑ f ∈ Finset.range (t.val % 11 + 1), part m c (bat t) (pos t i) n f = _
    rw [ht, parts]
    rfl
  obtain ⟨i, n, rfl⟩ : ∃ (i n : Fin 1024), y = ix3 0 i n := ⟨y 1, y 2, funext fun a => match a with
    | 0 => Subsingleton.elim (α := Fin 1) _ _
    | 1 => rfl
    | 2 => rfl⟩
  exact key i n _ (by blk_ext [e, bat, pos])

section
variable {nD : Nat} {τ : Topo} {sig : RefSig} {Val : EltTy → Type} {Ix : Type} [DecidableEq Ix] {Name : Type} [DecidableEq Name] {U : Type} [Idealize.SL.RA.URA U] {Lvl : Type}
variable {Λ₀ : Idealize.SL.Sem.Labels} {cfg : Cfg sig Λ₀} {c : Dev nD} (dat : Dat τ Val Ix Name U Lvl cfg c)

/-- A block that no later point writes into stays as the point wrote it. -/
theorem read_last (w : Fin cfg.W) (t : Fin cfg.N) (hf : (cfg.win w).flush t = true)
    (hlater : ∀ u : Fin cfg.N, t.val < u.val → Disjoint ((cfg.win w).blk t).view.set ((cfg.win w).blk u).view.set) :
    ∀ k, t.val < k → k ≤ cfg.N → ((cfg.win w).blk t).view.read Val (dat.arrAt w k) = dat.flushed w t := by
  intro k
  induction k with
  | zero => intro h; omega
  | succ k ih =>
    intro h hk
    obtain ⟨u, hu⟩ : ∃ u : Fin cfg.N, u.val = k := ⟨⟨k, hk⟩, rfl⟩
    have hs := dat.arrAt_succ w u
    rw [hu] at hs
    rw [hs]
    by_cases htu : t = u
    · subst htu
      rw [if_pos hf]
      exact View.read_write_univ _ _
    · have hlt : t.val < u.val := by
        have : t.val ≠ u.val := fun e => htu (Fin.ext e)
        omega
      split
      · refine Eq.trans ?_ (ih (by omega) (by omega))
        exact View.read_congr (v := ((cfg.win w).blk t).view) fun i hi => View.write_of_not_mem (v := ((cfg.win w).blk u).view) _ _ _ (Finset.disjoint_left.mp (hlater u hlt) hi)
      · exact ih (by omega) (by omega)
end

/-- Two points of the second result's window whose sequence or columns differ write disjoint blocks. -/
theorem apart (t u : Fin cfg0.N) (h : t.val / 22 ≠ u.val / 22 ∨ t.val % 11 ≠ u.val % 11) :
    Disjoint ((cfg0.win 8).blk t).view.set ((cfg0.win 8).blk u).view.set := by
  have e : ∀ t : Fin cfg0.N, win0_8.index t = ![t.val / 22, 0, t.val % 11] := (by decide +kernel : ∀ t : Fin grid0.N, _)
  refine Window.disjoint_blk win0_8 ?_ rfl
  rw [e, e]
  intro he
  have h0 : t.val / 22 = u.val / 22 := congrFun he 0
  have h2 : t.val % 11 = u.val % 11 := congrFun he 2
  omega

/-- After the run the second result is `lastArr` of the arguments. -/
theorem final8 (c : Dev nD) : (dats m 0 c).arrAt 8 cfg0.N = lastArr (aX m c) (aG m c) (aW m c) := by
  have e : ∀ t : Fin cfg0.N, win0_8.index t = ![t.val / 22, 0, t.val % 11] := (by decide +kernel : ∀ t : Fin grid0.N, _)
  funext y
  obtain ⟨b, r, f, rfl⟩ : ∃ (b : Fin 8) (r : Fin 2) (f : Fin 2816), y = ix3 b r f := ⟨y 0, y 1, y 2, funext fun a => match a with
    | 0 => rfl
    | 1 => rfl
    | 2 => rfl⟩
  have hb := b.isLt
  have hr := r.isLt
  have hf := f.isLt
  have hN : b.val * 22 + 11 + f.val / 256 < cfg0.N := lt_of_lt_of_eq (by omega : _ < 176) N_0.symm
  obtain ⟨t, ht⟩ : ∃ t : Fin cfg0.N, t.val = b.val * 22 + 11 + f.val / 256 := ⟨⟨_, hN⟩, rfl⟩
  have h := congrFun (read_last (dats m 0 c) 8 t (flush0_8 t) (fun u hu => apart t u (by omega)) cfg0.N t.isLt le_rfl) (ix3 0 r (⟨f.val % 256, by omega⟩ : Fin 256))
  blk_simp at h
  rw [after_8, lastRows_apply _ r _ ⟨1030 + r.val, by omega⟩ rfl,
    gate_blk m c t _ _ ⟨2048 + r.val, by omega⟩ (by show 6 ≤ 1030 + r.val; omega) (by show 2048 + r.val = t.val / 11 % 2 * 1024 + (1030 + r.val - 6); omega)] at h
  have hi : bat t = b := Fin.ext (by show t.val / 22 = b.val; omega)
  have hc : col t (⟨f.val % 256, by omega⟩ : Fin 256) = f := Fin.ext (by show t.val % 11 * 256 + f.val % 256 = f.val; omega)
  rw [hi, hc] at h
  exact (congrArg ((dats m 0 c).arrAt 8 cfg0.N) (by blk_ext [e])).trans h

end Cert.FfnIdeal.Conv

namespace Cert.FfnAlgebra

open Idealize.ShloMosaic Idealize.ShloMosaic.TcCoe Idealize.SL.Sem
open Cert.FfnRefIdeal Cert.FfnRefIdeal.Gen Cert.FfnRefIdeal.Read
open Cert.FfnIdeal.Conv (rms taps gated lo hi lin padded act outArr lastArr)

variable (x : FVec Ideal S8x2048x1024 .f32) (g : FVec Ideal S1024 .f32) (w : FVec Ideal S1024x5632 .f32)
  (t : FVec Ideal S3x2816 .f32) (o : FVec Ideal S2816x1024 .f32)

/-- The reference's normalised rows, -/
theorem ref_norm (b : Fin 8) (p : Fin 2048) (k : Fin 1024) :
    val_main_v12 (F := Ideal) x g (ix3 b p k) = rms (fun i => x (ix3 b p i)) (fun i => g (ix1 i)) k := by
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, rms]
/-- first product, -/
theorem ref_lin (b : Fin 8) (p : Fin 2048) (n : Fin 5632) : val_main_v13 (F := Ideal) x g w (ix3 b p n) = lin x g w b p n := by
  have h : val_main_v13 (F := Ideal) x g w (ix3 b p n) = ∑ k : Fin 1024, val_main_v12 (F := Ideal) x g (ix3 b p k) * w (ix2 k n) := by
    pointwise [val_main_v13]
  rw [h]
  simp only [ref_norm]
  rfl
/-- padded gate product -/
theorem ref_padded (b : Fin 8) (p : Fin 2050) (f : Fin 2816) : val_main_v17 (F := Ideal) x g w (ix3 b p f) = padded x g w b p f := by
  have hp := p.isLt
  have hr := ref_lin x g w
  unfold padded
  simp only [← hr]
  generalize hq : val_main_v13 (F := Ideal) x g w = q
  pointwise [val_main_v17, val_main_v16, val_main_v14, val_main_cst_2, hq]
  split_ifs <;> first | omega | (rw [dif_pos (by omega)]; rfl) | (rw [dif_neg (by omega)]; rfl) | rfl
/-- and the rows of the second product. -/
theorem ref_act (b : Fin 8) (p : Fin 2048) (f : Fin 2816) : val_main_v39 (F := Ideal) x g w t (ix3 b p f) = act x g w t b p f := by
  unfold act
  simp only [← ref_padded, ← ref_lin]
  have h15 : val_main_v15 (F := Ideal) x g w (ix3 b p f) = val_main_v13 (F := Ideal) x g w (ix3 b p (hi f)) := by
    generalize hq : val_main_v13 (F := Ideal) x g w = q
    pointwise [val_main_v15, hq]
    rfl
  rw [← h15]
  generalize hz : val_main_v17 (F := Ideal) x g w = z
  generalize hu : val_main_v15 (F := Ideal) x g w = u
  have h37 : val_main_v37 (F := Ideal) x g w t (ix3 b p f) = taps (t (ix2 0 f)) (t (ix2 1 f)) (t (ix2 2 f))
      (z (ix3 b ⟨p.val, by have := p.isLt; omega⟩ f)) (z (ix3 b ⟨p.val + 1, by have := p.isLt; omega⟩ f)) (z (ix3 b ⟨p.val + 2, by have := p.isLt; omega⟩ f)) := by
    pointwise [val_main_v37, val_main_v36, val_main_v35, val_main_v34, val_main_v33, val_main_v32, val_main_v31, val_main_v30, val_main_v29,
      val_main_v28, val_main_v27, val_main_v26, val_main_v25, val_main_v24, val_main_v23, val_main_v22, val_main_v21, val_main_v20, val_main_v19,
      val_main_v18, taps, hz]
    simp only [Nat.add_comm 1 p.val, Nat.add_comm 2 p.val]
  rw [← h37]
  generalize hy : val_main_v37 (F := Ideal) x g w t = y
  pointwise [val_main_v39, val_main_v38, val_main_call0_v5, val_main_call0_v4, val_main_call0_v3, val_main_call0_v2, val_main_call0_v1,
    val_main_call0_v0, val_main_call0_cst, val_main_call0_cst_0, gated, hu, hy]
  rfl

/-- The reference's two results. -/
theorem ref_out : val_main_v41 (F := Ideal) x g w t o = outArr x g w t o := by
  funext y
  obtain ⟨b, p, n, rfl⟩ : ∃ (b : Fin 8) (p : Fin 2048) (n : Fin 1024), y = ix3 b p n := ⟨y 0, y 1, y 2, funext fun a => match a with
    | 0 => rfl
    | 1 => rfl
    | 2 => rfl⟩
  have h : val_main_v41 (F := Ideal) x g w t o (ix3 b p n) = x (ix3 b p n) + ∑ f : Fin 2816, val_main_v39 (F := Ideal) x g w t (ix3 b p f) * o (ix2 f n) := by
    generalize hq : val_main_v39 (F := Ideal) x g w t = q
    pointwise [val_main_v41, val_main_v40, hq]
  rw [h]
  simp only [ref_act]
  rfl
theorem ref_last : val_main_v42 (F := Ideal) x g w = lastArr x g w := by
  funext y
  obtain ⟨b, r, f, rfl⟩ : ∃ (b : Fin 8) (r : Fin 2) (f : Fin 2816), y = ix3 b r f := ⟨y 0, y 1, y 2, funext fun a => match a with
    | 0 => rfl
    | 1 => rfl
    | 2 => rfl⟩
  have hr := r.isLt
  show _ = padded x g w b ⟨2048 + r.val, by omega⟩ f
  rw [← ref_padded]
  generalize hq : val_main_v17 (F := Ideal) x g w = q
  pointwise [val_main_v42, hq]

/-- Result 0, from the kernel's own argument arrays. -/
def result0 (m : (ℓ : Loc Cert.FfnIdeal.nD Cert.FfnIdeal.τ Cert.FfnIdeal.sig) → Buf (Elt Ideal) ℓ) (c : Dev Cert.FfnIdeal.nD) :
    Buf (Elt Ideal) ((c.tc : Thread Cert.FfnIdeal.nD Cert.FfnIdeal.τ).loc Cert.FfnIdeal.main_v4_0) :=
  outArr (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))

/-- The kernel's array is this. -/
theorem kernel0 (m : (ℓ : Loc Cert.FfnIdeal.nD Cert.FfnIdeal.τ Cert.FfnIdeal.sig) → Buf (Elt Ideal) ℓ) (c : Dev Cert.FfnIdeal.nD) :
    (Cert.FfnIdeal.Conv.dats m 0 c).arrAt 7 Cert.FfnIdeal.cfg0.N = result0 m c := Cert.FfnIdeal.Conv.final7 m c

/-- So is the reference's, from memories that agree on the arguments. -/
theorem agree0 (m : (ℓ : Loc Cert.FfnIdeal.nD Cert.FfnIdeal.τ Cert.FfnIdeal.sig) → Buf (Elt Ideal) ℓ)
    (m' : (ℓ : Loc nD τ sig) → Buf (Elt Ideal) ℓ) (c : Dev nD)
    (e0 : m' ((c.tc : Thread nD τ).loc main_arg0) = m ((c.tc : Thread Cert.FfnIdeal.nD Cert.FfnIdeal.τ).loc Cert.FfnIdeal.main_arg0))
    (e1 : m' ((c.tc : Thread nD τ).loc main_arg1) = m ((c.tc : Thread Cert.FfnIdeal.nD Cert.FfnIdeal.τ).loc Cert.FfnIdeal.main_arg1))
    (e2 : m' ((c.tc : Thread nD τ).loc main_arg2) = m ((c.tc : Thread Cert.FfnIdeal.nD Cert.FfnIdeal.τ).loc Cert.FfnIdeal.main_arg2))
    (e3 : m' ((c.tc : Thread nD τ).loc main_arg3) = m ((c.tc : Thread Cert.FfnIdeal.nD Cert.FfnIdeal.τ).loc Cert.FfnIdeal.main_arg3))
    (e4 : m' ((c.tc : Thread nD τ).loc main_arg4) = m ((c.tc : Thread Cert.FfnIdeal.nD Cert.FfnIdeal.τ).loc Cert.FfnIdeal.main_arg4)) :
    val_main_v41 (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) = result0 m c := by
  rw [ref_out, e0, e1, e2, e3, e4]
  rfl

/-- Result 1, from the kernel's own argument arrays. -/
def result1 (m : (ℓ : Loc Cert.FfnIdeal.nD Cert.FfnIdeal.τ Cert.FfnIdeal.sig) → Buf (Elt Ideal) ℓ) (c : Dev Cert.FfnIdeal.nD) :
    Buf (Elt Ideal) ((c.tc : Thread Cert.FfnIdeal.nD Cert.FfnIdeal.τ).loc Cert.FfnIdeal.main_v4_1) :=
  lastArr (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2))

/-- The kernel's array is this. -/
theorem kernel1 (m : (ℓ : Loc Cert.FfnIdeal.nD Cert.FfnIdeal.τ Cert.FfnIdeal.sig) → Buf (Elt Ideal) ℓ) (c : Dev Cert.FfnIdeal.nD) :
    (Cert.FfnIdeal.Conv.dats m 0 c).arrAt 8 Cert.FfnIdeal.cfg0.N = result1 m c := Cert.FfnIdeal.Conv.final8 m c

/-- So is the reference's, from memories that agree on the arguments. -/
theorem agree1 (m : (ℓ : Loc Cert.FfnIdeal.nD Cert.FfnIdeal.τ Cert.FfnIdeal.sig) → Buf (Elt Ideal) ℓ)
    (m' : (ℓ : Loc nD τ sig) → Buf (Elt Ideal) ℓ) (c : Dev nD)
    (e0 : m' ((c.tc : Thread nD τ).loc main_arg0) = m ((c.tc : Thread Cert.FfnIdeal.nD Cert.FfnIdeal.τ).loc Cert.FfnIdeal.main_arg0))
    (e1 : m' ((c.tc : Thread nD τ).loc main_arg1) = m ((c.tc : Thread Cert.FfnIdeal.nD Cert.FfnIdeal.τ).loc Cert.FfnIdeal.main_arg1))
    (e2 : m' ((c.tc : Thread nD τ).loc main_arg2) = m ((c.tc : Thread Cert.FfnIdeal.nD Cert.FfnIdeal.τ).loc Cert.FfnIdeal.main_arg2))
    (e3 : m' ((c.tc : Thread nD τ).loc main_arg3) = m ((c.tc : Thread Cert.FfnIdeal.nD Cert.FfnIdeal.τ).loc Cert.FfnIdeal.main_arg3))
    (e4 : m' ((c.tc : Thread nD τ).loc main_arg4) = m ((c.tc : Thread Cert.FfnIdeal.nD Cert.FfnIdeal.τ).loc Cert.FfnIdeal.main_arg4)) :
    val_main_v42 (F := Ideal) (m' ((c.tc : Thread nD τ).loc main_arg0)) (m' ((c.tc : Thread nD τ).loc main_arg1)) (m' ((c.tc : Thread nD τ).loc main_arg2)) = result1 m c := by
  rw [ref_last, e0, e1, e2]
  rfl

end Cert.FfnAlgebra

end
-- ==== Proof.FinalValue.lean ====
/- The final RMS norm: the kernel's result array and the reference's, both as one plain function of the argument arrays. -/
module

public import proofs.«01_k».proof.Proof.Gen.FinalNormIdeal.Value
public import proofs.«01_k».proof.Proof.Gen.FinalNormRefIdeal.Read
public import Idealize.ShloMosaic.Lib.Pipeline.ValueKit
public import Idealize.ShloMosaic.Lib.Pointwise

@[expose] public section

set_option maxRecDepth 16384

noncomputable section

namespace Cert.FinalNormIdeal.Rows

open Cert.FinalNormIdeal Cert.FinalNormIdeal.Gen Idealize.ShloMosaic Idealize.ShloMosaic.TcCoe Idealize.SL.Sem
open Idealize.ShloMosaic.Pipeline

/-- A row of 1024 entries over its root mean square, scaled, at column `k`. -/
def normed (x g : Fin 1024 → EReal) (k : Fin 1024) : EReal :=
  x k * Ideal.rsqrt (Ideal.div (∑ i, x i * x i) (Scalar.ofBits (F := Ideal) .f32 0x44800000#32) + Scalar.ofBits (F := Ideal) .f32 0x358637BD#32) * g k

/-- The result: every row normed. -/
def normArr (x : FVec Ideal S16384x1024 .f32) (g : FVec Ideal S1024 .f32) : FVec Ideal S16384x1024 .f32 := fun y =>
  normed (fun i => x (ix2 (y 0) i)) (fun i => g (ix1 i)) (y 1)

/-- The stored block, element by element. -/
theorem out_apply (x : Vec Ideal S1024x1024 .f32) (g : Vec Ideal S1x1024 .f32) (i k : Fin 1024) :
    out0_2 (F := Ideal) x g (ix2 i k) = normed (fun l => x (ix2 i l)) (fun l => g (ix2 0 l)) k := by
  have e0 (x : Vec Ideal S1024x1024 .f32) : View.ld x r0_0 = x := View.ld_unit_lit _ x (by decide)
  have e1 (x : Vec Ideal S1x1024 .f32) : View.ld x r0_1 = x := View.ld_unit_lit _ x (by decide)
  show View.canon [⟨r0_0, _⟩] _ = _
  rw [show ∀ p : Vec Ideal S1024x1024 .f32, View.canon [⟨r0_0, p⟩] = p from fun p => View.canon_unit_zero (by decide) _ p]
  simp only [e0, e1]
  pointwise [k0_pay1, normed]

variable (m : (ℓ : Loc nD τ sig) → Buf (Elt Ideal) ℓ)

theorem V_g (c : Dev nD) : V m c main_v0 = shapeCast _ (m ((c : Thread nD τ).loc main_arg1)) shapeCasts_S1024_S1x1024 := by
  show StableHlo.after hostOps0 _ (Proc.devRef .tc main_v0) = _
  after_results
  rfl

/-- The reshaped scale. -/
theorem scale (a : FVec Ideal S1024 .f32) (l : Fin 1024) : shapeCast S1x1024 a shapeCasts_S1024_S1x1024 (ix2 0 l) = a (ix1 l) := by
  pointwise []

/-- The row of the whole array that row `i` of a grid point's block is. -/
def row (t : Fin cfg0.N) (i : Fin 1024) : Fin 16384 := ⟨(grid0.coords t 0).val * 1024 + i.val, by
  have h : (grid0.coords t 0).val < 16 := (grid0.coords t 0).isLt
  have := i.isLt
  omega⟩

theorem blk0 (c : Dev nD) (t : Fin cfg0.N) (i l : Fin 1024) : iblk m c 0 t (ix2 i l)
    = m ((c : Thread nD τ).loc main_arg0) (ix2 (row t i) l) := by
  have e : ∀ t : Fin cfg0.N, win0_0.index t = ![(grid0.coords t 0).val, 0] := (by decide +kernel : ∀ t : Fin grid0.N, _)
  blk_simp [iblk]
  rw [V_main_arg0]
  exact congrArg _ (by blk_ext [e, row])
theorem blk1 (c : Dev nD) (t : Fin cfg0.N) (l : Fin 1024) : iblk m c 1 t (ix2 0 l) = m ((c : Thread nD τ).loc main_arg1) (ix1 l) := by
  have e : ∀ t : Fin cfg0.N, win0_1.index t = ![0, 0] := (by decide +kernel : ∀ t : Fin grid0.N, _)
  blk_simp [iblk]
  rw [V_g, ← scale (m ((c : Thread nD τ).loc main_arg1))]
  exact congrArg _ (by blk_ext [e])

/-- After the run the result array is `normArr` of the arguments. -/
theorem final (c : Dev nD) : (dats m 0 c).arrAt 2 cfg0.N
    = normArr (m ((c : Thread nD τ).loc main_arg0)) (m ((c : Thread nD τ).loc main_arg1)) := by
  have e : ∀ t : Fin cfg0.N, win0_2.index t = ![(grid0.coords t 0).val, 0] := (by decide +kernel : ∀ t : Fin grid0.N, _)
  refine (dats m 0 c).arrAt_eq_of_covers 2 _ (by decide +kernel) fun t hf y => ?_
  blk_simp
  rw [after0_2]
  have key (i j : Fin 1024) (w : S16384x1024.Idx) (hw : w = ix2 (row t i) j) :
      out0_2 (F := Ideal) (iblk m c 0 t) (iblk m c 1 t) (ix2 i j)
      = normArr (m ((c : Thread nD τ).loc main_arg0)) (m ((c : Thread nD τ).loc main_arg1)) w := by
    subst hw
    rw [out_apply]
    simp only [blk0, blk1]
    rfl
  obtain ⟨i, j, rfl⟩ : ∃ (i j : Fin 1024), y = ix2 i j := ⟨y 0, y 1, funext fun a => match a with
    | 0 => rfl
    | 1 => rfl⟩
  exact key i j _ (by blk_ext [e, row])

end Cert.FinalNormIdeal.Rows

namespace Cert.FinalNormAlgebra

open Idealize.ShloMosaic Idealize.ShloMosaic.TcCoe Idealize.SL.Sem
open Cert.FinalNormRefIdeal Cert.FinalNormRefIdeal.Gen Cert.FinalNormRefIdeal.Read
open Cert.FinalNormIdeal.Rows (normArr normed)

/-- The reference's result. -/
theorem ref_eq (x : FVec Ideal S16384x1024 .f32) (g : FVec Ideal S1024 .f32) : val_main_v12 (F := Ideal) x g = normArr x g := by
  funext y
  obtain ⟨r, k, rfl⟩ : ∃ (r : Fin 16384) (k : Fin 1024), y = ix2 r k := ⟨y 0, y 1, funext fun a => match a with
    | 0 => rfl
    | 1 => rfl⟩
  show _ = normed (fun i => x (ix2 r i)) (fun i => g (ix1 i)) k
  pointwise [val_main_v12, val_main_v11, val_main_v10, val_main_v9, val_main_v8, val_main_v7, val_main_v6, val_main_v5, val_main_v4,
    val_main_v3, val_main_v2, val_main_v1, val_main_v0, val_main_cst, val_main_cst_0, val_main_cst_1, normed]

/-- The result, from the kernel's own argument arrays. -/
def result0 (m : (ℓ : Loc Cert.FinalNormIdeal.nD Cert.FinalNormIdeal.τ Cert.FinalNormIdeal.sig) → Buf (Elt Ideal) ℓ) (c : Dev Cert.FinalNormIdeal.nD) :
    Buf (Elt Ideal) ((c.tc : Thread Cert.FinalNormIdeal.nD Cert.FinalNormIdeal.τ).loc Cert.FinalNormIdeal.main_v1) :=
  normArr (m ((c.tc : Thread Cert.FinalNormIdeal.nD Cert.FinalNormIdeal.τ).loc Cert.FinalNormIdeal.main_arg0))
    (m ((c.tc : Thread Cert.FinalNormIdeal.nD Cert.FinalNormIdeal.τ).loc Cert.FinalNormIdeal.main_arg1))

/-- The kernel's array is this. -/
theorem kernel0 (m : (ℓ : Loc Cert.FinalNormIdeal.nD Cert.FinalNormIdeal.τ Cert.FinalNormIdeal.sig) → Buf (Elt Ideal) ℓ) (c : Dev Cert.FinalNormIdeal.nD) :
    (Cert.FinalNormIdeal.Gen.dats m 0 c).arrAt 2 Cert.FinalNormIdeal.cfg0.N = result0 m c := Cert.FinalNormIdeal.Rows.final m c

variable (m : (ℓ : Loc Cert.FinalNormIdeal.nD Cert.FinalNormIdeal.τ Cert.FinalNormIdeal.sig) → Buf (Elt Ideal) ℓ)
  (m' : (ℓ : Loc nD τ sig) → Buf (Elt Ideal) ℓ) (c : Dev nD)

/-- So is the reference's, from memories that agree on the arguments. -/
theorem agree0
    (e0 : m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0))
    (e1 : m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) :
    val_main_v12 (F := Ideal) (m' ((c.tc : Thread nD τ).loc main_arg0)) (m' ((c.tc : Thread nD τ).loc main_arg1)) = result0 m c := by
  rw [ref_eq, e0, e1]
  rfl

end Cert.FinalNormAlgebra

end
-- ==== Proof.SconvValue.lean ====
/- The sample group's short gated convolution: the kernel's result arrays and the reference's, both as plain functions of
   the argument arrays. The kernel keeps a batch entry's history and its new row under each other in a scratch of nine
   rows, history in rows 6 and 7 and the new row in row 8. -/
module

public import proofs.«01_k».proof.Proof.Gen.SconvStepIdeal.Value
public import proofs.«01_k».proof.Proof.Gen.SconvStepRefIdeal.Read
public import proofs.«01_k».proof.Proof.FfnValue
public import Idealize.ShloMosaic.Lib.Pipeline.ValueKit
public import Idealize.ShloMosaic.Lib.Pointwise

@[expose] public section

set_option maxRecDepth 16384

noncomputable section

namespace Cert.SconvStepIdeal.Conv

open Cert.SconvStepIdeal Cert.SconvStepIdeal.Gen Idealize.ShloMosaic Idealize.ShloMosaic.TcCoe Idealize.SL.Sem
open Idealize.ShloMosaic.Pipeline
open Idealize.ShloMosaic.VecWindow (put)
open Cert.FfnIdeal.Conv (canon_cons_put put_in put_out ld_rows)

/-- A load after stores, as a load of what they leave. -/
theorem load_after {s : Shape} {e : EltTy} (v : View sig .tc .vmem s e) (L : List (View.Piece (Elt Ideal) s e)) (r : Rect s) :
    v.readCov L r.toLoadRect = View.ld (View.canon L) r := View.readCov_eq_canon' v L _

/-- What the scratch holds once it is filled. -/
def held (hs : Vec Ideal S1x2x512 .f32) (u v : Vec Ideal S1x1x512 .f32) : Vec Ideal S9x512 .f32 :=
  View.canon [⟨Rect.unit (s := S9x512) ![8, 0] S1x512.size inb_S9x512_S1x512_8_0, k0_pay6 u v⟩,
    ⟨Rect.unit (s := S9x512) ![6, 0] S2x512.size inb_S9x512_S2x512_6_0, k0_pay4 hs⟩,
    ⟨Rect.unit (s := S9x512) ![0, 0] S8x512.size inb_S9x512_S8x512_0_0, k0_pay3 (F := Ideal)⟩]

theorem held_eq (hs : Vec Ideal S1x2x512 .f32) (u v : Vec Ideal S1x1x512 .f32) : held hs u v
    = put (put (put (View.canon [] : Vec Ideal S9x512 .f32) ![0, 0] S8x512.size (k0_pay3 (F := Ideal))) ![6, 0] S2x512.size (k0_pay4 hs)) ![8, 0] S1x512.size (k0_pay6 u v) :=
  (canon_cons_put (F := Ideal) (e := .f32) (s := S9x512) (off := ![8, 0]) (size := S1x512.size) inb_S9x512_S1x512_8_0 (k0_pay6 u v) _).trans
    (congrArg (fun g : Vec Ideal S9x512 .f32 => (put g ![8, 0] S1x512.size (k0_pay6 u v) : Vec Ideal S9x512 .f32))
      ((canon_cons_put (F := Ideal) (e := .f32) (s := S9x512) (off := ![6, 0]) (size := S2x512.size) inb_S9x512_S2x512_6_0 (k0_pay4 hs) _).trans
        (congrArg (fun g : Vec Ideal S9x512 .f32 => (put g ![6, 0] S2x512.size (k0_pay4 hs) : Vec Ideal S9x512 .f32))
          (canon_cons_put (F := Ideal) (e := .f32) (s := S9x512) (off := ![0, 0]) (size := S8x512.size) inb_S9x512_S8x512_0_0 (k0_pay3 (F := Ideal)) []))))

theorem hist_apply (hs : Vec Ideal S1x2x512 .f32) (n : Fin 2) (j : Fin 512) : k0_pay4 (F := Ideal) hs (ix2 n j) = hs (ix3 0 n j) := by
  pointwise [k0_pay4]
theorem prod_apply (u v : Vec Ideal S1x1x512 .f32) (j : Fin 512) : k0_pay6 (F := Ideal) u v (ix2 0 j) = u (ix3 0 0 j) * v (ix3 0 0 j) := by
  pointwise [k0_pay6]

theorem held_hist (hs : Vec Ideal S1x2x512 .f32) (u v : Vec Ideal S1x1x512 .f32) (n : Fin 2) (r : Fin 9) (h : r.val = 6 + n.val) (j : Fin 512) :
    held hs u v (ix2 r j) = hs (ix3 0 n j) :=
  (congrFun (held_eq hs u v) _).trans <| (put_out _ 8 (k0_pay6 u v) r j (.inl (by have := n.isLt; omega))).trans ((put_in _ 6 (k0_pay4 hs) r j n h).trans (hist_apply hs n j))
theorem held_new (hs : Vec Ideal S1x2x512 .f32) (u v : Vec Ideal S1x1x512 .f32) (j : Fin 512) :
    held hs u v (ix2 8 j) = u (ix3 0 0 j) * v (ix3 0 0 j) :=
  (congrFun (held_eq hs u v) _).trans <| (put_in _ 8 (k0_pay6 u v) 8 j (0 : Fin 1) rfl).trans (prod_apply u v j)

/-- The three taps of a column over its history and its new entry. -/
def taps (w0 w1 w2 h0 h1 p : EReal) : EReal := w0 * h0 + w1 * h1 + w2 * p

section
variable (z : FVec Ideal S32x1x10240 .f32) (hs : FVec Ideal S32x2x512 .f32) (w : FVec Ideal S3x512 .f32)
/-- The new entry: the product of the first and the third block of columns. -/
def entry (b : Fin 32) (j : Fin 512) : EReal :=
  z (ix3 b 0 ⟨1024 + j.val, by have := j.isLt; omega⟩) * z (ix3 b 0 ⟨j.val, by have := j.isLt; omega⟩)
/-- The first result: the taps times the second block. -/
def outArr : FVec Ideal S32x1x512 .f32 := fun y =>
  z (ix3 (y 0) 0 ⟨512 + (show Fin 512 from y 2).val, by have := (show Fin 512 from y 2).isLt; omega⟩)
    * taps (w (ix2 0 (y 2))) (w (ix2 1 (y 2))) (w (ix2 2 (y 2))) (hs (ix3 (y 0) 0 (y 2))) (hs (ix3 (y 0) 1 (y 2))) (entry z (y 0) (y 2))
/-- The second: the last history row and the new one. -/
def histArr : FVec Ideal S32x2x512 .f32 := fun y =>
  if (show Fin 2 from y 1) = 0 then hs (ix3 (y 0) 1 (y 2)) else entry z (y 0) (y 2)
end

variable (m : (ℓ : Loc nD τ sig) → Buf (Elt Ideal) ℓ)

theorem out_apply (c : Dev nD) (t : Fin cfg0.N) (j : Fin 512) (x0 x1 x2 : Vec Ideal S1x1x512 .f32) (x3 : Vec Ideal S1x2x512 .f32)
    (x4 : Vec Ideal S3x512 .f32) (h0 : iblk m c 0 t = x0) (h1 : iblk m c 1 t = x1) (h2 : iblk m c 2 t = x2) (h3 : iblk m c 3 t = x3) (h4 : iblk m c 4 t = x4) :
    (outsAt0 m c t).1 (ix3 0 0 j)
    = x1 (ix3 0 0 j) * taps (x4 (ix2 0 j)) (x4 (ix2 1 j)) (x4 (ix2 2 j)) (x3 (ix3 0 0 j)) (x3 (ix3 0 1 j)) (x2 (ix3 0 0 j) * x0 (ix3 0 0 j)) := by
  unfold outsAt0
  frame_out
  rw [h0, h1, h2, h3, h4]
  simp only [load_after]
  rw [← held_hist x3 x2 x0 0 6 rfl, ← held_hist x3 x2 x0 1 7 rfl, ← held_new x3 x2 x0]
  pointwise [k0_pay1, k0_pay7, taps]
  rfl

theorem hist_out (c : Dev nD) (t : Fin cfg0.N) (i : Fin 2) (j : Fin 512) (x0 x2 : Vec Ideal S1x1x512 .f32) (x3 : Vec Ideal S1x2x512 .f32)
    (h0 : iblk m c 0 t = x0) (h2 : iblk m c 2 t = x2) (h3 : iblk m c 3 t = x3) : (outsAt0 m c t).2 (ix3 0 i j)
    = if i = 0 then x3 (ix3 0 1 j) else x2 (ix3 0 0 j) * x0 (ix3 0 0 j) := by
  unfold outsAt0
  frame_out
  rw [h0, h2, h3]
  simp only [load_after]
  rw [← held_hist x3 x2 x0 1 7 rfl, ← held_new x3 x2 x0]
  pointwise [k0_pay2]
  show held x3 x2 x0 (ix2 _ j) = _
  match i with
  | 0 =>
    rw [if_pos rfl]
    exact congrArg (fun r => held x3 x2 x0 (ix2 r j)) (Fin.ext rfl)
  | 1 =>
    rw [if_neg (by decide)]
    exact congrArg (fun r => held x3 x2 x0 (ix2 r j)) (Fin.ext rfl)

theorem blk0 (c : Dev nD) (t : Fin cfg0.N) : iblk m c 0 t = (fun y => m ((c : Thread nD τ).loc main_arg0) (ix3 (grid0.coords t 0) 0 ⟨(y 2).val, by have : (y 2).val < 512 := (y 2).isLt; omega⟩) : Vec Ideal S1x1x512 .f32) := by
  have e : ∀ t : Fin cfg0.N, win0_0.index t = ![(grid0.coords t 0).val, 0, 0] := (by decide +kernel : ∀ t : Fin grid0.N, _)
  funext y
  blk_simp [iblk]
  rw [V_main_arg0]
  exact congrArg _ (by blk_ext [e])
theorem blk1 (c : Dev nD) (t : Fin cfg0.N) : iblk m c 1 t = (fun y => m ((c : Thread nD τ).loc main_arg0) (ix3 (grid0.coords t 0) 0 ⟨512 + (y 2).val, by have : (y 2).val < 512 := (y 2).isLt; omega⟩) : Vec Ideal S1x1x512 .f32) := by
  have e : ∀ t : Fin cfg0.N, win0_1.index t = ![(grid0.coords t 0).val, 0, 1] := (by decide +kernel : ∀ t : Fin grid0.N, _)
  funext y
  blk_simp [iblk]
  rw [V_main_arg0]
  exact congrArg _ (by blk_ext [e])
theorem blk2 (c : Dev nD) (t : Fin cfg0.N) : iblk m c 2 t = (fun y => m ((c : Thread nD τ).loc main_arg0) (ix3 (grid0.coords t 0) 0 ⟨1024 + (y 2).val, by have : (y 2).val < 512 := (y 2).isLt; omega⟩) : Vec Ideal S1x1x512 .f32) := by
  have e : ∀ t : Fin cfg0.N, win0_2.index t = ![(grid0.coords t 0).val, 0, 2] := (by decide +kernel : ∀ t : Fin grid0.N, _)
  funext y
  blk_simp [iblk]
  rw [V_main_arg0]
  exact congrArg _ (by blk_ext [e])
theorem blk3 (c : Dev nD) (t : Fin cfg0.N) : iblk m c 3 t = (fun y => m ((c : Thread nD τ).loc main_arg1) (ix3 (grid0.coords t 0) (y 1) (y 2)) : Vec Ideal S1x2x512 .f32) := by
  have e : ∀ t : Fin cfg0.N, win0_3.index t = ![(grid0.coords t 0).val, 0, 0] := (by decide +kernel : ∀ t : Fin grid0.N, _)
  funext y
  blk_simp [iblk]
  rw [V_main_arg1]
  exact congrArg _ (by blk_ext [e])
theorem blk4 (c : Dev nD) (t : Fin cfg0.N) : iblk m c 4 t = (fun y => m ((c : Thread nD τ).loc main_arg2) y : Vec Ideal S3x512 .f32) := by
  have e : ∀ t : Fin cfg0.N, win0_4.index t = ![0, 0] := (by decide +kernel : ∀ t : Fin grid0.N, _)
  funext y
  blk_simp [iblk]
  rw [V_main_arg2]
  exact congrArg _ (by blk_ext [e])

/-- After the run the first result array is `outArr` of the arguments, -/
theorem final0 (c : Dev nD) : (dats m 0 c).arrAt 5 cfg0.N
    = outArr (m ((c : Thread nD τ).loc main_arg0)) (m ((c : Thread nD τ).loc main_arg1)) (m ((c : Thread nD τ).loc main_arg2)) := by
  have e : ∀ t : Fin cfg0.N, win0_5.index t = ![(grid0.coords t 0).val, 0, 0] := (by decide +kernel : ∀ t : Fin grid0.N, _)
  refine (dats m 0 c).arrAt_eq_of_covers 5 _ (by decide +kernel) fun t hf y => ?_
  blk_simp
  rw [after0_5]
  have key (j : Fin 512) (w : S32x1x512.Idx) (hw : w = ix3 (grid0.coords t 0) 0 j) : (outsAt0 m c t).1 (ix3 0 0 j)
      = outArr (m ((c : Thread nD τ).loc main_arg0)) (m ((c : Thread nD τ).loc main_arg1)) (m ((c : Thread nD τ).loc main_arg2)) w := by
    subst hw
    rw [out_apply m c t j _ _ _ _ _ (blk0 m c t) (blk1 m c t) (blk2 m c t) (blk3 m c t) (blk4 m c t)]
    rfl
  obtain ⟨j, rfl⟩ : ∃ j : Fin 512, y = ix3 0 0 j := ⟨y 2, funext fun a => match a with
    | 0 => Subsingleton.elim (α := Fin 1) _ _
    | 1 => Subsingleton.elim (α := Fin 1) _ _
    | 2 => rfl⟩
  exact key j _ (by blk_ext [e])

/-- and the second is `histArr`. -/
theorem final1 (c : Dev nD) : (dats m 0 c).arrAt 6 cfg0.N
    = histArr (m ((c : Thread nD τ).loc main_arg0)) (m ((c : Thread nD τ).loc main_arg1)) := by
  have e : ∀ t : Fin cfg0.N, win0_6.index t = ![(grid0.coords t 0).val, 0, 0] := (by decide +kernel : ∀ t : Fin grid0.N, _)
  refine (dats m 0 c).arrAt_eq_of_covers 6 _ (by decide +kernel) fun t hf y => ?_
  blk_simp
  rw [after0_6]
  have key (i : Fin 2) (j : Fin 512) (w : S32x2x512.Idx) (hw : w = ix3 (grid0.coords t 0) i j) : (outsAt0 m c t).2 (ix3 0 i j)
      = histArr (m ((c : Thread nD τ).loc main_arg0)) (m ((c : Thread nD τ).loc main_arg1)) w := by
    subst hw
    rw [hist_out m c t i j _ _ _ (blk0 m c t) (blk2 m c t) (blk3 m c t)]
    rfl
  obtain ⟨i, j, rfl⟩ : ∃ (i : Fin 2) (j : Fin 512), y = ix3 0 i j := ⟨y 1, y 2, funext fun a => match a with
    | 0 => Subsingleton.elim (α := Fin 1) _ _
    | 1 => rfl
    | 2 => rfl⟩
  exact key i j _ (by blk_ext [e])

end Cert.SconvStepIdeal.Conv

namespace Cert.SconvStepAlgebra

open Idealize.ShloMosaic Idealize.ShloMosaic.TcCoe Idealize.SL.Sem
open Cert.SconvStepRefIdeal Cert.SconvStepRefIdeal.Gen Cert.SconvStepRefIdeal.Read
open Cert.SconvStepIdeal.Conv (outArr histArr taps entry)

section
variable (z : FVec Ideal S32x1x10240 .f32) (hs : FVec Ideal S32x2x512 .f32) (w : FVec Ideal S3x512 .f32)

/-- The reference's first result, -/
theorem ref_out : val_main_v25 (F := Ideal) z hs w = outArr z hs w := by
  funext y
  obtain ⟨b, j, rfl⟩ : ∃ (b : Fin 32) (j : Fin 512), y = ix3 b 0 j := ⟨y 0, y 2, funext fun a => match a with
    | 0 => rfl
    | 1 => Subsingleton.elim (α := Fin 1) _ _
    | 2 => rfl⟩
  show _ = z (ix3 b 0 ⟨512 + j.val, _⟩) * taps (w (ix2 0 j)) (w (ix2 1 j)) (w (ix2 2 j)) (hs (ix3 b 0 j)) (hs (ix3 b 1 j)) (entry z b j)
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, taps, entry]

/-- its rows of history and new entries, -/
theorem ref_line (b : Fin 32) (n : Fin 2) (j : Fin 512) : val_main_v26 (F := Ideal) z hs (ix3 b n j) = histArr z hs (ix3 b n j) := by
  show _ = if n = 0 then hs (ix3 b 1 j) else entry z b j
  match n with
  | 0 => pointwise [val_main_v26, val_main_v4, val_main_v3, val_main_v2, val_main_v1, val_main_v0, entry]
  | 1 => pointwise [val_main_v26, val_main_v4, val_main_v3, val_main_v2, val_main_v1, val_main_v0, entry]

/-- and its second result. -/
theorem ref_hist : val_main_v26 (F := Ideal) z hs = histArr z hs := by
  funext y
  obtain ⟨b, n, j, rfl⟩ : ∃ (b : Fin 32) (n : Fin 2) (j : Fin 512), y = ix3 b n j := ⟨y 0, y 1, y 2, funext fun a => match a with
    | 0 => rfl
    | 1 => rfl
    | 2 => rfl⟩
  exact ref_line z hs b n j
end

/-- Result 0, from the kernel's own argument arrays. -/
def result0 (m : (ℓ : Loc Cert.SconvStepIdeal.nD Cert.SconvStepIdeal.τ Cert.SconvStepIdeal.sig) → Buf (Elt Ideal) ℓ) (c : Dev Cert.SconvStepIdeal.nD) :
    Buf (Elt Ideal) ((c.tc : Thread Cert.SconvStepIdeal.nD Cert.SconvStepIdeal.τ).loc Cert.SconvStepIdeal.main_v0_0) :=
  outArr (m ((c.tc : Thread Cert.SconvStepIdeal.nD Cert.SconvStepIdeal.τ).loc Cert.SconvStepIdeal.main_arg0)) (m ((c.tc : Thread Cert.SconvStepIdeal.nD Cert.SconvStepIdeal.τ).loc Cert.SconvStepIdeal.main_arg1)) (m ((c.tc : Thread Cert.SconvStepIdeal.nD Cert.SconvStepIdeal.τ).loc Cert.SconvStepIdeal.main_arg2))

/-- The kernel's array is this. -/
theorem kernel0 (m : (ℓ : Loc Cert.SconvStepIdeal.nD Cert.SconvStepIdeal.τ Cert.SconvStepIdeal.sig) → Buf (Elt Ideal) ℓ) (c : Dev Cert.SconvStepIdeal.nD) :
    (Cert.SconvStepIdeal.Gen.dats m 0 c).arrAt 5 Cert.SconvStepIdeal.cfg0.N = result0 m c := Cert.SconvStepIdeal.Conv.final0 m c

/-- So is the reference's, from memories that agree on the arguments. -/
theorem agree0 (m : (ℓ : Loc Cert.SconvStepIdeal.nD Cert.SconvStepIdeal.τ Cert.SconvStepIdeal.sig) → Buf (Elt Ideal) ℓ) (m' : (ℓ : Loc nD τ sig) → Buf (Elt Ideal) ℓ) (c : Dev nD)
    (e0 : m' ((c.tc : Thread Cert.SconvStepRefIdeal.nD Cert.SconvStepRefIdeal.τ).loc Cert.SconvStepRefIdeal.main_arg0) = m ((c.tc : Thread Cert.SconvStepIdeal.nD Cert.SconvStepIdeal.τ).loc Cert.SconvStepIdeal.main_arg0))
    (e1 : m' ((c.tc : Thread Cert.SconvStepRefIdeal.nD Cert.SconvStepRefIdeal.τ).loc Cert.SconvStepRefIdeal.main_arg1) = m ((c.tc : Thread Cert.SconvStepIdeal.nD Cert.SconvStepIdeal.τ).loc Cert.SconvStepIdeal.main_arg1))
    (e2 : m' ((c.tc : Thread Cert.SconvStepRefIdeal.nD Cert.SconvStepRefIdeal.τ).loc Cert.SconvStepRefIdeal.main_arg2) = m ((c.tc : Thread Cert.SconvStepIdeal.nD Cert.SconvStepIdeal.τ).loc Cert.SconvStepIdeal.main_arg2)) :
    val_main_v25 (F := Ideal) (m' ((c.tc : Thread nD τ).loc main_arg0)) (m' ((c.tc : Thread nD τ).loc main_arg1)) (m' ((c.tc : Thread nD τ).loc main_arg2)) = result0 m c := by
  rw [ref_out, e0, e1, e2]
  rfl

/-- Result 1, from the kernel's own argument arrays. -/
def result1 (m : (ℓ : Loc Cert.SconvStepIdeal.nD Cert.SconvStepIdeal.τ Cert.SconvStepIdeal.sig) → Buf (Elt Ideal) ℓ) (c : Dev Cert.SconvStepIdeal.nD) :
    Buf (Elt Ideal) ((c.tc : Thread Cert.SconvStepIdeal.nD Cert.SconvStepIdeal.τ).loc Cert.SconvStepIdeal.main_v0_1) :=
  histArr (m ((c.tc : Thread Cert.SconvStepIdeal.nD Cert.SconvStepIdeal.τ).loc Cert.SconvStepIdeal.main_arg0)) (m ((c.tc : Thread Cert.SconvStepIdeal.nD Cert.SconvStepIdeal.τ).loc Cert.SconvStepIdeal.main_arg1))

/-- The kernel's array is this. -/
theorem kernel1 (m : (ℓ : Loc Cert.SconvStepIdeal.nD Cert.SconvStepIdeal.τ Cert.SconvStepIdeal.sig) → Buf (Elt Ideal) ℓ) (c : Dev Cert.SconvStepIdeal.nD) :
    (Cert.SconvStepIdeal.Gen.dats m 0 c).arrAt 6 Cert.SconvStepIdeal.cfg0.N = result1 m c := Cert.SconvStepIdeal.Conv.final1 m c

/-- So is the reference's, from memories that agree on the arguments. -/
theorem agree1 (m : (ℓ : Loc Cert.SconvStepIdeal.nD Cert.SconvStepIdeal.τ Cert.SconvStepIdeal.sig) → Buf (Elt Ideal) ℓ) (m' : (ℓ : Loc nD τ sig) → Buf (Elt Ideal) ℓ) (c : Dev nD)
    (e0 : m' ((c.tc : Thread Cert.SconvStepRefIdeal.nD Cert.SconvStepRefIdeal.τ).loc Cert.SconvStepRefIdeal.main_arg0) = m ((c.tc : Thread Cert.SconvStepIdeal.nD Cert.SconvStepIdeal.τ).loc Cert.SconvStepIdeal.main_arg0))
    (e1 : m' ((c.tc : Thread Cert.SconvStepRefIdeal.nD Cert.SconvStepRefIdeal.τ).loc Cert.SconvStepRefIdeal.main_arg1) = m ((c.tc : Thread Cert.SconvStepIdeal.nD Cert.SconvStepIdeal.τ).loc Cert.SconvStepIdeal.main_arg1))
    (e2 : m' ((c.tc : Thread Cert.SconvStepRefIdeal.nD Cert.SconvStepRefIdeal.τ).loc Cert.SconvStepRefIdeal.main_arg2) = m ((c.tc : Thread Cert.SconvStepIdeal.nD Cert.SconvStepIdeal.τ).loc Cert.SconvStepIdeal.main_arg2)) :
    val_main_v26 (F := Ideal) (m' ((c.tc : Thread nD τ).loc main_arg0)) (m' ((c.tc : Thread nD τ).loc main_arg1)) = result1 m c := by
  rw [ref_hist, e0, e1]
  rfl

end Cert.SconvStepAlgebra

end
-- ==== Proof.GdnPreValue.lean ====
/- The sample group's convolution before the delta step: the kernel's result arrays and the reference's, all as plain
   functions of the argument arrays. The kernel keeps a batch entry's history and its new row under each other in a
   scratch of nine rows, history in rows 5 to 7 and the new row in row 8, and scales the heads one by one. -/
module

public import proofs.«01_k».proof.Proof.Gen.GdnPreStepIdeal.Value
public import proofs.«01_k».proof.Proof.Gen.GdnPreStepRefIdeal.Read
public import proofs.«01_k».proof.Proof.FfnValue
public import proofs.«01_k».proof.Proof.GdnValue
public import Idealize.ShloMosaic.Lib.Pipeline.ValueKit
public import Idealize.ShloMosaic.Lib.Pointwise

@[expose] public section

set_option maxRecDepth 16384

noncomputable section

namespace Cert.GdnPreStepIdeal.Conv

open Cert.GdnPreStepIdeal Cert.GdnPreStepIdeal.Gen Idealize.ShloMosaic Idealize.ShloMosaic.TcCoe Idealize.SL.Sem
open Idealize.ShloMosaic.Pipeline
open Idealize.ShloMosaic.VecWindow (put)
open Cert.FfnIdeal.Conv (canon_cons_put put_in put_out)
open Cert.GdnStepIdeal.Step (hd cl emb_head idx_row hd_col cl_col)
open Cert.GdnStepRefIdeal.Step (col)

/-! ## The numbers -/

/-- A column's four taps over its history and its new entry, times the logistic of the same. -/
def act (w0 w1 w2 w3 h0 h1 h2 p : EReal) : EReal :=
  (w0 * h0 + w1 * h1 + w2 * h2 + w3 * p) * Ideal.logistic (w0 * h0 + w1 * h1 + w2 * h2 + w3 * p)
/-- A head's entry over the head's length. -/
def unit (f : Fin 128 → EReal) (d : Fin 128) : EReal := f d * Ideal.rsqrt ((∑ i, f i * f i) + Ideal.ofBits .f32 0x358637BD#32)

section
variable (z : FVec Ideal S32x1x10240 .f32) (hs : FVec Ideal S32x3x1536 .f32) (w : FVec Ideal S4x1536 .f32)
/-- The new entry at a column. -/
def entry (b : Fin 32) (j : Fin 1536) : EReal := z (ix3 b 0 ⟨1536 + j.val, by have := j.isLt; omega⟩)
/-- A column's activation. -/
def actAt (b : Fin 32) (j : Fin 1536) : EReal :=
  act (w (ix2 0 j)) (w (ix2 1 j)) (w (ix2 2 j)) (w (ix2 3 j)) (hs (ix3 b 0 j)) (hs (ix3 b 1 j)) (hs (ix3 b 2 j)) (entry z b j)
/-- Column `j` of part `n` of the 1536. -/
def part (n : Fin 3) (j : Fin 512) : Fin 1536 := ⟨n.val * 512 + j.val, by have := n.isLt; have := j.isLt; omega⟩
/-- The queries, -/
def qArr : FVec Ideal S32x1x512 .f32 := fun y =>
  unit (fun i => actAt z hs w (y 0) (part 0 (col (hd (y 2)) i))) (cl (y 2)) * Ideal.ofBits .f32 0x3DB504F3#32
/-- the keys, -/
def kArr : FVec Ideal S32x1x512 .f32 := fun y => unit (fun i => actAt z hs w (y 0) (part 1 (col (hd (y 2)) i))) (cl (y 2))
/-- the values -/
def vArr : FVec Ideal S32x1x512 .f32 := fun y => actAt z hs w (y 0) (part 2 (y 2))
/-- and the last two history rows with the new one. -/
def histArr : FVec Ideal S32x3x1536 .f32 := fun y =>
  if (show Fin 3 from y 1) = 0 then hs (ix3 (y 0) 1 (y 2)) else if (show Fin 3 from y 1) = 1 then hs (ix3 (y 0) 2 (y 2)) else entry z (y 0) (y 2)
end

/-! ## One point's blocks -/

/-- A load after stores, as a load of what they leave. -/
theorem load_after {s : Shape} {e : EltTy} (v : View sig .tc .vmem s e) (L : List (View.Piece (Elt Ideal) s e)) (r : Rect s) :
    v.readCov L r.toLoadRect = View.ld (View.canon L) r := View.readCov_eq_canon' v L _

/-- What the scratch holds once it is filled. -/
def held (hs : Vec Ideal S1x3x1536 .f32) (u : Vec Ideal S1x1x1536 .f32) : Vec Ideal S9x1536 .f32 :=
  View.canon [⟨Rect.unit (s := S9x1536) ![8, 0] S1x1536.size inb_S9x1536_S1x1536_8_0, k0_pay5 u⟩,
    ⟨Rect.unit (s := S9x1536) ![5, 0] S3x1536.size inb_S9x1536_S3x1536_5_0, k0_pay3 hs⟩,
    ⟨Rect.unit (s := S9x1536) ![0, 0] S8x1536.size inb_S9x1536_S8x1536_0_0, k0_pay2 (F := Ideal)⟩]

theorem held_eq (hs : Vec Ideal S1x3x1536 .f32) (u : Vec Ideal S1x1x1536 .f32) : held hs u
    = put (put (put (View.canon [] : Vec Ideal S9x1536 .f32) ![0, 0] S8x1536.size (k0_pay2 (F := Ideal))) ![5, 0] S3x1536.size (k0_pay3 hs)) ![8, 0] S1x1536.size (k0_pay5 u) :=
  (canon_cons_put (F := Ideal) (e := .f32) (s := S9x1536) (off := ![8, 0]) (size := S1x1536.size) inb_S9x1536_S1x1536_8_0 (k0_pay5 u) _).trans
    (congrArg (fun g : Vec Ideal S9x1536 .f32 => (put g ![8, 0] S1x1536.size (k0_pay5 u) : Vec Ideal S9x1536 .f32))
      ((canon_cons_put (F := Ideal) (e := .f32) (s := S9x1536) (off := ![5, 0]) (size := S3x1536.size) inb_S9x1536_S3x1536_5_0 (k0_pay3 hs) _).trans
        (congrArg (fun g : Vec Ideal S9x1536 .f32 => (put g ![5, 0] S3x1536.size (k0_pay3 hs) : Vec Ideal S9x1536 .f32))
          (canon_cons_put (F := Ideal) (e := .f32) (s := S9x1536) (off := ![0, 0]) (size := S8x1536.size) inb_S9x1536_S8x1536_0_0 (k0_pay2 (F := Ideal)) []))))

theorem hist_apply (hs : Vec Ideal S1x3x1536 .f32) (n : Fin 3) (j : Fin 1536) : k0_pay3 (F := Ideal) hs (ix2 n j) = hs (ix3 0 n j) := by
  pointwise [k0_pay3]
theorem new_apply (u : Vec Ideal S1x1x1536 .f32) (j : Fin 1536) : k0_pay5 (F := Ideal) u (ix2 0 j) = u (ix3 0 0 j) := by
  pointwise [k0_pay5]

theorem held_hist (hs : Vec Ideal S1x3x1536 .f32) (u : Vec Ideal S1x1x1536 .f32) (n : Fin 3) (r : Fin 9) (h : r.val = 5 + n.val) (j : Fin 1536) :
    held hs u (ix2 r j) = hs (ix3 0 n j) :=
  (congrFun (held_eq hs u) _).trans <| (put_out _ 8 (k0_pay5 u) r j (.inl (by have := n.isLt; omega))).trans ((put_in _ 5 (k0_pay3 hs) r j n h).trans (hist_apply hs n j))
theorem held_new (hs : Vec Ideal S1x3x1536 .f32) (u : Vec Ideal S1x1x1536 .f32) (j : Fin 1536) : held hs u (ix2 8 j) = u (ix3 0 0 j) :=
  (congrFun (held_eq hs u) _).trans <| (put_in _ 8 (k0_pay5 u) 8 j (0 : Fin 1) rfl).trans (new_apply u j)

/-! A loaded row of taps, of history or of the new entry, at a column. -/

theorem load_w (w : Vec Ideal S4x1536 .f32) (r : Fin 4) (o : Nat) (inb) (j : Fin 512) (k : Fin 1536) (h : k.val = o + j.val) :
    View.ld w (Rect.unit (s := S4x1536) ![r.val, o] S1x512.size inb) (ix2 0 j) = w (ix2 r k) :=
  congrArg w (funext fun a => match a with
    | 0 => Fin.ext (by show r.val + 1 * 0 = r.val; omega)
    | 1 => Fin.ext (by show o + 1 * j.val = k.val; omega))
theorem load_held (g : Vec Ideal S9x1536 .f32) (r : Fin 9) (o : Nat) (inb) (j : Fin 512) (k : Fin 1536) (h : k.val = o + j.val) :
    View.ld g (Rect.unit (s := S9x1536) ![r.val, o] S1x512.size inb) (ix2 0 j) = g (ix2 r k) :=
  congrArg g (funext fun a => match a with
    | 0 => Fin.ext (by show r.val + 1 * 0 = r.val; omega)
    | 1 => Fin.ext (by show o + 1 * j.val = k.val; omega))

theorem act_congr {w0 w1 w2 w3 h0 h1 h2 p w0' w1' w2' w3' h0' h1' h2' p' : EReal} (e0 : w0 = w0') (f0 : h0 = h0') (e1 : w1 = w1')
    (f1 : h1 = h1') (e2 : w2 = w2') (f2 : h2 = h2') (e3 : w3 = w3') (f3 : p = p') : act w0 w1 w2 w3 h0 h1 h2 p = act w0' w1' w2' w3' h0' h1' h2' p' := by
  rw [e0, f0, e1, f1, e2, f2, e3, f3]

section
variable (x : Vec Ideal S1x1x1536 .f32) (hs : Vec Ideal S1x3x1536 .f32) (w : Vec Ideal S4x1536 .f32)
/-- A block's activation at a column. -/
def actB (j : Fin 1536) : EReal :=
  act (w (ix2 0 j)) (w (ix2 1 j)) (w (ix2 2 j)) (w (ix2 3 j)) (hs (ix3 0 0 j)) (hs (ix3 0 1 j)) (hs (ix3 0 2 j)) (x (ix3 0 0 j))

/-- The rows of taps and of entries that a part loads. -/
abbrev qw0 : Vec Ideal S1x512 .f32 := View.ld w (Rect.unit (s := S4x1536) ![0, 0] S1x512.size inb_S4x1536_S1x512_0_0)
abbrev qh0 : Vec Ideal S1x512 .f32 := View.ld (held hs x) (Rect.unit (s := S9x1536) ![5, 0] S1x512.size inb_S9x1536_S1x512_5_0)
abbrev qw1 : Vec Ideal S1x512 .f32 := View.ld w (Rect.unit (s := S4x1536) ![1, 0] S1x512.size inb_S4x1536_S1x512_1_0)
abbrev qh1 : Vec Ideal S1x512 .f32 := View.ld (held hs x) (Rect.unit (s := S9x1536) ![6, 0] S1x512.size inb_S9x1536_S1x512_6_0)
abbrev qw2 : Vec Ideal S1x512 .f32 := View.ld w (Rect.unit (s := S4x1536) ![2, 0] S1x512.size inb_S4x1536_S1x512_2_0)
abbrev qh2 : Vec Ideal S1x512 .f32 := View.ld (held hs x) (Rect.unit (s := S9x1536) ![7, 0] S1x512.size inb_S9x1536_S1x512_7_0)
abbrev qw3 : Vec Ideal S1x512 .f32 := View.ld w (Rect.unit (s := S4x1536) ![3, 0] S1x512.size inb_S4x1536_S1x512_3_0)
abbrev qh3 : Vec Ideal S1x512 .f32 := View.ld (held hs x) (Rect.unit (s := S9x1536) ![8, 0] S1x512.size inb_S9x1536_S1x512_8_0)
abbrev kw0 : Vec Ideal S1x512 .f32 := View.ld w (Rect.unit (s := S4x1536) ![0, 512] S1x512.size inb_S4x1536_S1x512_0_512)
abbrev kh0 : Vec Ideal S1x512 .f32 := View.ld (held hs x) (Rect.unit (s := S9x1536) ![5, 512] S1x512.size inb_S9x1536_S1x512_5_512)
abbrev kw1 : Vec Ideal S1x512 .f32 := View.ld w (Rect.unit (s := S4x1536) ![1, 512] S1x512.size inb_S4x1536_S1x512_1_512)
abbrev kh1 : Vec Ideal S1x512 .f32 := View.ld (held hs x) (Rect.unit (s := S9x1536) ![6, 512] S1x512.size inb_S9x1536_S1x512_6_512)
abbrev kw2 : Vec Ideal S1x512 .f32 := View.ld w (Rect.unit (s := S4x1536) ![2, 512] S1x512.size inb_S4x1536_S1x512_2_512)
abbrev kh2 : Vec Ideal S1x512 .f32 := View.ld (held hs x) (Rect.unit (s := S9x1536) ![7, 512] S1x512.size inb_S9x1536_S1x512_7_512)
abbrev kw3 : Vec Ideal S1x512 .f32 := View.ld w (Rect.unit (s := S4x1536) ![3, 512] S1x512.size inb_S4x1536_S1x512_3_512)
abbrev kh3 : Vec Ideal S1x512 .f32 := View.ld (held hs x) (Rect.unit (s := S9x1536) ![8, 512] S1x512.size inb_S9x1536_S1x512_8_512)
abbrev vw0 : Vec Ideal S1x512 .f32 := View.ld w (Rect.unit (s := S4x1536) ![0, 1024] S1x512.size inb_S4x1536_S1x512_0_1024)
abbrev vh0 : Vec Ideal S1x512 .f32 := View.ld (held hs x) (Rect.unit (s := S9x1536) ![5, 1024] S1x512.size inb_S9x1536_S1x512_5_1024)
abbrev vw1 : Vec Ideal S1x512 .f32 := View.ld w (Rect.unit (s := S4x1536) ![1, 1024] S1x512.size inb_S4x1536_S1x512_1_1024)
abbrev vh1 : Vec Ideal S1x512 .f32 := View.ld (held hs x) (Rect.unit (s := S9x1536) ![6, 1024] S1x512.size inb_S9x1536_S1x512_6_1024)
abbrev vw2 : Vec Ideal S1x512 .f32 := View.ld w (Rect.unit (s := S4x1536) ![2, 1024] S1x512.size inb_S4x1536_S1x512_2_1024)
abbrev vh2 : Vec Ideal S1x512 .f32 := View.ld (held hs x) (Rect.unit (s := S9x1536) ![7, 1024] S1x512.size inb_S9x1536_S1x512_7_1024)
abbrev vw3 : Vec Ideal S1x512 .f32 := View.ld w (Rect.unit (s := S4x1536) ![3, 1024] S1x512.size inb_S4x1536_S1x512_3_1024)
abbrev vh3 : Vec Ideal S1x512 .f32 := View.ld (held hs x) (Rect.unit (s := S9x1536) ![8, 1024] S1x512.size inb_S9x1536_S1x512_8_1024)

theorem q_row (a0 b0 a1 b1 a2 b2 a3 b3 : Vec Ideal S1x512 .f32) (j : Fin 512) : k0_pay6 (F := Ideal) a0 b0 a1 b1 a2 b2 a3 b3 (ix2 0 j)
    = act (a0 (ix2 0 j)) (a1 (ix2 0 j)) (a2 (ix2 0 j)) (a3 (ix2 0 j)) (b0 (ix2 0 j)) (b1 (ix2 0 j)) (b2 (ix2 0 j)) (b3 (ix2 0 j)) := by
  pointwise [k0_pay6, act]
theorem q_part (j : Fin 512) : k0_pay6 (F := Ideal) (qw0 w) (qh0 x hs) (qw1 w) (qh1 x hs) (qw2 w) (qh2 x hs) (qw3 w) (qh3 x hs) (ix2 0 j) = actB x hs w (part 0 j) := by
  have hk : (part 0 j).val = 0 + j.val := by simp [part]
  exact (q_row _ _ _ _ _ _ _ _ j).trans (act_congr (load_w w 0 0 _ j _ hk) ((load_held (held hs x) 5 0 _ j _ hk).trans (held_hist hs x 0 5 rfl _)) (load_w w 1 0 _ j _ hk) ((load_held (held hs x) 6 0 _ j _ hk).trans (held_hist hs x 1 6 rfl _))
    (load_w w 2 0 _ j _ hk) ((load_held (held hs x) 7 0 _ j _ hk).trans (held_hist hs x 2 7 rfl _)) (load_w w 3 0 _ j _ hk) ((load_held (held hs x) 8 0 _ j _ hk).trans (held_new hs x _)))

theorem k_row (a0 b0 a1 b1 a2 b2 a3 b3 : Vec Ideal S1x512 .f32) (j : Fin 512) : k0_pay13 (F := Ideal) a0 b0 a1 b1 a2 b2 a3 b3 (ix2 0 j)
    = act (a0 (ix2 0 j)) (a1 (ix2 0 j)) (a2 (ix2 0 j)) (a3 (ix2 0 j)) (b0 (ix2 0 j)) (b1 (ix2 0 j)) (b2 (ix2 0 j)) (b3 (ix2 0 j)) := by
  pointwise [k0_pay13, act]
theorem k_part (j : Fin 512) : k0_pay13 (F := Ideal) (kw0 w) (kh0 x hs) (kw1 w) (kh1 x hs) (kw2 w) (kh2 x hs) (kw3 w) (kh3 x hs) (ix2 0 j) = actB x hs w (part 1 j) := by
  have hk : (part 1 j).val = 512 + j.val := by simp [part]
  exact (k_row _ _ _ _ _ _ _ _ j).trans (act_congr (load_w w 0 512 _ j _ hk) ((load_held (held hs x) 5 512 _ j _ hk).trans (held_hist hs x 0 5 rfl _)) (load_w w 1 512 _ j _ hk) ((load_held (held hs x) 6 512 _ j _ hk).trans (held_hist hs x 1 6 rfl _))
    (load_w w 2 512 _ j _ hk) ((load_held (held hs x) 7 512 _ j _ hk).trans (held_hist hs x 2 7 rfl _)) (load_w w 3 512 _ j _ hk) ((load_held (held hs x) 8 512 _ j _ hk).trans (held_new hs x _)))

theorem v_row (a0 b0 a1 b1 a2 b2 a3 b3 : Vec Ideal S1x512 .f32) (j : Fin 512) : k0_pay22 (F := Ideal) a0 b0 a1 b1 a2 b2 a3 b3 (ix3 0 0 j)
    = act (a0 (ix2 0 j)) (a1 (ix2 0 j)) (a2 (ix2 0 j)) (a3 (ix2 0 j)) (b0 (ix2 0 j)) (b1 (ix2 0 j)) (b2 (ix2 0 j)) (b3 (ix2 0 j)) := by
  pointwise [k0_pay22, act]
theorem v_part (j : Fin 512) : k0_pay22 (F := Ideal) (vw0 w) (vh0 x hs) (vw1 w) (vh1 x hs) (vw2 w) (vh2 x hs) (vw3 w) (vh3 x hs) (ix3 0 0 j) = actB x hs w (part 2 j) := by
  have hk : (part 2 j).val = 1024 + j.val := by simp [part]
  exact (v_row _ _ _ _ _ _ _ _ j).trans (act_congr (load_w w 0 1024 _ j _ hk) ((load_held (held hs x) 5 1024 _ j _ hk).trans (held_hist hs x 0 5 rfl _)) (load_w w 1 1024 _ j _ hk) ((load_held (held hs x) 6 1024 _ j _ hk).trans (held_hist hs x 1 6 rfl _))
    (load_w w 2 1024 _ j _ hk) ((load_held (held hs x) 7 1024 _ j _ hk).trans (held_hist hs x 2 7 rfl _)) (load_w w 3 1024 _ j _ hk) ((load_held (held hs x) 8 1024 _ j _ hk).trans (held_new hs x _)))
end

/-! The heads of a part, whatever rows it has loaded. -/

section
variable (a0 b0 a1 b1 a2 b2 a3 b3 : Vec Ideal S1x512 .f32) (f : Vec Ideal S1x512 .f32) (d : Fin 128)
theorem q_head0 : k0_pay9 (F := Ideal) (k0_pay7 a0 b0 a1 b1 a2 b2 a3 b3) (k0_pay8 a0 b0 a1 b1 a2 b2 a3 b3) (ix3 0 0 d) = unit (fun i => k0_pay6 (F := Ideal) a0 b0 a1 b1 a2 b2 a3 b3 (ix2 0 (col 0 i))) d * Ideal.ofBits .f32 0x3DB504F3#32 := by
  pointwise [k0_pay9, k0_pay8, k0_pay7, unit, col]
theorem q_head1 : k0_pay10 (F := Ideal) f (ix3 0 0 d) = unit (fun i => f (ix2 0 (col 1 i))) d * Ideal.ofBits .f32 0x3DB504F3#32 := by
  pointwise [k0_pay10, unit, col]
theorem q_head2 : k0_pay11 (F := Ideal) f (ix3 0 0 d) = unit (fun i => f (ix2 0 (col 2 i))) d * Ideal.ofBits .f32 0x3DB504F3#32 := by
  pointwise [k0_pay11, unit, col]
theorem q_head3 : k0_pay12 (F := Ideal) f (ix3 0 0 d) = unit (fun i => f (ix2 0 (col 3 i))) d * Ideal.ofBits .f32 0x3DB504F3#32 := by
  pointwise [k0_pay12, unit, col]
theorem k_head0 : k0_pay16 (F := Ideal) (k0_pay14 a0 b0 a1 b1 a2 b2 a3 b3) (k0_pay15 a0 b0 a1 b1 a2 b2 a3 b3) (ix3 0 0 d) = unit (fun i => k0_pay13 (F := Ideal) a0 b0 a1 b1 a2 b2 a3 b3 (ix2 0 (col 0 i))) d := by
  pointwise [k0_pay16, k0_pay15, k0_pay14, unit, col]
theorem k_head1 : k0_pay17 (F := Ideal) f (ix3 0 0 d) = unit (fun i => f (ix2 0 (col 1 i))) d := by
  pointwise [k0_pay17, unit, col]
theorem k_head2 : k0_pay18 (F := Ideal) f (ix3 0 0 d) = unit (fun i => f (ix2 0 (col 2 i))) d := by
  pointwise [k0_pay18, unit, col]
theorem k_head3 : k0_pay21 (F := Ideal) (k0_pay19 f) (k0_pay20 f) (ix3 0 0 d) = unit (fun i => f (ix2 0 (col 3 i))) d := by
  pointwise [k0_pay21, k0_pay20, k0_pay19, unit, col]
end

/-- A head's columns are in the piece that starts with its first. -/
theorem head_mem (h : Fin 4) (d : Fin 128) (o : Nat) (inb) (ho : o = h.val * 128 := by rfl) :
    (ix3 0 0 (col h d) : S1x1x512.Idx) ∈ (Rect.unit (s := S1x1x512) ![0, 0, o] S1x1x128.size inb).set := by
  rw [← emb_head h d o inb ho]
  exact LoadRect.idx_mem _ _

/-- Four rows of 128 stored side by side, read at a column. -/
theorem side_by_side (p0 p1 p2 p3 : Vec Ideal S1x1x128 .f32) (G : Fin 4 → Fin 128 → EReal) (h0 : ∀ d, p0 (ix3 0 0 d) = G 0 d)
    (h1 : ∀ d, p1 (ix3 0 0 d) = G 1 d) (h2 : ∀ d, p2 (ix3 0 0 d) = G 2 d) (h3 : ∀ d, p3 (ix3 0 0 d) = G 3 d) (j : Fin 512) :
    View.canon (Val := Elt Ideal) (e := .f32) [⟨Rect.unit (s := S1x1x512) ![0, 0, 384] S1x1x128.size inb_S1x1x512_S1x1x128_0_0_384, p3⟩,
      ⟨Rect.unit (s := S1x1x512) ![0, 0, 256] S1x1x128.size inb_S1x1x512_S1x1x128_0_0_256, p2⟩,
      ⟨Rect.unit (s := S1x1x512) ![0, 0, 128] S1x1x128.size inb_S1x1x512_S1x1x128_0_0_128, p1⟩,
      ⟨Rect.unit (s := S1x1x512) ![0, 0, 0] S1x1x128.size inb_S1x1x512_S1x1x128_0_0_0, p0⟩] (ix3 0 0 j) = G (hd j) (cl j) := by
  have fin (h : Fin 4) (d : Fin 128) (y : S1x1x512.Idx) (hy : y = ix3 0 0 (col h d)) : G h d = G (hd (y 2)) (cl (y 2)) := by
    subst hy
    exact (congrArg₂ G (hd_col h d) (cl_col h d)).symm
  refine View.canon_apply_of_pieces (Val := Elt Ideal) (e := .f32) (fun y : S1x1x512.Idx => G (hd (y 2)) (cl (y 2))) _ ?_ (ix3 0 0 j) ?_
  · intro p hp
    simp only [List.mem_cons, List.not_mem_nil, or_false] at hp
    rcases hp with rfl | rfl | rfl | rfl <;> intro x <;> obtain ⟨d, rfl⟩ := idx_row x
    · exact (h3 d).trans (fin 3 d _ (emb_head 3 d 384 inb_S1x1x512_S1x1x128_0_0_384))
    · exact (h2 d).trans (fin 2 d _ (emb_head 2 d 256 inb_S1x1x512_S1x1x128_0_0_256))
    · exact (h1 d).trans (fin 1 d _ (emb_head 1 d 128 inb_S1x1x512_S1x1x128_0_0_128))
    · exact (h0 d).trans (fin 0 d _ (emb_head 0 d 0 inb_S1x1x512_S1x1x128_0_0_0))
  · obtain ⟨h, d, rfl⟩ : ∃ (h : Fin 4) (d : Fin 128), j = col h d := ⟨hd j, cl j, Fin.ext (by show j.val = j.val / 128 * 128 + j.val % 128; omega)⟩
    match h with
    | 0 => exact ⟨_, .tail _ (.tail _ (.tail _ (.head _))), head_mem 0 d 0 inb_S1x1x512_S1x1x128_0_0_0⟩
    | 1 => exact ⟨_, .tail _ (.tail _ (.head _)), head_mem 1 d 128 inb_S1x1x512_S1x1x128_0_0_128⟩
    | 2 => exact ⟨_, .tail _ (.head _), head_mem 2 d 256 inb_S1x1x512_S1x1x128_0_0_256⟩
    | 3 => exact ⟨_, .head _, head_mem 3 d 384 inb_S1x1x512_S1x1x128_0_0_384⟩

variable (m : (ℓ : Loc nD τ sig) → Buf (Elt Ideal) ℓ)

section
variable (c : Dev nD) (t : Fin cfg0.N) (x : Vec Ideal S1x1x1536 .f32) (hs : Vec Ideal S1x3x1536 .f32) (w : Vec Ideal S4x1536 .f32)
  (h0 : X0_0 m c t = x) (h1 : iblk m c 1 t = hs) (h2 : iblk m c 2 t = w)
include h0 h1 h2

theorem q_out (j : Fin 512) : (outsAt0 m c t).1 (ix3 0 0 j) = unit (fun i => actB x hs w (part 0 (col (hd j) i))) (cl j) * Ideal.ofBits .f32 0x3DB504F3#32 := by
  unfold outsAt0
  frame_out
  rw [h0, h1, h2]
  simp only [load_after]
  refine (side_by_side (k0_pay9 (k0_pay7 (qw0 w) (qh0 x hs) (qw1 w) (qh1 x hs) (qw2 w) (qh2 x hs) (qw3 w) (qh3 x hs)) (k0_pay8 (qw0 w) (qh0 x hs) (qw1 w) (qh1 x hs) (qw2 w) (qh2 x hs) (qw3 w) (qh3 x hs))) (k0_pay10 (k0_pay6 (qw0 w) (qh0 x hs) (qw1 w) (qh1 x hs) (qw2 w) (qh2 x hs) (qw3 w) (qh3 x hs))) (k0_pay11 (k0_pay6 (qw0 w) (qh0 x hs) (qw1 w) (qh1 x hs) (qw2 w) (qh2 x hs) (qw3 w) (qh3 x hs))) (k0_pay12 (k0_pay6 (qw0 w) (qh0 x hs) (qw1 w) (qh1 x hs) (qw2 w) (qh2 x hs) (qw3 w) (qh3 x hs)))
    (fun h d => unit (fun i => actB x hs w (part 0 (col h i))) d * Ideal.ofBits .f32 0x3DB504F3#32) ?_ ?_ ?_ ?_ j)
  · intro d
    rw [q_head0]
    simp only [q_part]
  · intro d
    rw [q_head1]
    simp only [q_part]
  · intro d
    rw [q_head2]
    simp only [q_part]
  · intro d
    rw [q_head3]
    simp only [q_part]

theorem k_out (j : Fin 512) : (outsAt0 m c t).2.1 (ix3 0 0 j) = unit (fun i => actB x hs w (part 1 (col (hd j) i))) (cl j) := by
  unfold outsAt0
  frame_out
  rw [h0, h1, h2]
  simp only [load_after]
  refine (side_by_side (k0_pay16 (k0_pay14 (kw0 w) (kh0 x hs) (kw1 w) (kh1 x hs) (kw2 w) (kh2 x hs) (kw3 w) (kh3 x hs)) (k0_pay15 (kw0 w) (kh0 x hs) (kw1 w) (kh1 x hs) (kw2 w) (kh2 x hs) (kw3 w) (kh3 x hs))) (k0_pay17 (k0_pay13 (kw0 w) (kh0 x hs) (kw1 w) (kh1 x hs) (kw2 w) (kh2 x hs) (kw3 w) (kh3 x hs))) (k0_pay18 (k0_pay13 (kw0 w) (kh0 x hs) (kw1 w) (kh1 x hs) (kw2 w) (kh2 x hs) (kw3 w) (kh3 x hs))) (k0_pay21 (k0_pay19 (k0_pay13 (kw0 w) (kh0 x hs) (kw1 w) (kh1 x hs) (kw2 w) (kh2 x hs) (kw3 w) (kh3 x hs))) (k0_pay20 (k0_pay13 (kw0 w) (kh0 x hs) (kw1 w) (kh1 x hs) (kw2 w) (kh2 x hs) (kw3 w) (kh3 x hs))))
    (fun h d => unit (fun i => actB x hs w (part 1 (col h i))) d) ?_ ?_ ?_ ?_ j)
  · intro d
    rw [k_head0]
    simp only [k_part]
  · intro d
    rw [k_head1]
    simp only [k_part]
  · intro d
    rw [k_head2]
    simp only [k_part]
  · intro d
    rw [k_head3]
    simp only [k_part]

theorem v_out (j : Fin 512) : (outsAt0 m c t).2.2.1 (ix3 0 0 j) = actB x hs w (part 2 j) := by
  unfold outsAt0
  frame_out
  rw [h0, h1, h2]
  simp only [load_after]
  exact v_part x hs w j

omit h2 in
theorem hist_out (i : Fin 3) (j : Fin 1536) : (outsAt0 m c t).2.2.2 (ix3 0 i j)
    = if i = 0 then hs (ix3 0 1 j) else if i = 1 then hs (ix3 0 2 j) else x (ix3 0 0 j) := by
  unfold outsAt0
  frame_out
  rw [h0, h1]
  simp only [load_after]
  rw [← held_hist hs x 1 6 rfl, ← held_hist hs x 2 7 rfl, ← held_new hs x]
  pointwise [k0_pay1]
  show held hs x (ix2 _ j) = _
  match i with
  | 0 =>
    rw [if_pos rfl]
    exact congrArg (fun r => held hs x (ix2 r j)) (Fin.ext rfl)
  | 1 =>
    rw [if_neg (by decide), if_pos rfl]
    exact congrArg (fun r => held hs x (ix2 r j)) (Fin.ext rfl)
  | 2 =>
    rw [if_neg (by decide), if_neg (by decide)]
    exact congrArg (fun r => held hs x (ix2 r j)) (Fin.ext rfl)
end

/-! ## The arrays after the run -/

theorem blk0 (c : Dev nD) (t : Fin cfg0.N) : X0_0 m c t = (fun y => entry (m ((c : Thread nD τ).loc main_arg0)) (grid0.coords t 0) (y 2) : Vec Ideal S1x1x1536 .f32) := by
  have e : ∀ t : Fin cfg0.N, win0_0.index t = ![(grid0.coords t 0).val, 0, 1] := (by decide +kernel : ∀ t : Fin grid0.N, _)
  funext y
  unfold X0_0 Pipeline.Window.fill
  rw [dif_pos (moved0_0 t y)]
  blk_simp [iblk]
  rw [V_main_arg0]
  exact congrArg _ (by blk_ext [e])
theorem blk1 (c : Dev nD) (t : Fin cfg0.N) : iblk m c 1 t = (fun y => m ((c : Thread nD τ).loc main_arg1) (ix3 (grid0.coords t 0) (y 1) (y 2)) : Vec Ideal S1x3x1536 .f32) := by
  have e : ∀ t : Fin cfg0.N, win0_1.index t = ![(grid0.coords t 0).val, 0, 0] := (by decide +kernel : ∀ t : Fin grid0.N, _)
  funext y
  blk_simp [iblk]
  rw [V_main_arg1]
  exact congrArg _ (by blk_ext [e])
theorem blk2 (c : Dev nD) (t : Fin cfg0.N) : iblk m c 2 t = (fun y => m ((c : Thread nD τ).loc main_arg2) y : Vec Ideal S4x1536 .f32) := by
  have e : ∀ t : Fin cfg0.N, win0_2.index t = ![0, 0] := (by decide +kernel : ∀ t : Fin grid0.N, _)
  funext y
  blk_simp [iblk]
  rw [V_main_arg2]
  exact congrArg _ (by blk_ext [e])

theorem final0 (c : Dev nD) : (dats m 0 c).arrAt 3 cfg0.N = qArr (m ((c : Thread nD τ).loc main_arg0)) (m ((c : Thread nD τ).loc main_arg1)) (m ((c : Thread nD τ).loc main_arg2)) := by
  have e : ∀ t : Fin cfg0.N, win0_3.index t = ![(grid0.coords t 0).val, 0, 0] := (by decide +kernel : ∀ t : Fin grid0.N, _)
  refine (dats m 0 c).arrAt_eq_of_covers 3 _ (by decide +kernel) fun t hf y => ?_
  blk_simp
  rw [after0_3]
  have key (j : Fin 512) (y : S32x1x512.Idx) (hy : y = ix3 (grid0.coords t 0) 0 j) : (outsAt0 m c t).1 (ix3 0 0 j) = qArr (m ((c : Thread nD τ).loc main_arg0)) (m ((c : Thread nD τ).loc main_arg1)) (m ((c : Thread nD τ).loc main_arg2)) y := by
    subst hy
    rw [q_out m c t _ _ _ (blk0 m c t) (blk1 m c t) (blk2 m c t) j]
    rfl
  obtain ⟨j, rfl⟩ : ∃ j : Fin 512, y = ix3 0 0 j := ⟨y 2, funext fun a => match a with
    | 0 => Subsingleton.elim (α := Fin 1) _ _
    | 1 => Subsingleton.elim (α := Fin 1) _ _
    | 2 => rfl⟩
  exact key j _ (by blk_ext [e])

theorem final1 (c : Dev nD) : (dats m 0 c).arrAt 4 cfg0.N = kArr (m ((c : Thread nD τ).loc main_arg0)) (m ((c : Thread nD τ).loc main_arg1)) (m ((c : Thread nD τ).loc main_arg2)) := by
  have e : ∀ t : Fin cfg0.N, win0_4.index t = ![(grid0.coords t 0).val, 0, 0] := (by decide +kernel : ∀ t : Fin grid0.N, _)
  refine (dats m 0 c).arrAt_eq_of_covers 4 _ (by decide +kernel) fun t hf y => ?_
  blk_simp
  rw [after0_4]
  have key (j : Fin 512) (y : S32x1x512.Idx) (hy : y = ix3 (grid0.coords t 0) 0 j) : (outsAt0 m c t).2.1 (ix3 0 0 j) = kArr (m ((c : Thread nD τ).loc main_arg0)) (m ((c : Thread nD τ).loc main_arg1)) (m ((c : Thread nD τ).loc main_arg2)) y := by
    subst hy
    rw [k_out m c t _ _ _ (blk0 m c t) (blk1 m c t) (blk2 m c t) j]
    rfl
  obtain ⟨j, rfl⟩ : ∃ j : Fin 512, y = ix3 0 0 j := ⟨y 2, funext fun a => match a with
    | 0 => Subsingleton.elim (α := Fin 1) _ _
    | 1 => Subsingleton.elim (α := Fin 1) _ _
    | 2 => rfl⟩
  exact key j _ (by blk_ext [e])

theorem final2 (c : Dev nD) : (dats m 0 c).arrAt 5 cfg0.N = vArr (m ((c : Thread nD τ).loc main_arg0)) (m ((c : Thread nD τ).loc main_arg1)) (m ((c : Thread nD τ).loc main_arg2)) := by
  have e : ∀ t : Fin cfg0.N, win0_5.index t = ![(grid0.coords t 0).val, 0, 0] := (by decide +kernel : ∀ t : Fin grid0.N, _)
  refine (dats m 0 c).arrAt_eq_of_covers 5 _ (by decide +kernel) fun t hf y => ?_
  blk_simp
  rw [after0_5]
  have key (j : Fin 512) (y : S32x1x512.Idx) (hy : y = ix3 (grid0.coords t 0) 0 j) : (outsAt0 m c t).2.2.1 (ix3 0 0 j) = vArr (m ((c : Thread nD τ).loc main_arg0)) (m ((c : Thread nD τ).loc main_arg1)) (m ((c : Thread nD τ).loc main_arg2)) y := by
    subst hy
    rw [v_out m c t _ _ _ (blk0 m c t) (blk1 m c t) (blk2 m c t) j]
    rfl
  obtain ⟨j, rfl⟩ : ∃ j : Fin 512, y = ix3 0 0 j := ⟨y 2, funext fun a => match a with
    | 0 => Subsingleton.elim (α := Fin 1) _ _
    | 1 => Subsingleton.elim (α := Fin 1) _ _
    | 2 => rfl⟩
  exact key j _ (by blk_ext [e])

theorem final3 (c : Dev nD) : (dats m 0 c).arrAt 6 cfg0.N = histArr (m ((c : Thread nD τ).loc main_arg0)) (m ((c : Thread nD τ).loc main_arg1)) := by
  have e : ∀ t : Fin cfg0.N, win0_6.index t = ![(grid0.coords t 0).val, 0, 0] := (by decide +kernel : ∀ t : Fin grid0.N, _)
  refine (dats m 0 c).arrAt_eq_of_covers 6 _ (by decide +kernel) fun t hf y => ?_
  blk_simp
  rw [after0_6]
  have key (i : Fin 3) (j : Fin 1536) (y : S32x3x1536.Idx) (hy : y = ix3 (grid0.coords t 0) i j) : (outsAt0 m c t).2.2.2 (ix3 0 i j) = histArr (m ((c : Thread nD τ).loc main_arg0)) (m ((c : Thread nD τ).loc main_arg1)) y := by
    subst hy
    rw [hist_out m c t _ _ (blk0 m c t) (blk1 m c t) i j]
    rfl
  obtain ⟨i, j, rfl⟩ : ∃ (i : Fin 3) (j : Fin 1536), y = ix3 0 i j := ⟨y 1, y 2, funext fun a => match a with
    | 0 => Subsingleton.elim (α := Fin 1) _ _
    | 1 => rfl
    | 2 => rfl⟩
  exact key i j _ (by blk_ext [e])

end Cert.GdnPreStepIdeal.Conv

namespace Cert.GdnPreStepAlgebra

open Idealize.ShloMosaic Idealize.ShloMosaic.TcCoe Idealize.SL.Sem
open Cert.GdnPreStepRefIdeal Cert.GdnPreStepRefIdeal.Gen Cert.GdnPreStepRefIdeal.Read
open Cert.GdnPreStepIdeal.Conv (qArr kArr vArr histArr act actAt unit part entry)
open Cert.GdnStepIdeal.Step (hd cl)
open Cert.GdnStepRefIdeal.Step (col)

/-! ## The reference -/

section
variable (z : FVec Ideal S32x1x10240 .f32) (hs : FVec Ideal S32x3x1536 .f32) (w : FVec Ideal S4x1536 .f32)

/-- The taps' sum at a column, -/
theorem ref_sum (b : Fin 32) (j : Fin 1536) : val_main_v28 (F := Ideal) z hs w (ix3 b 0 j)
    = w (ix2 0 j) * hs (ix3 b 0 j) + w (ix2 1 j) * hs (ix3 b 1 j) + w (ix2 2 j) * hs (ix3 b 2 j) + w (ix2 3 j) * entry z b j := by
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, entry]
/-- and its activation. -/
theorem ref_act (b : Fin 32) (j : Fin 1536) : val_main_v29 (F := Ideal) z hs w (ix3 b 0 j) = actAt z hs w b j := by
  pointwise [val_main_v29, val_main_call0_v5, val_main_call0_v4, val_main_call0_v3, val_main_call0_v2, val_main_call0_v1,
    val_main_call0_v0, val_main_call0_cst, val_main_call0_cst_0, actAt, act, Ideal.logistic, ref_sum]

/-- One head's query and key. -/
theorem ref_q (b : Fin 32) (h : Fin 4) (d : Fin 128) : val_main_v41 (F := Ideal) z hs w (ix4 b 0 h d)
    = unit (fun i => actAt z hs w b (part 0 (col h i))) d * Ideal.ofBits .f32 0x3DB504F3#32 := by
  simp only [← ref_act]
  pointwise [val_main_v41, val_main_v40, val_main_v39, val_main_v38, val_main_v37, val_main_v36, val_main_v35, val_main_v34, val_main_v33, val_main_v32, val_main_v31, val_main_v30, val_main_cst, val_main_cst_0, val_main_cst_1, unit, part, col]
theorem ref_k (b : Fin 32) (h : Fin 4) (d : Fin 128) : val_main_v51 (F := Ideal) z hs w (ix4 b 0 h d)
    = unit (fun i => actAt z hs w b (part 1 (col h i))) d := by
  simp only [← ref_act]
  pointwise [val_main_v51, val_main_v50, val_main_v49, val_main_v48, val_main_v47, val_main_v46, val_main_v45, val_main_v44, val_main_v43, val_main_v42, val_main_cst_2, val_main_cst_3, unit, part, col]

theorem row_idx (y : S32x1x512.Idx) : ∃ (b : Fin 32) (j : Fin 512), y = ix3 b 0 j := ⟨y 0, y 2, funext fun a => match a with
  | 0 => rfl
  | 1 => Subsingleton.elim (α := Fin 1) _ _
  | 2 => rfl⟩

/-- The four results. -/
theorem ref_q_all : val_main_v52 (F := Ideal) z hs w = qArr z hs w := by
  funext y
  obtain ⟨b, j, rfl⟩ := row_idx y
  refine Eq.trans ?_ (ref_q z hs w b (hd j) (cl j))
  pointwise [val_main_v52, hd, cl]
theorem ref_k_all : val_main_v53 (F := Ideal) z hs w = kArr z hs w := by
  funext y
  obtain ⟨b, j, rfl⟩ := row_idx y
  refine Eq.trans ?_ (ref_k z hs w b (hd j) (cl j))
  pointwise [val_main_v53, hd, cl]
theorem ref_v_all : val_main_v54 (F := Ideal) z hs w = vArr z hs w := by
  funext y
  obtain ⟨b, j, rfl⟩ := row_idx y
  refine Eq.trans ?_ (ref_act z hs w b (part 2 j))
  pointwise [val_main_v54, part]
theorem ref_line (b : Fin 32) (n : Fin 3) (j : Fin 1536) : val_main_v55 (F := Ideal) z hs (ix3 b n j) = histArr z hs (ix3 b n j) := by
  show _ = if n = 0 then hs (ix3 b 1 j) else if n = 1 then hs (ix3 b 2 j) else entry z b j
  match n with
  | 0 => pointwise [val_main_v55, val_main_v1, val_main_v0, entry]
  | 1 => pointwise [val_main_v55, val_main_v1, val_main_v0, entry]
  | 2 => pointwise [val_main_v55, val_main_v1, val_main_v0, entry]
theorem ref_hist : val_main_v55 (F := Ideal) z hs = histArr z hs := by
  funext y
  obtain ⟨b, n, j, rfl⟩ : ∃ (b : Fin 32) (n : Fin 3) (j : Fin 1536), y = ix3 b n j := ⟨y 0, y 1, y 2, funext fun a => match a with
    | 0 => rfl
    | 1 => rfl
    | 2 => rfl⟩
  exact ref_line z hs b n j
end

/-- Result 0, from the kernel's own argument arrays. -/
def result0 (m : (ℓ : Loc Cert.GdnPreStepIdeal.nD Cert.GdnPreStepIdeal.τ Cert.GdnPreStepIdeal.sig) → Buf (Elt Ideal) ℓ) (c : Dev Cert.GdnPreStepIdeal.nD) :
    Buf (Elt Ideal) ((c.tc : Thread Cert.GdnPreStepIdeal.nD Cert.GdnPreStepIdeal.τ).loc Cert.GdnPreStepIdeal.main_v0_0) :=
  qArr (m ((c.tc : Thread Cert.GdnPreStepIdeal.nD Cert.GdnPreStepIdeal.τ).loc Cert.GdnPreStepIdeal.main_arg0)) (m ((c.tc : Thread Cert.GdnPreStepIdeal.nD Cert.GdnPreStepIdeal.τ).loc Cert.GdnPreStepIdeal.main_arg1)) (m ((c.tc : Thread Cert.GdnPreStepIdeal.nD Cert.GdnPreStepIdeal.τ).loc Cert.GdnPreStepIdeal.main_arg2))

/-- The kernel's array is this. -/
theorem kernel0 (m : (ℓ : Loc Cert.GdnPreStepIdeal.nD Cert.GdnPreStepIdeal.τ Cert.GdnPreStepIdeal.sig) → Buf (Elt Ideal) ℓ) (c : Dev Cert.GdnPreStepIdeal.nD) :
    (Cert.GdnPreStepIdeal.Gen.dats m 0 c).arrAt 3 Cert.GdnPreStepIdeal.cfg0.N = result0 m c := Cert.GdnPreStepIdeal.Conv.final0 m c

/-- So is the reference's, from memories that agree on the arguments. -/
theorem agree0 (m : (ℓ : Loc Cert.GdnPreStepIdeal.nD Cert.GdnPreStepIdeal.τ Cert.GdnPreStepIdeal.sig) → Buf (Elt Ideal) ℓ) (m' : (ℓ : Loc nD τ sig) → Buf (Elt Ideal) ℓ) (c : Dev nD)
    (e0 : m' ((c.tc : Thread Cert.GdnPreStepRefIdeal.nD Cert.GdnPreStepRefIdeal.τ).loc Cert.GdnPreStepRefIdeal.main_arg0) = m ((c.tc : Thread Cert.GdnPreStepIdeal.nD Cert.GdnPreStepIdeal.τ).loc Cert.GdnPreStepIdeal.main_arg0))
    (e1 : m' ((c.tc : Thread Cert.GdnPreStepRefIdeal.nD Cert.GdnPreStepRefIdeal.τ).loc Cert.GdnPreStepRefIdeal.main_arg1) = m ((c.tc : Thread Cert.GdnPreStepIdeal.nD Cert.GdnPreStepIdeal.τ).loc Cert.GdnPreStepIdeal.main_arg1))
    (e2 : m' ((c.tc : Thread Cert.GdnPreStepRefIdeal.nD Cert.GdnPreStepRefIdeal.τ).loc Cert.GdnPreStepRefIdeal.main_arg2) = m ((c.tc : Thread Cert.GdnPreStepIdeal.nD Cert.GdnPreStepIdeal.τ).loc Cert.GdnPreStepIdeal.main_arg2)) :
    val_main_v52 (F := Ideal) (m' ((c.tc : Thread nD τ).loc main_arg0)) (m' ((c.tc : Thread nD τ).loc main_arg1)) (m' ((c.tc : Thread nD τ).loc main_arg2)) = result0 m c := by
  rw [ref_q_all, e0, e1, e2]
  rfl

/-- Result 1, from the kernel's own argument arrays. -/
def result1 (m : (ℓ : Loc Cert.GdnPreStepIdeal.nD Cert.GdnPreStepIdeal.τ Cert.GdnPreStepIdeal.sig) → Buf (Elt Ideal) ℓ) (c : Dev Cert.GdnPreStepIdeal.nD) :
    Buf (Elt Ideal) ((c.tc : Thread Cert.GdnPreStepIdeal.nD Cert.GdnPreStepIdeal.τ).loc Cert.GdnPreStepIdeal.main_v0_1) :=
  kArr (m ((c.tc : Thread Cert.GdnPreStepIdeal.nD Cert.GdnPreStepIdeal.τ).loc Cert.GdnPreStepIdeal.main_arg0)) (m ((c.tc : Thread Cert.GdnPreStepIdeal.nD Cert.GdnPreStepIdeal.τ).loc Cert.GdnPreStepIdeal.main_arg1)) (m ((c.tc : Thread Cert.GdnPreStepIdeal.nD Cert.GdnPreStepIdeal.τ).loc Cert.GdnPreStepIdeal.main_arg2))

/-- The kernel's array is this. -/
theorem kernel1 (m : (ℓ : Loc Cert.GdnPreStepIdeal.nD Cert.GdnPreStepIdeal.τ Cert.GdnPreStepIdeal.sig) → Buf (Elt Ideal) ℓ) (c : Dev Cert.GdnPreStepIdeal.nD) :
    (Cert.GdnPreStepIdeal.Gen.dats m 0 c).arrAt 4 Cert.GdnPreStepIdeal.cfg0.N = result1 m c := Cert.GdnPreStepIdeal.Conv.final1 m c

/-- So is the reference's, from memories that agree on the arguments. -/
theorem agree1 (m : (ℓ : Loc Cert.GdnPreStepIdeal.nD Cert.GdnPreStepIdeal.τ Cert.GdnPreStepIdeal.sig) → Buf (Elt Ideal) ℓ) (m' : (ℓ : Loc nD τ sig) → Buf (Elt Ideal) ℓ) (c : Dev nD)
    (e0 : m' ((c.tc : Thread Cert.GdnPreStepRefIdeal.nD Cert.GdnPreStepRefIdeal.τ).loc Cert.GdnPreStepRefIdeal.main_arg0) = m ((c.tc : Thread Cert.GdnPreStepIdeal.nD Cert.GdnPreStepIdeal.τ).loc Cert.GdnPreStepIdeal.main_arg0))
    (e1 : m' ((c.tc : Thread Cert.GdnPreStepRefIdeal.nD Cert.GdnPreStepRefIdeal.τ).loc Cert.GdnPreStepRefIdeal.main_arg1) = m ((c.tc : Thread Cert.GdnPreStepIdeal.nD Cert.GdnPreStepIdeal.τ).loc Cert.GdnPreStepIdeal.main_arg1))
    (e2 : m' ((c.tc : Thread Cert.GdnPreStepRefIdeal.nD Cert.GdnPreStepRefIdeal.τ).loc Cert.GdnPreStepRefIdeal.main_arg2) = m ((c.tc : Thread Cert.GdnPreStepIdeal.nD Cert.GdnPreStepIdeal.τ).loc Cert.GdnPreStepIdeal.main_arg2)) :
    val_main_v53 (F := Ideal) (m' ((c.tc : Thread nD τ).loc main_arg0)) (m' ((c.tc : Thread nD τ).loc main_arg1)) (m' ((c.tc : Thread nD τ).loc main_arg2)) = result1 m c := by
  rw [ref_k_all, e0, e1, e2]
  rfl

/-- Result 2, from the kernel's own argument arrays. -/
def result2 (m : (ℓ : Loc Cert.GdnPreStepIdeal.nD Cert.GdnPreStepIdeal.τ Cert.GdnPreStepIdeal.sig) → Buf (Elt Ideal) ℓ) (c : Dev Cert.GdnPreStepIdeal.nD) :
    Buf (Elt Ideal) ((c.tc : Thread Cert.GdnPreStepIdeal.nD Cert.GdnPreStepIdeal.τ).loc Cert.GdnPreStepIdeal.main_v0_2) :=
  vArr (m ((c.tc : Thread Cert.GdnPreStepIdeal.nD Cert.GdnPreStepIdeal.τ).loc Cert.GdnPreStepIdeal.main_arg0)) (m ((c.tc : Thread Cert.GdnPreStepIdeal.nD Cert.GdnPreStepIdeal.τ).loc Cert.GdnPreStepIdeal.main_arg1)) (m ((c.tc : Thread Cert.GdnPreStepIdeal.nD Cert.GdnPreStepIdeal.τ).loc Cert.GdnPreStepIdeal.main_arg2))

/-- The kernel's array is this. -/
theorem kernel2 (m : (ℓ : Loc Cert.GdnPreStepIdeal.nD Cert.GdnPreStepIdeal.τ Cert.GdnPreStepIdeal.sig) → Buf (Elt Ideal) ℓ) (c : Dev Cert.GdnPreStepIdeal.nD) :
    (Cert.GdnPreStepIdeal.Gen.dats m 0 c).arrAt 5 Cert.GdnPreStepIdeal.cfg0.N = result2 m c := Cert.GdnPreStepIdeal.Conv.final2 m c

/-- So is the reference's, from memories that agree on the arguments. -/
theorem agree2 (m : (ℓ : Loc Cert.GdnPreStepIdeal.nD Cert.GdnPreStepIdeal.τ Cert.GdnPreStepIdeal.sig) → Buf (Elt Ideal) ℓ) (m' : (ℓ : Loc nD τ sig) → Buf (Elt Ideal) ℓ) (c : Dev nD)
    (e0 : m' ((c.tc : Thread Cert.GdnPreStepRefIdeal.nD Cert.GdnPreStepRefIdeal.τ).loc Cert.GdnPreStepRefIdeal.main_arg0) = m ((c.tc : Thread Cert.GdnPreStepIdeal.nD Cert.GdnPreStepIdeal.τ).loc Cert.GdnPreStepIdeal.main_arg0))
    (e1 : m' ((c.tc : Thread Cert.GdnPreStepRefIdeal.nD Cert.GdnPreStepRefIdeal.τ).loc Cert.GdnPreStepRefIdeal.main_arg1) = m ((c.tc : Thread Cert.GdnPreStepIdeal.nD Cert.GdnPreStepIdeal.τ).loc Cert.GdnPreStepIdeal.main_arg1))
    (e2 : m' ((c.tc : Thread Cert.GdnPreStepRefIdeal.nD Cert.GdnPreStepRefIdeal.τ).loc Cert.GdnPreStepRefIdeal.main_arg2) = m ((c.tc : Thread Cert.GdnPreStepIdeal.nD Cert.GdnPreStepIdeal.τ).loc Cert.GdnPreStepIdeal.main_arg2)) :
    val_main_v54 (F := Ideal) (m' ((c.tc : Thread nD τ).loc main_arg0)) (m' ((c.tc : Thread nD τ).loc main_arg1)) (m' ((c.tc : Thread nD τ).loc main_arg2)) = result2 m c := by
  rw [ref_v_all, e0, e1, e2]
  rfl

/-- Result 3, from the kernel's own argument arrays. -/
def result3 (m : (ℓ : Loc Cert.GdnPreStepIdeal.nD Cert.GdnPreStepIdeal.τ Cert.GdnPreStepIdeal.sig) → Buf (Elt Ideal) ℓ) (c : Dev Cert.GdnPreStepIdeal.nD) :
    Buf (Elt Ideal) ((c.tc : Thread Cert.GdnPreStepIdeal.nD Cert.GdnPreStepIdeal.τ).loc Cert.GdnPreStepIdeal.main_v0_3) :=
  histArr (m ((c.tc : Thread Cert.GdnPreStepIdeal.nD Cert.GdnPreStepIdeal.τ).loc Cert.GdnPreStepIdeal.main_arg0)) (m ((c.tc : Thread Cert.GdnPreStepIdeal.nD Cert.GdnPreStepIdeal.τ).loc Cert.GdnPreStepIdeal.main_arg1))

/-- The kernel's array is this. -/
theorem kernel3 (m : (ℓ : Loc Cert.GdnPreStepIdeal.nD Cert.GdnPreStepIdeal.τ Cert.GdnPreStepIdeal.sig) → Buf (Elt Ideal) ℓ) (c : Dev Cert.GdnPreStepIdeal.nD) :
    (Cert.GdnPreStepIdeal.Gen.dats m 0 c).arrAt 6 Cert.GdnPreStepIdeal.cfg0.N = result3 m c := Cert.GdnPreStepIdeal.Conv.final3 m c

/-- So is the reference's, from memories that agree on the arguments. -/
theorem agree3 (m : (ℓ : Loc Cert.GdnPreStepIdeal.nD Cert.GdnPreStepIdeal.τ Cert.GdnPreStepIdeal.sig) → Buf (Elt Ideal) ℓ) (m' : (ℓ : Loc nD τ sig) → Buf (Elt Ideal) ℓ) (c : Dev nD)
    (e0 : m' ((c.tc : Thread Cert.GdnPreStepRefIdeal.nD Cert.GdnPreStepRefIdeal.τ).loc Cert.GdnPreStepRefIdeal.main_arg0) = m ((c.tc : Thread Cert.GdnPreStepIdeal.nD Cert.GdnPreStepIdeal.τ).loc Cert.GdnPreStepIdeal.main_arg0))
    (e1 : m' ((c.tc : Thread Cert.GdnPreStepRefIdeal.nD Cert.GdnPreStepRefIdeal.τ).loc Cert.GdnPreStepRefIdeal.main_arg1) = m ((c.tc : Thread Cert.GdnPreStepIdeal.nD Cert.GdnPreStepIdeal.τ).loc Cert.GdnPreStepIdeal.main_arg1))
    (e2 : m' ((c.tc : Thread Cert.GdnPreStepRefIdeal.nD Cert.GdnPreStepRefIdeal.τ).loc Cert.GdnPreStepRefIdeal.main_arg2) = m ((c.tc : Thread Cert.GdnPreStepIdeal.nD Cert.GdnPreStepIdeal.τ).loc Cert.GdnPreStepIdeal.main_arg2)) :
    val_main_v55 (F := Ideal) (m' ((c.tc : Thread nD τ).loc main_arg0)) (m' ((c.tc : Thread nD τ).loc main_arg1)) = result3 m c := by
  rw [ref_hist, e0, e1]
  rfl

end Cert.GdnPreStepAlgebra

end
-- ==== Proof.lean ====
module

public import proofs.«01_k».proof.Defs
public import proofs.«01_k».proof.Proof.GdnAlgebra
public import proofs.«01_k».proof.Proof.Gen.GdnStep.Frame
public import proofs.«01_k».proof.Proof.InProjValue
public import proofs.«01_k».proof.Proof.InProjRun
public import proofs.«01_k».proof.Proof.MemKvValue
public import proofs.«01_k».proof.Proof.Gen.MemKv.Frame
public import proofs.«01_k».proof.Proof.MergeValue
public import proofs.«01_k».proof.Proof.Gen.Merge.Frame
public import proofs.«01_k».proof.Proof.CrossValue
public import proofs.«01_k».proof.Proof.Gen.Cross.Frame
public import proofs.«01_k».proof.Proof.FfnValue
public import proofs.«01_k».proof.Proof.FfnRun
public import proofs.«01_k».proof.Proof.FinalValue
public import proofs.«01_k».proof.Proof.Gen.FinalNorm.Frame
public import proofs.«01_k».proof.Proof.SconvValue
public import proofs.«01_k».proof.Proof.Gen.SconvStep.Frame
public import proofs.«01_k».proof.Proof.GdnPreValue
public import proofs.«01_k».proof.Proof.Gen.GdnPreStep.Frame
public import Idealize.ShloMosaic.Lib.Quiescent

@[expose] public section

set_option maxRecDepth 16384

noncomputable section

namespace Cert.Proof

open Idealize.ShloMosaic Idealize.ShloMosaic.TcCoe Idealize.SL.Sem

/-! ## GdnStep -/

theorem frame_GdnStep : Cert.quiescent_GdnStep (hGdnStep := Cert.GdnStep.Gen.facts) := fun m ρ _ => Cert.GdnStep.Gen.frame m ρ

theorem frame_GdnStepIdeal : Cert.quiescent_GdnStepIdeal (hGdnStepIdeal := Cert.GdnStepIdeal.Gen.facts) := fun m ρ _ => Cert.GdnStepIdeal.Gen.frame m ρ

theorem frame_GdnStepRefIdeal : Cert.quiescent_GdnStepRefIdeal (hGdnStepRefIdeal := Cert.GdnStepRefIdeal.Gen.facts) := fun m ρ _ =>
  (θ_run Cert.GdnStepRefIdeal.defs _ _).mono (fun r h => ⟨fun c => (h c).2.2, sem_eq_zero_of_no_sems (by decide) r.2⟩)
    (Cert.GdnStepRefIdeal.Value.run (F := Ideal) m ρ)

theorem algebraic_GdnStep : Cert.algebraic_GdnStepIdeal_GdnStepRefIdeal (hGdnStepIdeal := Cert.GdnStepIdeal.Gen.facts) (hGdnStepRefIdeal := Cert.GdnStepRefIdeal.Gen.facts) := by
  intro m ρ m' ρ' _ hagree
  refine ⟨Cert.GdnStepAlgebra.result0 m, Cert.GdnStepAlgebra.result1 m,
    (θ_run Cert.GdnStepIdeal.defs _ _).mono (fun _ h c => ⟨(h c).1.trans (Cert.GdnStepAlgebra.kernel0 m c), (h c).2.1.trans (Cert.GdnStepAlgebra.kernel1 m c), (h c).2.2⟩) (Cert.GdnStepIdeal.Value.run_blocks (F := Ideal) m ρ),
    (θ_run Cert.GdnStepRefIdeal.defs _ _).mono (fun _ h c => ?_) (Cert.GdnStepRefIdeal.Value.run (F := Ideal) m' ρ')⟩
  obtain ⟨e0, e1, e2, e3, e4, e5, e6⟩ := hagree c
  exact ⟨(h c).1.trans (Cert.GdnStepAlgebra.agree0 m m' c e0 e1 e2 e3 e4 e5 e6), (h c).2.1.trans (Cert.GdnStepAlgebra.agree1 m m' c e0 e1 e2 e3 e4 e5 e6), (h c).2.2⟩

/-! ## InProj -/

theorem frame_InProj : Cert.quiescent_InProj (hInProj := Cert.InProj.Gen.facts) := fun m ρ _ => Cert.InProj.Proj.frame m ρ

theorem frame_InProjIdeal : Cert.quiescent_InProjIdeal (hInProjIdeal := Cert.InProjIdeal.Gen.facts) := fun m ρ _ => Cert.InProjIdeal.Proj.frame m ρ

theorem frame_InProjRefIdeal : Cert.quiescent_InProjRefIdeal (hInProjRefIdeal := Cert.InProjRefIdeal.Gen.facts) := fun m ρ _ =>
  (θ_run Cert.InProjRefIdeal.defs _ _).mono (fun r h => ⟨fun c => (h c).2.2, sem_eq_zero_of_no_sems (by decide) r.2⟩)
    (Cert.InProjRefIdeal.Value.run (F := Ideal) m ρ)

theorem algebraic_InProj : Cert.algebraic_InProjIdeal_InProjRefIdeal (hInProjIdeal := Cert.InProjIdeal.Gen.facts) (hInProjRefIdeal := Cert.InProjRefIdeal.Gen.facts) := by
  intro m ρ m' ρ' _ hagree
  refine ⟨Cert.InProjAlgebra.result0 m, Cert.InProjAlgebra.result1 m,
    (θ_run Cert.InProjIdeal.defs _ _).mono (fun _ h c => ⟨(h c).1.trans (Cert.InProjAlgebra.kernel0 m c), (h c).2.1.trans (Cert.InProjAlgebra.kernel1 m c), (h c).2.2⟩) (Cert.InProjIdeal.Proj.run_named (F := Ideal) m ρ),
    (θ_run Cert.InProjRefIdeal.defs _ _).mono (fun _ h c => ?_) (Cert.InProjRefIdeal.Value.run (F := Ideal) m' ρ')⟩
  obtain ⟨e0, e1, e2⟩ := hagree c
  exact ⟨(h c).1.trans (Cert.InProjAlgebra.agree0 m m' c e0 e1 e2), (h c).2.1.trans (Cert.InProjAlgebra.agree1 m m' c e0 e1 e2), (h c).2.2⟩

/-! ## MemKv -/

theorem frame_MemKv : Cert.quiescent_MemKv (hMemKv := Cert.MemKv.Gen.facts) := fun m ρ _ => Cert.MemKv.Gen.frame m ρ

theorem frame_MemKvIdeal : Cert.quiescent_MemKvIdeal (hMemKvIdeal := Cert.MemKvIdeal.Gen.facts) := fun m ρ _ => Cert.MemKvIdeal.Gen.frame m ρ

theorem frame_MemKvRefIdeal : Cert.quiescent_MemKvRefIdeal (hMemKvRefIdeal := Cert.MemKvRefIdeal.Gen.facts) := fun m ρ _ =>
  (θ_run Cert.MemKvRefIdeal.defs _ _).mono (fun r h => ⟨fun c => (h c).2, sem_eq_zero_of_no_sems (by decide) r.2⟩)
    (Cert.MemKvRefIdeal.Value.run (F := Ideal) m ρ)

theorem algebraic_MemKv : Cert.algebraic_MemKvIdeal_MemKvRefIdeal (hMemKvIdeal := Cert.MemKvIdeal.Gen.facts) (hMemKvRefIdeal := Cert.MemKvRefIdeal.Gen.facts) := by
  intro m ρ m' ρ' _ hagree
  refine ⟨Cert.MemKvAlgebra.result0 m,
    (θ_run Cert.MemKvIdeal.defs _ _).mono (fun _ h c => ⟨(h c).1.trans (Cert.MemKvAlgebra.kernel0 m c), (h c).2⟩) (Cert.MemKvIdeal.Value.run_blocks (F := Ideal) m ρ),
    (θ_run Cert.MemKvRefIdeal.defs _ _).mono (fun _ h c => ?_) (Cert.MemKvRefIdeal.Value.run (F := Ideal) m' ρ')⟩
  obtain ⟨e0, e1, e2⟩ := hagree c
  exact ⟨(h c).1.trans (Cert.MemKvAlgebra.agree0 m m' c e0 e1 e2), (h c).2⟩

/-! ## Merge -/

theorem frame_Merge : Cert.quiescent_Merge (hMerge := Cert.Merge.Gen.facts) := fun m ρ _ => Cert.Merge.Gen.frame m ρ

theorem frame_MergeIdeal : Cert.quiescent_MergeIdeal (hMergeIdeal := Cert.MergeIdeal.Gen.facts) := fun m ρ _ => Cert.MergeIdeal.Gen.frame m ρ

theorem frame_MergeRefIdeal : Cert.quiescent_MergeRefIdeal (hMergeRefIdeal := Cert.MergeRefIdeal.Gen.facts) := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem algebraic_Merge : Cert.algebraic_MergeIdeal_MergeRefIdeal (hMergeIdeal := Cert.MergeIdeal.Gen.facts) (hMergeRefIdeal := Cert.MergeRefIdeal.Gen.facts) := by
  intro m ρ m' ρ' _ hagree
  refine ⟨Cert.MergeAlgebra.result0 m,
    (θ_run Cert.MergeIdeal.defs _ _).mono (fun _ h c => ⟨(h c).1.trans (Cert.MergeAlgebra.kernel0 m c), (h c).2⟩) (Cert.MergeIdeal.Value.run_blocks (F := Ideal) m ρ),
    (θ_run Cert.MergeRefIdeal.defs _ _).mono (fun _ h c => ?_) (Cert.MergeRefIdeal.Value.run (F := Ideal) m' ρ')⟩
  obtain ⟨e0, e1, e2, e3, e4, e5, e6, e7⟩ := hagree c
  exact ⟨(h c).1.trans (Cert.MergeAlgebra.agree0 m m' c e0 e1 e2 e3 e4 e5 e6 e7), (h c).2⟩

/-! ## Cross -/

theorem frame_Cross : Cert.quiescent_Cross (hCross := Cert.Cross.Gen.facts) := fun m ρ _ => Cert.Cross.Gen.frame m ρ

theorem frame_CrossIdeal : Cert.quiescent_CrossIdeal (hCrossIdeal := Cert.CrossIdeal.Gen.facts) := fun m ρ _ => Cert.CrossIdeal.Gen.frame m ρ

theorem frame_CrossRefIdeal : Cert.quiescent_CrossRefIdeal (hCrossRefIdeal := Cert.CrossRefIdeal.Gen.facts) := fun m ρ _ =>
  (θ_run Cert.CrossRefIdeal.defs _ _).mono (fun r h => ⟨fun c => (h c).2, sem_eq_zero_of_no_sems (by decide) r.2⟩)
    (Cert.CrossRefIdeal.Value.run (F := Ideal) m ρ)

theorem algebraic_Cross : Cert.algebraic_CrossIdeal_CrossRefIdeal (hCrossIdeal := Cert.CrossIdeal.Gen.facts) (hCrossRefIdeal := Cert.CrossRefIdeal.Gen.facts) := by
  intro m ρ m' ρ' _ hagree
  refine ⟨Cert.CrossAlgebra.result0 m,
    (θ_run Cert.CrossIdeal.defs _ _).mono (fun _ h c => ⟨(h c).1.trans (Cert.CrossAlgebra.kernel0 m c), (h c).2⟩) (Cert.CrossIdeal.Value.run_blocks (F := Ideal) m ρ),
    (θ_run Cert.CrossRefIdeal.defs _ _).mono (fun _ h c => ?_) (Cert.CrossRefIdeal.Value.run (F := Ideal) m' ρ')⟩
  obtain ⟨e0, e1, e2, e3, e4⟩ := hagree c
  exact ⟨(h c).1.trans (Cert.CrossAlgebra.agree0 m m' c e0 e1 e2 e3 e4), (h c).2⟩

/-! ## Ffn -/

theorem frame_Ffn : Cert.quiescent_Ffn (hFfn := Cert.Ffn.Gen.facts) := fun m ρ _ => Cert.Ffn.Conv.frame m ρ

theorem frame_FfnIdeal : Cert.quiescent_FfnIdeal (hFfnIdeal := Cert.FfnIdeal.Gen.facts) := fun m ρ _ => Cert.FfnIdeal.Conv.frame m ρ

theorem frame_FfnRefIdeal : Cert.quiescent_FfnRefIdeal (hFfnRefIdeal := Cert.FfnRefIdeal.Gen.facts) := fun m ρ _ =>
  (θ_run Cert.FfnRefIdeal.defs _ _).mono (fun r h => ⟨fun c => (h c).2.2, sem_eq_zero_of_no_sems (by decide) r.2⟩)
    (Cert.FfnRefIdeal.Value.run (F := Ideal) m ρ)

theorem algebraic_Ffn : Cert.algebraic_FfnIdeal_FfnRefIdeal (hFfnIdeal := Cert.FfnIdeal.Gen.facts) (hFfnRefIdeal := Cert.FfnRefIdeal.Gen.facts) := by
  intro m ρ m' ρ' _ hagree
  refine ⟨Cert.FfnAlgebra.result0 m, Cert.FfnAlgebra.result1 m,
    (θ_run Cert.FfnIdeal.defs _ _).mono (fun _ h c => ⟨(h c).1.trans (Cert.FfnAlgebra.kernel0 m c), (h c).2.1.trans (Cert.FfnAlgebra.kernel1 m c), (h c).2.2⟩) (Cert.FfnIdeal.Conv.run_named (F := Ideal) m ρ),
    (θ_run Cert.FfnRefIdeal.defs _ _).mono (fun _ h c => ?_) (Cert.FfnRefIdeal.Value.run (F := Ideal) m' ρ')⟩
  obtain ⟨e0, e1, e2, e3, e4⟩ := hagree c
  exact ⟨(h c).1.trans (Cert.FfnAlgebra.agree0 m m' c e0 e1 e2 e3 e4), (h c).2.1.trans (Cert.FfnAlgebra.agree1 m m' c e0 e1 e2 e3 e4), (h c).2.2⟩

/-! ## FinalNorm -/

theorem frame_FinalNorm : Cert.quiescent_FinalNorm (hFinalNorm := Cert.FinalNorm.Gen.facts) := fun m ρ _ => Cert.FinalNorm.Gen.frame m ρ

theorem frame_FinalNormIdeal : Cert.quiescent_FinalNormIdeal (hFinalNormIdeal := Cert.FinalNormIdeal.Gen.facts) := fun m ρ _ => Cert.FinalNormIdeal.Gen.frame m ρ

theorem frame_FinalNormRefIdeal : Cert.quiescent_FinalNormRefIdeal (hFinalNormRefIdeal := Cert.FinalNormRefIdeal.Gen.facts) := fun m ρ _ =>
  (θ_run Cert.FinalNormRefIdeal.defs _ _).mono (fun r h => ⟨fun c => (h c).2, sem_eq_zero_of_no_sems (by decide) r.2⟩)
    (Cert.FinalNormRefIdeal.Value.run (F := Ideal) m ρ)

theorem algebraic_FinalNorm : Cert.algebraic_FinalNormIdeal_FinalNormRefIdeal (hFinalNormIdeal := Cert.FinalNormIdeal.Gen.facts) (hFinalNormRefIdeal := Cert.FinalNormRefIdeal.Gen.facts) := by
  intro m ρ m' ρ' _ hagree
  refine ⟨Cert.FinalNormAlgebra.result0 m,
    (θ_run Cert.FinalNormIdeal.defs _ _).mono (fun _ h c => ⟨(h c).1.trans (Cert.FinalNormAlgebra.kernel0 m c), (h c).2⟩) (Cert.FinalNormIdeal.Value.run_blocks (F := Ideal) m ρ),
    (θ_run Cert.FinalNormRefIdeal.defs _ _).mono (fun _ h c => ?_) (Cert.FinalNormRefIdeal.Value.run (F := Ideal) m' ρ')⟩
  obtain ⟨e0, e1⟩ := hagree c
  exact ⟨(h c).1.trans (Cert.FinalNormAlgebra.agree0 m m' c e0 e1), (h c).2⟩

/-! ## SconvStep -/

theorem frame_SconvStep : Cert.quiescent_SconvStep (hSconvStep := Cert.SconvStep.Gen.facts) := fun m ρ _ => Cert.SconvStep.Gen.frame m ρ

theorem frame_SconvStepIdeal : Cert.quiescent_SconvStepIdeal (hSconvStepIdeal := Cert.SconvStepIdeal.Gen.facts) := fun m ρ _ => Cert.SconvStepIdeal.Gen.frame m ρ

theorem frame_SconvStepRefIdeal : Cert.quiescent_SconvStepRefIdeal (hSconvStepRefIdeal := Cert.SconvStepRefIdeal.Gen.facts) := fun m ρ _ =>
  (θ_run Cert.SconvStepRefIdeal.defs _ _).mono (fun r h => ⟨fun c => (h c).2.2, sem_eq_zero_of_no_sems (by decide) r.2⟩)
    (Cert.SconvStepRefIdeal.Value.run (F := Ideal) m ρ)

theorem algebraic_SconvStep : Cert.algebraic_SconvStepIdeal_SconvStepRefIdeal (hSconvStepIdeal := Cert.SconvStepIdeal.Gen.facts) (hSconvStepRefIdeal := Cert.SconvStepRefIdeal.Gen.facts) := by
  intro m ρ m' ρ' _ hagree
  refine ⟨Cert.SconvStepAlgebra.result0 m, Cert.SconvStepAlgebra.result1 m,
    (θ_run Cert.SconvStepIdeal.defs _ _).mono (fun _ h c => ⟨(h c).1.trans (Cert.SconvStepAlgebra.kernel0 m c), (h c).2.1.trans (Cert.SconvStepAlgebra.kernel1 m c), (h c).2.2⟩) (Cert.SconvStepIdeal.Value.run_blocks (F := Ideal) m ρ),
    (θ_run Cert.SconvStepRefIdeal.defs _ _).mono (fun _ h c => ?_) (Cert.SconvStepRefIdeal.Value.run (F := Ideal) m' ρ')⟩
  obtain ⟨e0, e1, e2⟩ := hagree c
  exact ⟨(h c).1.trans (Cert.SconvStepAlgebra.agree0 m m' c e0 e1 e2), (h c).2.1.trans (Cert.SconvStepAlgebra.agree1 m m' c e0 e1 e2), (h c).2.2⟩

/-! ## GdnPreStep -/

theorem frame_GdnPreStep : Cert.quiescent_GdnPreStep (hGdnPreStep := Cert.GdnPreStep.Gen.facts) := fun m ρ _ => Cert.GdnPreStep.Gen.frame m ρ

theorem frame_GdnPreStepIdeal : Cert.quiescent_GdnPreStepIdeal (hGdnPreStepIdeal := Cert.GdnPreStepIdeal.Gen.facts) := fun m ρ _ => Cert.GdnPreStepIdeal.Gen.frame m ρ

theorem frame_GdnPreStepRefIdeal : Cert.quiescent_GdnPreStepRefIdeal (hGdnPreStepRefIdeal := Cert.GdnPreStepRefIdeal.Gen.facts) := fun m ρ _ =>
  (θ_run Cert.GdnPreStepRefIdeal.defs _ _).mono (fun r h => ⟨fun c => (h c).2.2.2.2, sem_eq_zero_of_no_sems (by decide) r.2⟩)
    (Cert.GdnPreStepRefIdeal.Value.run (F := Ideal) m ρ)

theorem algebraic_GdnPreStep : Cert.algebraic_GdnPreStepIdeal_GdnPreStepRefIdeal (hGdnPreStepIdeal := Cert.GdnPreStepIdeal.Gen.facts) (hGdnPreStepRefIdeal := Cert.GdnPreStepRefIdeal.Gen.facts) := by
  intro m ρ m' ρ' _ hagree
  refine ⟨Cert.GdnPreStepAlgebra.result0 m, Cert.GdnPreStepAlgebra.result1 m, Cert.GdnPreStepAlgebra.result2 m, Cert.GdnPreStepAlgebra.result3 m,
    (θ_run Cert.GdnPreStepIdeal.defs _ _).mono (fun _ h c => ⟨(h c).1.trans (Cert.GdnPreStepAlgebra.kernel0 m c), (h c).2.1.trans (Cert.GdnPreStepAlgebra.kernel1 m c), (h c).2.2.1.trans (Cert.GdnPreStepAlgebra.kernel2 m c), (h c).2.2.2.1.trans (Cert.GdnPreStepAlgebra.kernel3 m c), (h c).2.2.2.2⟩) (Cert.GdnPreStepIdeal.Value.run_blocks (F := Ideal) m ρ),
    (θ_run Cert.GdnPreStepRefIdeal.defs _ _).mono (fun _ h c => ?_) (Cert.GdnPreStepRefIdeal.Value.run (F := Ideal) m' ρ')⟩
  obtain ⟨e0, e1, e2⟩ := hagree c
  exact ⟨(h c).1.trans (Cert.GdnPreStepAlgebra.agree0 m m' c e0 e1 e2), (h c).2.1.trans (Cert.GdnPreStepAlgebra.agree1 m m' c e0 e1 e2), (h c).2.2.1.trans (Cert.GdnPreStepAlgebra.agree2 m m' c e0 e1 e2), (h c).2.2.2.1.trans (Cert.GdnPreStepAlgebra.agree3 m m' c e0 e1 e2), (h c).2.2.2.2⟩

theorem claim : Cert.Claim := ⟨Cert.GdnStep.Gen.facts, Cert.GdnStepIdeal.Gen.facts, Cert.GdnStepRefIdeal.Gen.facts, Cert.InProj.Gen.facts, Cert.InProjIdeal.Gen.facts, Cert.InProjRefIdeal.Gen.facts, Cert.MemKv.Gen.facts, Cert.MemKvIdeal.Gen.facts, Cert.MemKvRefIdeal.Gen.facts, Cert.Merge.Gen.facts, Cert.MergeIdeal.Gen.facts, Cert.MergeRefIdeal.Gen.facts, Cert.Cross.Gen.facts, Cert.CrossIdeal.Gen.facts, Cert.CrossRefIdeal.Gen.facts, Cert.Ffn.Gen.facts, Cert.FfnIdeal.Gen.facts, Cert.FfnRefIdeal.Gen.facts, Cert.FinalNorm.Gen.facts, Cert.FinalNormIdeal.Gen.facts, Cert.FinalNormRefIdeal.Gen.facts, Cert.SconvStep.Gen.facts, Cert.SconvStepIdeal.Gen.facts, Cert.SconvStepRefIdeal.Gen.facts, Cert.GdnPreStep.Gen.facts, Cert.GdnPreStepIdeal.Gen.facts, Cert.GdnPreStepRefIdeal.Gen.facts,
  frame_GdnStep, frame_GdnStepIdeal, frame_GdnStepRefIdeal, frame_InProj, frame_InProjIdeal, frame_InProjRefIdeal, frame_MemKv, frame_MemKvIdeal, frame_MemKvRefIdeal, frame_Merge, frame_MergeIdeal, frame_MergeRefIdeal, frame_Cross, frame_CrossIdeal, frame_CrossRefIdeal, frame_Ffn, frame_FfnIdeal, frame_FfnRefIdeal, frame_FinalNorm, frame_FinalNormIdeal, frame_FinalNormRefIdeal, frame_SconvStep, frame_SconvStepIdeal, frame_SconvStepRefIdeal, frame_GdnPreStep, frame_GdnPreStepIdeal, frame_GdnPreStepRefIdeal, trivial, algebraic_GdnStep, trivial, algebraic_InProj, trivial, algebraic_MemKv, trivial, algebraic_Merge, trivial, algebraic_Cross, trivial, algebraic_Ffn, trivial, algebraic_FinalNorm, trivial, algebraic_SconvStep, trivial, algebraic_GdnPreStep⟩

end Cert.Proof

end
